-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_ffn : Cert.Pre_finite_ffn.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
-- ==== Pre_finite_ffn.lean ====
abbrev S73728x1024 : Shape := ⟨2, ![73728, 1024]⟩
abbrev S40x9x1024 : Shape := ⟨3, ![40, 9, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S73728x1024 : S_.BroadcastsInDim S73728x1024 (![] : Fin 0 → Fin S73728x1024.rank)
  reducesTo_S73728x1024_S_d0_1 : S73728x1024.ReducesTo [0, 1] S_
  h_S_ : 0 < S_.numel
  bcast_S_S40x9x1024 : S_.BroadcastsInDim S40x9x1024 (![] : Fin 0 → Fin S40x9x1024.rank)
  reducesTo_S40x9x1024_S_d0_1_2 : S40x9x1024.ReducesTo [0, 1, 2] S_
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S73728x1024 .f32) (main_arg1 : FVec F S40x9x1024 .f32) (main_arg2 : FVec F S1024x2816 .f32) (main_arg3 : FVec F S1024x2816 .f32) (main_arg4 : FVec F S2816x1024 .f32) (main_arg5 : FVec F S1024 .f32) (main_arg6 : FVec F S1024 .f32) : IVec S_ 1 :=
  let main_v0 : FVec F S73728x1024 .f32 := Host.absf main_arg0
  let main_cst : FVec F S_ .f32 := constant S_ .f32 0x7F800000#32
  let main_v1 : FVec F S73728x1024 .f32 := broadcastInDim S73728x1024 ![] bcast_S_S73728x1024 main_cst
  let main_v2 : IVec S73728x1024 1 := cmpf .olt main_v0 main_v1
  let main_c : IVec S_ 1 := constantI S_ 1 1#1
  let main_v3 : IVec S_ 1 := (fun x v => Host.reduce IntOp.andi x v reducesTo_S73728x1024_S_d0_1 h_S_) main_v2 main_c
  let main_v4 : FVec F S40x9x1024 .f32 := Host.absf main_arg1
  let main_cst_0 : FVec F S_ .f32 := constant S_ .f32 0x7F800000#32
  let main_v5 : FVec F S40x9x1024 .f32 := broadcastInDim S40x9x1024 ![] bcast_S_S40x9x1024 main_cst_0
  let main_v6 : IVec S40x9x1024 1 := cmpf .olt main_v4 main_v5
  let main_c_1 : IVec S_ 1 := constantI S_ 1 1#1
  let main_v7 : IVec S_ 1 := (fun x v => Host.reduce IntOp.andi x v reducesTo_S40x9x1024_S_d0_1_2 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : IVec S_ 1 := andi main_v3 main_v7
  let main_v13 : IVec S_ 1 := andi main_v12 main_v11
  main_v13
-- ==== Pre_finite_scores.lean ====
abbrev S73728x384 : Shape := ⟨2, ![73728, 384]⟩
abbrev S73728x128 : Shape := ⟨2, ![73728, 128]⟩
abbrev S_ : Shape := ⟨0, ![]⟩

class Facts : Prop where
  bitsLt_bf16_f32 : FTy.bits .bf16 < FTy.bits .f32
  bcast_S_S73728x384 : S_.BroadcastsInDim S73728x384 (![] : Fin 0 → Fin S73728x384.rank)
  reducesTo_S73728x384_S_d0_1 : S73728x384.ReducesTo [0, 1] S_
  h_S_ : 0 < S_.numel
  bcast_S_S73728x128 : S_.BroadcastsInDim S73728x128 (![] : Fin 0 → Fin S73728x128.rank)
  reducesTo_S73728x128_S_d0_1 : S73728x128.ReducesTo [0, 1] S_

variable [Facts]

def fn {F : FTy → Type} [FloatOps F] (main_arg0 : FVec F S73728x384 .bf16) (main_arg1 : FVec F S73728x128 .bf16) (main_arg2 : FVec F S73728x128 .bf16) : IVec S_ 1 :=
  let main_v0 : FVec F S73728x384 .f32 := (extf .f32 · bitsLt_bf16_f32) main_arg0
  let main_v1 : FVec F S73728x384 .f32 := Host.absf main_v0
  let main_cst : FVec F S_ .f32 := constant S_ .f32 0x7F800000#32
  let main_v2 : FVec F S73728x384 .f32 := broadcastInDim S73728x384 ![] bcast_S_S73728x384 main_cst
  let main_v3 : IVec S73728x384 1 := cmpf .olt main_v1 main_v2
  let main_c : IVec S_ 1 := constantI S_ 1 1#1
  let main_v4 : IVec S_ 1 := (fun x v => Host.reduce IntOp.andi x v reducesTo_S73728x384_S_d0_1 h_S_) main_v3 main_c
  let main_v5 : FVec F S73728x128 .f32 := (extf .f32 · bitsLt_bf16_f32) main_arg1
  let main_v6 : FVec F S73728x128 .f32 := Host.absf main_v5
  let main_cst_0 : FVec F S_ .f32 := constant S_ .f32 0x7F800000#32
  let main_v7 : FVec F S73728x128 .f32 := broadcastInDim S73728x128 ![] bcast_S_S73728x128 main_cst_0
  let main_v8 : IVec S73728x128 1 := cmpf .olt main_v6 main_v7
  let main_c_1 : IVec S_ 1 := constantI S_ 1 1#1
  let main_v9 : IVec S_ 1 := (fun x v => Host.reduce IntOp.andi x v reducesTo_S73728x128_S_d0_1 h_S_) main_v8 main_c_1
  let main_v10 : IVec S_ 1 := andi main_v4 main_v9
  main_v10
-- ==== Kernel.lean ====
abbrev S73728x384 : Shape := ⟨2, ![73728, 384]⟩
abbrev S73728x128 : Shape := ⟨2, ![73728, 128]⟩
abbrev S256x384 : Shape := ⟨2, ![256, 384]⟩
abbrev S2304x128 : Shape := ⟨2, ![2304, 128]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x2304 : Shape := ⟨2, ![256, 2304]⟩

abbrev nBuf : Space → Nat
  | .hbm => 4
  | .vmem => 8
  | .smem => 0
  | _ => 0

abbrev bufTy : (tb : Table) → Fin (tcTables nBuf tb) → BufTy
  | .hbm, ⟨0, _⟩ => ⟨S73728x384, .bf16⟩
  | .hbm, ⟨1, _⟩ => ⟨S73728x128, .bf16⟩
  | .hbm, ⟨2, _⟩ => ⟨S73728x128, .bf16⟩
  | .hbm, ⟨3, _⟩ => ⟨S73728x384, .bf16⟩
  | .local _ .vmem, ⟨0, _⟩ => ⟨S256x384, .bf16⟩
  | .local _ .vmem, ⟨1, _⟩ => ⟨S256x384, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x384, .bf16⟩
  | .local _ .vmem, ⟨7, _⟩ => ⟨S256x384, .bf16⟩
  | _, _ => ⟨S73728x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 9], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c1_i32 : BitVec 32 := 1#32
  let v0 : BitVec 1 := Scalar.cmpi .slt arg1 c1_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S73728x384 : Shape := ⟨2, ![73728, 384]⟩
abbrev S73728x128 : Shape := ⟨2, ![73728, 128]⟩
abbrev S32x2304x3x2x64 : Shape := ⟨5, ![32, 2304, 3, 2, 64]⟩
abbrev S32x2304x2x3x64 : Shape := ⟨5, ![32, 2304, 2, 3, 64]⟩
abbrev S32x2304x2x64 : Shape := ⟨4, ![32, 2304, 2, 64]⟩
abbrev S32x256x2x3x64 : Shape := ⟨5, ![32, 256, 2, 3, 64]⟩
abbrev S32x256x2x64 : Shape := ⟨4, ![32, 256, 2, 64]⟩
abbrev S32x2x256x256x3 : Shape := ⟨5, ![32, 2, 256, 256, 3]⟩
abbrev S32x2x3x256x256 : Shape := ⟨5, ![32, 2, 3, 256, 256]⟩
abbrev S_ : Shape := ⟨0, ![]⟩
abbrev S32x2x3x256 : Shape := ⟨4, ![32, 2, 3, 256]⟩
abbrev S32x2x3x256x1 : Shape := ⟨5, ![32, 2, 3, 256, 1]⟩
abbrev S32x2x64x3x256 : Shape := ⟨5, ![32, 2, 64, 3, 256]⟩
abbrev S32x2048x2x3x64 : Shape := ⟨5, ![32, 2048, 2, 3, 64]⟩
abbrev S32x2x2304x2048x3 : Shape := ⟨5, ![32, 2, 2304, 2048, 3]⟩
abbrev S32x2x3x2048x2304 : Shape := ⟨5, ![32, 2, 3, 2048, 2304]⟩
abbrev S32x2x3x2048 : Shape := ⟨4, ![32, 2, 3, 2048]⟩
abbrev S32x2x3x2048x1 : Shape := ⟨5, ![32, 2, 3, 2048, 1]⟩
abbrev S32x2x64x3x2048 : Shape := ⟨5, ![32, 2, 64, 3, 2048]⟩

abbrev nBuf : Space → Nat
  | .hbm => 54
  | .vmem => 0
  | .smem => 0
  | _ => 0

abbrev bufTy : (tb : Table) → Fin (tcTables nBuf tb) → BufTy
  | .hbm, ⟨0, _⟩ => ⟨S73728x384, .bf16⟩
  | .hbm, ⟨1, _⟩ => ⟨S73728x128, .bf16⟩
  | .hbm, ⟨2, _⟩ => ⟨S73728x128, .bf16⟩
  | .hbm, ⟨3, _⟩ => ⟨S73728x384, .f32⟩
  | .hbm, ⟨4, _⟩ => ⟨S32x2304x3x2x64, .f32⟩
  | .hbm, ⟨5, _⟩ => ⟨S32x2304x2x3x64, .f32⟩
  | .hbm, ⟨6, _⟩ => ⟨S73728x128, .f32⟩
  | .hbm, ⟨7, _⟩ => ⟨S32x2304x2x64, .f32⟩
  | .hbm, ⟨8, _⟩ => ⟨S73728x128, .f32⟩
  | .hbm, ⟨9, _⟩ => ⟨S32x2304x2x64, .f32⟩
  | .hbm, ⟨10, _⟩ => ⟨S32x256x2x3x64, .f32⟩
  | .hbm, ⟨11, _⟩ => ⟨S32x256x2x64, .f32⟩
  | .hbm, ⟨12, _⟩ => ⟨S32x256x2x64, .f32⟩
  | .hbm, ⟨13, _⟩ => ⟨S32x2x256x256x3, .f32⟩
  | .hbm, ⟨14, _⟩ => ⟨S32x2x3x256x256, .f32⟩
  | .hbm, ⟨15, _⟩ => ⟨S_, .f32⟩
  | .hbm, ⟨16, _⟩ => ⟨S32x2x3x256, .f32⟩
  | .hbm, ⟨17, _⟩ => ⟨S_, .f32⟩
  | .hbm, ⟨18, _⟩ => ⟨S32x2x3x256, .f32⟩
  | .hbm, ⟨19, _⟩ => ⟨S32x2x3x256, .f32⟩
  | .hbm, ⟨20, _⟩ => ⟨S32x2x3x256x1, .f32⟩
  | .hbm, ⟨21, _⟩ => ⟨S32x2x3x256x256, .f32⟩
  | .hbm, ⟨22, _⟩ => ⟨S32x2x3x256x256, .f32⟩
  | .hbm, ⟨23, _⟩ => ⟨S32x2x3x256x256, .f32⟩
  | .hbm, ⟨24, _⟩ => ⟨S_, .f32⟩
  | .hbm, ⟨25, _⟩ => ⟨S32x2x3x256, .f32⟩
  | .hbm, ⟨26, _⟩ => ⟨S32x2x3x256x1, .f32⟩
  | .hbm, ⟨27, _⟩ => ⟨S32x2x3x256x256, .f32⟩
  | .hbm, ⟨28, _⟩ => ⟨S32x2x3x256x256, .f32⟩
  | .hbm, ⟨29, _⟩ => ⟨S32x2x64x3x256, .f32⟩
  | .hbm, ⟨30, _⟩ => ⟨S32x256x2x3x64, .f32⟩
  | .hbm, ⟨31, _⟩ => ⟨S32x2048x2x3x64, .f32⟩
  | .hbm, ⟨32, _⟩ => ⟨S32x2x2304x2048x3, .f32⟩
  | .hbm, ⟨33, _⟩ => ⟨S32x2x3x2048x2304, .f32⟩
  | .hbm, ⟨34, _⟩ => ⟨S_, .f32⟩
  | .hbm, ⟨35, _⟩ => ⟨S32x2x3x2048, .f32⟩
  | .hbm, ⟨36, _⟩ => ⟨S_, .f32⟩
  | .hbm, ⟨37, _⟩ => ⟨S32x2x3x2048, .f32⟩
  | .hbm, ⟨38, _⟩ => ⟨S32x2x3x2048, .f32⟩
  | .hbm, ⟨39, _⟩ => ⟨S32x2x3x2048x1, .f32⟩
  | .hbm, ⟨40, _⟩ => ⟨S32x2x3x2048x2304, .f32⟩
  | .hbm, ⟨41, _⟩ => ⟨S32x2x3x2048x2304, .f32⟩
  | .hbm, ⟨42, _⟩ => ⟨S32x2x3x2048x2304, .f32⟩
  | .hbm, ⟨43, _⟩ => ⟨S_, .f32⟩
  | .hbm, ⟨44, _⟩ => ⟨S32x2x3x2048, .f32⟩
  | .hbm, ⟨45, _⟩ => ⟨S32x2x3x2048x1, .f32⟩
  | .hbm, ⟨46, _⟩ => ⟨S32x2x3x2048x2304, .f32⟩
  | .hbm, ⟨47, _⟩ => ⟨S32x2x3x2048x2304, .f32⟩
  | .hbm, ⟨48, _⟩ => ⟨S32x2x64x3x2048, .f32⟩
  | .hbm, ⟨49, _⟩ => ⟨S32x2048x2x3x64, .f32⟩
  | .hbm, ⟨50, _⟩ => ⟨S32x2304x2x3x64, .f32⟩
  | .hbm, ⟨51, _⟩ => ⟨S32x2304x3x2x64, .f32⟩
  | .hbm, ⟨52, _⟩ => ⟨S73728x384, .f32⟩
  | .hbm, ⟨53, _⟩ => ⟨S73728x384, .bf16⟩
  | _, _ => ⟨S73728x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Kernel2.lean ====
abbrev S73728x1024 : Shape := ⟨2, ![73728, 1024]⟩
abbrev S40x9x1024 : Shape := ⟨3, ![40, 9, 1024]⟩
abbrev S1024x2816 : Shape := ⟨2, ![1024, 2816]⟩
abbrev S2816x1024 : Shape := ⟨2, ![2816, 1024]⟩
abbrev S1024 : Shape := ⟨1, ![1024]⟩
abbrev S1024x11x256 : Shape := ⟨3, ![1024, 11, 256]⟩
abbrev S1024x11x512 : Shape := ⟨3, ![1024, 11, 512]⟩
abbrev S11x1024x512 : Shape := ⟨3, ![11, 1024, 512]⟩
abbrev S_ : Shape := ⟨0, ![]⟩
abbrev S12x1024x512 : Shape := ⟨3, ![12, 1024, 512]⟩
abbrev S11x256x1024 : Shape := ⟨3, ![11, 256, 1024]⟩
abbrev S12x256x1024 : Shape := ⟨3, ![12, 256, 1024]⟩
abbrev S1x1024 : Shape := ⟨2, ![1, 1024]⟩
abbrev S768x1024 : Shape := ⟨2, ![768, 1024]⟩
abbrev S1x9x1024 : Shape := ⟨3, ![1, 9, 1024]⟩
abbrev S6x1024x512 : Shape := ⟨3, ![6, 1024, 512]⟩
abbrev S6x256x1024 : Shape := ⟨3, ![6, 256, 1024]⟩
abbrev S2x768x1024 : Shape := ⟨3, ![2, 768, 1024]⟩
abbrev S768x1 : Shape := ⟨2, ![768, 1]⟩
abbrev S32x1 : Shape := ⟨2, ![32, 1]⟩
abbrev S1x1x1024 : Shape := ⟨3, ![1, 1, 1024]⟩
abbrev S32x1024 : Shape := ⟨2, ![32, 1024]⟩
abbrev S1x32x1024 : Shape := ⟨3, ![1, 32, 1024]⟩
abbrev S32 : Shape := ⟨1, ![32]⟩
abbrev S1x768x1024 : Shape := ⟨3, ![1, 768, 1024]⟩
abbrev S1x1024x512 : Shape := ⟨3, ![1, 1024, 512]⟩
abbrev S1024x512 : Shape := ⟨2, ![1024, 512]⟩
abbrev S768x512 : Shape := ⟨2, ![768, 512]⟩
abbrev S768x256 : Shape := ⟨2, ![768, 256]⟩
abbrev S1x256x1024 : Shape := ⟨3, ![1, 256, 1024]⟩
abbrev S256x1024 : Shape := ⟨2, ![256, 1024]⟩

abbrev nBuf : Space → Nat
  | .hbm => 24
  | .vmem => 18
  | .smem => 0
  | _ => 0

abbrev bufTy : (tb : Table) → Fin (tcTables nBuf tb) → BufTy
  | .hbm, ⟨0, _⟩ => ⟨S73728x1024, .f32⟩
  | .hbm, ⟨1, _⟩ => ⟨S40x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x11x256, .bf16⟩
  | .hbm, ⟨9, _⟩ => ⟨S1024x2816, .bf16⟩
  | .hbm, ⟨10, _⟩ => ⟨S1024x11x256, .bf16⟩
  | .hbm, ⟨11, _⟩ => ⟨S1024x11x512, .bf16⟩
  | .hbm, ⟨12, _⟩ => ⟨S11x1024x512, .bf16⟩
  | .hbm, ⟨13, _⟩ => ⟨S_, .i32⟩
  | .hbm, ⟨14, _⟩ => ⟨S_, .bf16⟩
  | .hbm, ⟨15, _⟩ => ⟨S12x1024x512, .bf16⟩
  | .hbm, ⟨16, _⟩ => ⟨S2816x1024, .bf16⟩
  | .hbm, ⟨17, _⟩ => ⟨S11x256x1024, .bf16⟩
  | .hbm, ⟨18, _⟩ => ⟨S_, .i32⟩
  | .hbm, ⟨19, _⟩ => ⟨S_, .bf16⟩
  | .hbm, ⟨20, _⟩ => ⟨S12x256x1024, .bf16⟩
  | .hbm, ⟨21, _⟩ => ⟨S1x1024, .f32⟩
  | .hbm, ⟨22, _⟩ => ⟨S1x1024, .f32⟩
  | .hbm, ⟨23, _⟩ => ⟨S73728x1024, .f32⟩
  | .local _ .vmem, ⟨0, _⟩ => ⟨S768x1024, .f32⟩
  | .local _ .vmem, ⟨1, _⟩ => ⟨S768x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x9x1024, .f32⟩
  | .local _ .vmem, ⟨7, _⟩ => ⟨S6x1024x512, .bf16⟩
  | .local _ .vmem, ⟨8, _⟩ => ⟨S6x1024x512, .bf16⟩
  | .local _ .vmem, ⟨9, _⟩ => ⟨S6x256x1024, .bf16⟩
  | .local _ .vmem, ⟨10, _⟩ => ⟨S6x256x1024, .bf16⟩
  | .local _ .vmem, ⟨11, _⟩ => ⟨S1x1024, .f32⟩
  | .local _ .vmem, ⟨12, _⟩ => ⟨S1x1024, .f32⟩
  | .local _ .vmem, ⟨13, _⟩ => ⟨S768x1024, .f32⟩
  | .local _ .vmem, ⟨14, _⟩ => ⟨S768x1024, .f32⟩
  | .local _ .vmem, ⟨15, _⟩ => ⟨S768x1024, .bf16⟩
  | .local _ .vmem, ⟨16, _⟩ => ⟨S2x768x1024, .f32⟩
  | .local _ .vmem, ⟨17, _⟩ => ⟨S2x768x1024, .f32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![97, 2], ![false, false]⟩

def k0_cond1 (i : grid0.Coords) : BitVec 1 :=
  let arg1 : BitVec 32 := BitVec.ofNat 32 (i 1).val
  let c0_i32_9 : BitVec 32 := 0#32
  let v28 : BitVec 1 := Scalar.cmpi .eq arg1 c0_i32_9
  let arg0 : BitVec 32 := BitVec.ofNat 32 (i 0).val
  let c96_i32 : BitVec 32 := 96#32
  let v26 : BitVec 1 := Scalar.cmpi .slt arg0 c96_i32
  let v29 : BitVec 1 := Scalar.andi v28 v26
  let c0_i32_8 : BitVec 32 := 0#32
  let v27 : BitVec 1 := Scalar.cmpi .sgt arg0 c0_i32_8
  let v30 : BitVec 1 := Scalar.andi v29 v27
  let v31 : BitVec 32 := Scalar.extui v30
  let c0_i32_10 : BitVec 32 := 0#32
  let v32 : BitVec 1 := Scalar.cmpi .ne v31 c0_i32_10
  v32

def k0_mult1 (i : grid0.Coords) : BitVec 32 :=
  let arg1 : BitVec 32 := BitVec.ofNat 32 (i 1).val
  let c384_i32 : BitVec 32 := 384#32
  let v52 : BitVec 32 := Scalar.muli arg1 c384_i32
  let c0_i32_18 : BitVec 32 := 0#32
  let v53 : BitVec 32 := Scalar.addi v52 c0_i32_18
  v53
def k0_off1 (i : grid0.Coords) (c0_i32_18 : BitVec 32) : Fin 3 → Nat :=
  let c1_i32_33 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_33 v9
  let v86 : Index := Scalar.indexCast v85
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v87 : Index := Scalar.indexCast v54
  let c0_34 : Index := 0#32
  ![v86.toNat, v87.toNat, 0]
def k0_off2 (i : grid0.Coords) (c0_i32_18 : BitVec 32) : Fin 2 → Nat :=
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v125 : Index := Scalar.indexCast v54
  let c0_47 : Index := 0#32
  ![v125.toNat, 0]
def k0_mult2 (i : grid0.Coords) : BitVec 32 :=
  let arg1 : BitVec 32 := BitVec.ofNat 32 (i 1).val
  let c384_i32_48 : BitVec 32 := 384#32
  let v127 : BitVec 32 := Scalar.muli arg1 c384_i32_48
  let c32_i32 : BitVec 32 := 32#32
  let v128 : BitVec 32 := Scalar.addi v127 c32_i32
  v128
def k0_mult3 (i : grid0.Coords) : BitVec 32 :=
  let arg1 : BitVec 32 := BitVec.ofNat 32 (i 1).val
  let c384_i32_81 : BitVec 32 := 384#32
  let v202 : BitVec 32 := Scalar.muli arg1 c384_i32_81
  let c64_i32 : BitVec 32 := 64#32
  let v203 : BitVec 32 := Scalar.addi v202 c64_i32
  v203
def k0_mult4 (i : grid0.Coords) : BitVec 32 :=
  let arg1 : BitVec 32 := BitVec.ofNat 32 (i 1).val
  let c384_i32_114 : BitVec 32 := 384#32
  let v277 : BitVec 32 := Scalar.muli arg1 c384_i32_114
  let c96_i32_115 : BitVec 32 := 96#32
  let v278 : BitVec 32 := Scalar.addi v277 c96_i32_115
  v278
def k0_mult5 (i : grid0.Coords) : BitVec 32 :=
  let arg1 : BitVec 32 := BitVec.ofNat 32 (i 1).val
  let c384_i32_148 : BitVec 32 := 384#32
  let v352 : BitVec 32 := Scalar.muli arg1 c384_i32_148
  let c128_i32 : BitVec 32 := 128#32
  let v353 : BitVec 32 := Scalar.addi v352 c128_i32
  v353
def k0_mult6 (i : grid0.Coords) : BitVec 32 :=
  let arg1 : BitVec 32 := BitVec.ofNat 32 (i 1).val
  let c384_i32_181 : BitVec 32 := 384#32
  let v427 : BitVec 32 := Scalar.muli arg1 c384_i32_181
  let c160_i32 : BitVec 32 := 160#32
  let v428 : BitVec 32 := Scalar.addi v427 c160_i32
  v428
def k0_mult7 (i : grid0.Coords) : BitVec 32 :=
  let arg1 : BitVec 32 := BitVec.ofNat 32 (i 1).val
  let c384_i32_214 : BitVec 32 := 384#32
  let v502 : BitVec 32 := Scalar.muli arg1 c384_i32_214
  let c192_i32 : BitVec 32 := 192#32
  let v503 : BitVec 32 := Scalar.addi v502 c192_i32
  v503
def k0_mult8 (i : grid0.Coords) : BitVec 32 :=
  let arg1 : BitVec 32 := BitVec.ofNat 32 (i 1).val
  let c384_i32_247 : BitVec 32 := 384#32
  let v577 : BitVec 32 := Scalar.muli arg1 c384_i32_247
  let c224_i32 : BitVec 32 := 224#32
  let v578 : BitVec 32 := Scalar.addi v577 c224_i32
  v578
def k0_mult9 (i : grid0.Coords) : BitVec 32 :=
  let arg1 : BitVec 32 := BitVec.ofNat 32 (i 1).val
  let c384_i32_280 : BitVec 32 := 384#32
  let v652 : BitVec 32 := Scalar.muli arg1 c384_i32_280
  let c256_i32_281 : BitVec 32 := 256#32
  let v653 : BitVec 32 := Scalar.addi v652 c256_i32_281
  v653
def k0_mult10 (i : grid0.Coords) : BitVec 32 :=
  let arg1 : BitVec 32 := BitVec.ofNat 32 (i 1).val
  let c384_i32_314 : BitVec 32 := 384#32
  let v727 : BitVec 32 := Scalar.muli arg1 c384_i32_314
  let c288_i32 : BitVec 32 := 288#32
  let v728 : BitVec 32 := Scalar.addi v727 c288_i32
  v728
def k0_mult11 (i : grid0.Coords) : BitVec 32 :=
  let arg1 : BitVec 32 := BitVec.ofNat 32 (i 1).val
  let c384_i32_347 : BitVec 32 := 384#32
  let v802 : BitVec 32 := Scalar.muli arg1 c384_i32_347
  let c320_i32 : BitVec 32 := 320#32
  let v803 : BitVec 32 := Scalar.addi v802 c320_i32
  v803
def k0_mult12 (i : grid0.Coords) : BitVec 32 :=
  let arg1 : BitVec 32 := BitVec.ofNat 32 (i 1).val
  let c384_i32_380 : BitVec 32 := 384#32
  let v877 : BitVec 32 := Scalar.muli arg1 c384_i32_380
  let c352_i32 : BitVec 32 := 352#32
  let v878 : BitVec 32 := Scalar.addi v877 c352_i32
  v878
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v953 : Index := Scalar.indexCast v9
  let c0_415 : Index := 0#32
  let c0_416 : Index := 0#32
  ![v953.toNat, 0, 0]
def k0_cond2 (i : grid0.Coords) : BitVec 1 :=
  let arg1 : BitVec 32 := BitVec.ofNat 32 (i 1).val
  let c0_i32_9 : BitVec 32 := 0#32
  let v28 : BitVec 1 := Scalar.cmpi .eq arg1 c0_i32_9
  let arg0 : BitVec 32 := BitVec.ofNat 32 (i 0).val
  let c96_i32 : BitVec 32 := 96#32
  let v26 : BitVec 1 := Scalar.cmpi .slt arg0 c96_i32
  let v33 : BitVec 1 := Scalar.andi v28 v26
  let c0_i32_8 : BitVec 32 := 0#32
  let v27 : BitVec 1 := Scalar.cmpi .sgt arg0 c0_i32_8
  let v_true : BitVec 1 := 1#1
  let v34 : BitVec 1 := Scalar.xori v27 v_true
  let v35 : BitVec 1 := Scalar.andi v33 v34
  let v36 : BitVec 32 := Scalar.extui v35
  let c0_i32_11 : BitVec 32 := 0#32
  let v37 : BitVec 1 := Scalar.cmpi .ne v36 c0_i32_11
  v37

def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_19 : Index := 0#32
  let c0_20 : Index := 0#32
  ![v53.toNat, 0, 0]
def k0_cond3 (i : grid0.Coords) : BitVec 1 :=
  let arg1 : BitVec 32 := BitVec.ofNat 32 (i 1).val
  let c1_i32_12 : BitVec 32 := 1#32
  let v38 : BitVec 1 := Scalar.cmpi .eq arg1 c1_i32_12
  let arg0 : BitVec 32 := BitVec.ofNat 32 (i 0).val
  let c96_i32 : BitVec 32 := 96#32
  let v26 : BitVec 1 := Scalar.cmpi .slt arg0 c96_i32
  let v39 : BitVec 1 := Scalar.andi v38 v26
  let c0_i32_8 : BitVec 32 := 0#32
  let v27 : BitVec 1 := Scalar.cmpi .sgt arg0 c0_i32_8
  let v40 : BitVec 1 := Scalar.andi v39 v27
  let v41 : BitVec 32 := Scalar.extui v40
  let c0_i32_13 : BitVec 32 := 0#32
  let v42 : BitVec 1 := Scalar.cmpi .ne v41 c0_i32_13
  v42

def k0_mult13 (i : grid0.Coords) : BitVec 32 :=
  let arg1 : BitVec 32 := BitVec.ofNat 32 (i 1).val
  let c384_i32 : BitVec 32 := 384#32
  let v52 : BitVec 32 := Scalar.muli arg1 c384_i32
  let c0_i32_18 : BitVec 32 := 0#32
  let v53 : BitVec 32 := Scalar.addi v52 c0_i32_18
  v53
def k0_off5 (i : grid0.Coords) (c0_i32_18 : BitVec 32) : Fin 3 → Nat :=
  let c1_i32_33 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_33 v9
  let v86 : Index := Scalar.indexCast v85
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v87 : Index := Scalar.indexCast v54
  let c0_34 : Index := 0#32
  ![v86.toNat, v87.toNat, 0]
def k0_off6 (i : grid0.Coords) (c0_i32_18 : BitVec 32) : Fin 2 → Nat :=
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v125 : Index := Scalar.indexCast v54
  let c0_47 : Index := 0#32
  ![v125.toNat, 0]
def k0_mult14 (i : grid0.Coords) : BitVec 32 :=
  let arg1 : BitVec 32 := BitVec.ofNat 32 (i 1).val
  let c384_i32_48 : BitVec 32 := 384#32
  let v127 : BitVec 32 := Scalar.muli arg1 c384_i32_48
  let c32_i32 : BitVec 32 := 32#32
  let v128 : BitVec 32 := Scalar.addi v127 c32_i32
  v128
def k0_mult15 (i : grid0.Coords) : BitVec 32 :=
  let arg1 : BitVec 32 := BitVec.ofNat 32 (i 1).val
  let c384_i32_81 : BitVec 32 := 384#32
  let v202 : BitVec 32 := Scalar.muli arg1 c384_i32_81
  let c64_i32 : BitVec 32 := 64#32
  let v203 : BitVec 32 := Scalar.addi v202 c64_i32
  v203
def k0_mult16 (i : grid0.Coords) : BitVec 32 :=
  let arg1 : BitVec 32 := BitVec.ofNat 32 (i 1).val
  let c384_i32_114 : BitVec 32 := 384#32
  let v277 : BitVec 32 := Scalar.muli arg1 c384_i32_114
  let c96_i32_115 : BitVec 32 := 96#32
  let v278 : BitVec 32 := Scalar.addi v277 c96_i32_115
  v278
def k0_mult17 (i : grid0.Coords) : BitVec 32 :=
  let arg1 : BitVec 32 := BitVec.ofNat 32 (i 1).val
  let c384_i32_148 : BitVec 32 := 384#32
  let v352 : BitVec 32 := Scalar.muli arg1 c384_i32_148
  let c128_i32 : BitVec 32 := 128#32
  let v353 : BitVec 32 := Scalar.addi v352 c128_i32
  v353
def k0_mult18 (i : grid0.Coords) : BitVec 32 :=
  let arg1 : BitVec 32 := BitVec.ofNat 32 (i 1).val
  let c384_i32_181 : BitVec 32 := 384#32
  let v427 : BitVec 32 := Scalar.muli arg1 c384_i32_181
  let c160_i32 : BitVec 32 := 160#32
  let v428 : BitVec 32 := Scalar.addi v427 c160_i32
  v428
def k0_mult19 (i : grid0.Coords) : BitVec 32 :=
  let arg1 : BitVec 32 := BitVec.ofNat 32 (i 1).val
  let c384_i32_214 : BitVec 32 := 384#32
  let v502 : BitVec 32 := Scalar.muli arg1 c384_i32_214
  let c192_i32 : BitVec 32 := 192#32
  let v503 : BitVec 32 := Scalar.addi v502 c192_i32
  v503
def k0_mult20 (i : grid0.Coords) : BitVec 32 :=
  let arg1 : BitVec 32 := BitVec.ofNat 32 (i 1).val
  let c384_i32_247 : BitVec 32 := 384#32
  let v577 : BitVec 32 := Scalar.muli arg1 c384_i32_247
  let c224_i32 : BitVec 32 := 224#32
  let v578 : BitVec 32 := Scalar.addi v577 c224_i32
  v578
def k0_mult21 (i : grid0.Coords) : BitVec 32 :=
  let arg1 : BitVec 32 := BitVec.ofNat 32 (i 1).val
  let c384_i32_280 : BitVec 32 := 384#32
  let v652 : BitVec 32 := Scalar.muli arg1 c384_i32_280
  let c256_i32_281 : BitVec 32 := 256#32
  let v653 : BitVec 32 := Scalar.addi v652 c256_i32_281
  v653
def k0_mult22 (i : grid0.Coords) : BitVec 32 :=
  let arg1 : BitVec 32 := BitVec.ofNat 32 (i 1).val
  let c384_i32_314 : BitVec 32 := 384#32
  let v727 : BitVec 32 := Scalar.muli arg1 c384_i32_314
  let c288_i32 : BitVec 32 := 288#32
  let v728 : BitVec 32 := Scalar.addi v727 c288_i32
  v728
def k0_mult23 (i : grid0.Coords) : BitVec 32 :=
  let arg1 : BitVec 32 := BitVec.ofNat 32 (i 1).val
  let c384_i32_347 : BitVec 32 := 384#32
  let v802 : BitVec 32 := Scalar.muli arg1 c384_i32_347
  let c320_i32 : BitVec 32 := 320#32
  let v803 : BitVec 32 := Scalar.addi v802 c320_i32
  v803
def k0_mult24 (i : grid0.Coords) : BitVec 32 :=
  let arg1 : BitVec 32 := BitVec.ofNat 32 (i 1).val
  let c384_i32_380 : BitVec 32 := 384#32
  let v877 : BitVec 32 := Scalar.muli arg1 c384_i32_380
  let c352_i32 : BitVec 32 := 352#32
  let v878 : BitVec 32 := Scalar.addi v877 c352_i32
  v878
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v968 : Index := Scalar.indexCast v9
  let c0_424 : Index := 0#32
  let c0_425 : Index := 0#32
  ![v968.toNat, 0, 0]
def k0_cond4 (i : grid0.Coords) : BitVec 1 :=
  let arg1 : BitVec 32 := BitVec.ofNat 32 (i 1).val
  let c1_i32_12 : BitVec 32 := 1#32
  let v38 : BitVec 1 := Scalar.cmpi .eq arg1 c1_i32_12
  let arg0 : BitVec 32 := BitVec.ofNat 32 (i 0).val
  let c96_i32 : BitVec 32 := 96#32
  let v26 : BitVec 1 := Scalar.cmpi .slt arg0 c96_i32
  let v43 : BitVec 1 := Scalar.andi v38 v26
  let c0_i32_8 : BitVec 32 := 0#32
  let v27 : BitVec 1 := Scalar.cmpi .sgt arg0 c0_i32_8
  let true_14 : BitVec 1 := 1#1
  let v44 : BitVec 1 := Scalar.xori v27 true_14
  let v45 : BitVec 1 := Scalar.andi v43 v44
  let v46 : BitVec 32 := Scalar.extui v45
  let c0_i32_15 : BitVec 32 := 0#32
  let v47 : BitVec 1 := Scalar.cmpi .ne v46 c0_i32_15
  v47

def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : Index := Scalar.indexCast v9
  let c0_27 : Index := 0#32
  let c0_28 : Index := 0#32
  ![v68.toNat, 0, 0]
def k0_cond5 (i : grid0.Coords) : BitVec 1 :=
  let arg0 : BitVec 32 := BitVec.ofNat 32 (i 0).val
  let c96_i32 : BitVec 32 := 96#32
  let v26 : BitVec 1 := Scalar.cmpi .slt arg0 c96_i32
  let true_16 : BitVec 1 := 1#1
  let v48 : BitVec 1 := Scalar.xori v26 true_16
  let c0_i32_8 : BitVec 32 := 0#32
  let v27 : BitVec 1 := Scalar.cmpi .sgt arg0 c0_i32_8
  let v49 : BitVec 1 := Scalar.andi v48 v27
  let v50 : BitVec 32 := Scalar.extui v49
  let c0_i32_17 : BitVec 32 := 0#32
  let v51 : BitVec 1 := Scalar.cmpi .ne v50 c0_i32_17
  v51

def k0_mult25 (i : grid0.Coords) : BitVec 32 :=
  let arg1 : BitVec 32 := BitVec.ofNat 32 (i 1).val
  let c384_i32 : BitVec 32 := 384#32
  let v52 : BitVec 32 := Scalar.muli arg1 c384_i32
  let c0_i32_18 : BitVec 32 := 0#32
  let v53 : BitVec 32 := Scalar.addi v52 c0_i32_18
  v53
def k0_off9 (i : grid0.Coords) (c0_i32_18 : BitVec 32) : Fin 3 → Nat :=
  let c1_i32_33 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_33 v9
  let v86 : Index := Scalar.indexCast v85
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v87 : Index := Scalar.indexCast v54
  let c0_34 : Index := 0#32
  ![v86.toNat, v87.toNat, 0]
def k0_off10 (i : grid0.Coords) (c0_i32_18 : BitVec 32) : Fin 2 → Nat :=
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v125 : Index := Scalar.indexCast v54
  let c0_47 : Index := 0#32
  ![v125.toNat, 0]
def k0_mult26 (i : grid0.Coords) : BitVec 32 :=
  let arg1 : BitVec 32 := BitVec.ofNat 32 (i 1).val
  let c384_i32_48 : BitVec 32 := 384#32
  let v127 : BitVec 32 := Scalar.muli arg1 c384_i32_48
  let c32_i32 : BitVec 32 := 32#32
  let v128 : BitVec 32 := Scalar.addi v127 c32_i32
  v128
def k0_mult27 (i : grid0.Coords) : BitVec 32 :=
  let arg1 : BitVec 32 := BitVec.ofNat 32 (i 1).val
  let c384_i32_81 : BitVec 32 := 384#32
  let v202 : BitVec 32 := Scalar.muli arg1 c384_i32_81
  let c64_i32 : BitVec 32 := 64#32
  let v203 : BitVec 32 := Scalar.addi v202 c64_i32
  v203
def k0_mult28 (i : grid0.Coords) : BitVec 32 :=
  let arg1 : BitVec 32 := BitVec.ofNat 32 (i 1).val
  let c384_i32_114 : BitVec 32 := 384#32
  let v277 : BitVec 32 := Scalar.muli arg1 c384_i32_114
  let c96_i32_115 : BitVec 32 := 96#32
  let v278 : BitVec 32 := Scalar.addi v277 c96_i32_115
  v278
def k0_mult29 (i : grid0.Coords) : BitVec 32 :=
  let arg1 : BitVec 32 := BitVec.ofNat 32 (i 1).val
  let c384_i32_148 : BitVec 32 := 384#32
  let v352 : BitVec 32 := Scalar.muli arg1 c384_i32_148
  let c128_i32 : BitVec 32 := 128#32
  let v353 : BitVec 32 := Scalar.addi v352 c128_i32
  v353
def k0_mult30 (i : grid0.Coords) : BitVec 32 :=
  let arg1 : BitVec 32 := BitVec.ofNat 32 (i 1).val
  let c384_i32_181 : BitVec 32 := 384#32
  let v427 : BitVec 32 := Scalar.muli arg1 c384_i32_181
  let c160_i32 : BitVec 32 := 160#32
  let v428 : BitVec 32 := Scalar.addi v427 c160_i32
  v428
def k0_mult31 (i : grid0.Coords) : BitVec 32 :=
  let arg1 : BitVec 32 := BitVec.ofNat 32 (i 1).val
  let c384_i32_214 : BitVec 32 := 384#32
  let v502 : BitVec 32 := Scalar.muli arg1 c384_i32_214
  let c192_i32 : BitVec 32 := 192#32
  let v503 : BitVec 32 := Scalar.addi v502 c192_i32
  v503
def k0_mult32 (i : grid0.Coords) : BitVec 32 :=
  let arg1 : BitVec 32 := BitVec.ofNat 32 (i 1).val
  let c384_i32_247 : BitVec 32 := 384#32
  let v577 : BitVec 32 := Scalar.muli arg1 c384_i32_247
  let c224_i32 : BitVec 32 := 224#32
  let v578 : BitVec 32 := Scalar.addi v577 c224_i32
  v578
def k0_mult33 (i : grid0.Coords) : BitVec 32 :=
  let arg1 : BitVec 32 := BitVec.ofNat 32 (i 1).val
  let c384_i32_280 : BitVec 32 := 384#32
  let v652 : BitVec 32 := Scalar.muli arg1 c384_i32_280
  let c256_i32_281 : BitVec 32 := 256#32
  let v653 : BitVec 32 := Scalar.addi v652 c256_i32_281
  v653
def k0_mult34 (i : grid0.Coords) : BitVec 32 :=
  let arg1 : BitVec 32 := BitVec.ofNat 32 (i 1).val
  let c384_i32_314 : BitVec 32 := 384#32
  let v727 : BitVec 32 := Scalar.muli arg1 c384_i32_314
  let c288_i32 : BitVec 32 := 288#32
  let v728 : BitVec 32 := Scalar.addi v727 c288_i32
  v728
def k0_mult35 (i : grid0.Coords) : BitVec 32 :=
  let arg1 : BitVec 32 := BitVec.ofNat 32 (i 1).val
  let c384_i32_347 : BitVec 32 := 384#32
  let v802 : BitVec 32 := Scalar.muli arg1 c384_i32_347
  let c320_i32 : BitVec 32 := 320#32
  let v803 : BitVec 32 := Scalar.addi v802 c320_i32
  v803
def k0_mult36 (i : grid0.Coords) : BitVec 32 :=
  let arg1 : BitVec 32 := BitVec.ofNat 32 (i 1).val
  let c384_i32_380 : BitVec 32 := 384#32
  let v877 : BitVec 32 := Scalar.muli arg1 c384_i32_380
  let c352_i32 : BitVec 32 := 352#32
  let v878 : BitVec 32 := Scalar.addi v877 c352_i32
  v878
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let v1 : BitVec 32 := Scalar.addi arg0 v0
  let c95_i32 : BitVec 32 := 95#32
  let v2 : BitVec 32 := Scalar.minsi v1 c95_i32
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  let c0_i32_1 : BitVec 32 := 0#32
  ![c32_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c95_i32 : BitVec 32 := 95#32
  let v0 : BitVec 32 := Scalar.minsi arg0 c95_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S6x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S6x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S73728x1024 : Shape := ⟨2, ![73728, 1024]⟩
abbrev S40x9x1024 : Shape := ⟨3, ![40, 9, 1024]⟩
abbrev S1024x2816 : Shape := ⟨2, ![1024, 2816]⟩
abbrev S2816x1024 : Shape := ⟨2, ![2816, 1024]⟩
abbrev S1024 : Shape := ⟨1, ![1024]⟩
abbrev S32x2304x1024 : Shape := ⟨3, ![32, 2304, 1024]⟩
abbrev S32x256x1024 : Shape := ⟨3, ![32, 256, 1024]⟩
abbrev S32x2048x1024 : Shape := ⟨3, ![32, 2048, 1024]⟩
abbrev S32x9x1024 : Shape := ⟨3, ![32, 9, 1024]⟩
abbrev S32x9x1x1024 : Shape := ⟨4, ![32, 9, 1, 1024]⟩
abbrev S1x9x1024 : Shape := ⟨3, ![1, 9, 1024]⟩
abbrev S1x9x1x1024 : Shape := ⟨4, ![1, 9, 1, 1024]⟩
abbrev S1x1x1x1024 : Shape := ⟨4, ![1, 1, 1, 1024]⟩
abbrev S1x1x1024 : Shape := ⟨3, ![1, 1, 1024]⟩
abbrev S_ : Shape := ⟨0, ![]⟩
abbrev S32x256x2816 : Shape := ⟨3, ![32, 256, 2816]⟩
abbrev S32x256 : Shape := ⟨2, ![32, 256]⟩
abbrev S32x256x1 : Shape := ⟨3, ![32, 256, 1]⟩
abbrev S32x1x1x1024 : Shape := ⟨4, ![32, 1, 1, 1024]⟩
abbrev S32x1x1024 : Shape := ⟨3, ![32, 1, 1024]⟩
abbrev S32x2048x2816 : Shape := ⟨3, ![32, 2048, 2816]⟩
abbrev S32x2048 : Shape := ⟨2, ![32, 2048]⟩
abbrev S32x2048x1 : Shape := ⟨3, ![32, 2048, 1]⟩

abbrev nBuf : Space → Nat
  | .hbm => 140
  | .vmem => 0
  | .smem => 0
  | _ => 0

abbrev hbmTy0_0 (i : Nat) : BufTy := match i % 128 with
  | 0 => ⟨S73728x1024, .f32⟩
  | 1 => ⟨S40x9x1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S32x2304x1024, .f32⟩
  | 8 => ⟨S32x256x1024, .f32⟩
  | 9 => ⟨S32x2048x1024, .f32⟩
  | 10 => ⟨S32x9x1024, .f32⟩
  | 11 => ⟨S32x9x1x1024, .f32⟩
  | 12 => ⟨S1x9x1024, .f32⟩
  | 13 => ⟨S1x9x1x1024, .f32⟩
  | 14 => ⟨S1x1x1x1024, .f32⟩
  | 15 => ⟨S1x1x1024, .f32⟩
  | 16 => ⟨S_, .f32⟩
  | 17 => ⟨S1x1x1024, .f32⟩
  | 18 => ⟨S1x1x1024, .f32⟩
  | 19 => ⟨S32x256x1024, .f32⟩
  | 20 => ⟨S32x256x1024, .f32⟩
  | 21 => ⟨S1x1x1x1024, .f32⟩
  | 22 => ⟨S1x1x1024, .f32⟩
  | 23 => ⟨S32x256x1024, .f32⟩
  | 24 => ⟨S32x256x1024, .f32⟩
  | 25 => ⟨S32x256x2816, .f32⟩
  | 26 => ⟨S32x256x2816, .f32⟩
  | 27 => ⟨S32x256x2816, .f32⟩
  | 28 => ⟨S_, .f32⟩
  | 29 => ⟨S32x256x2816, .f32⟩
  | 30 => ⟨S32x256x2816, .f32⟩
  | 31 => ⟨S_, .f32⟩
  | 32 => ⟨S32x256x2816, .f32⟩
  | 33 => ⟨S32x256x2816, .f32⟩
  | 34 => ⟨S32x256x2816, .f32⟩
  | 35 => ⟨S32x256x2816, .f32⟩
  | 36 => ⟨S32x256x2816, .f32⟩
  | 37 => ⟨S32x256x1024, .f32⟩
  | 38 => ⟨S1x1x1x1024, .f32⟩
  | 39 => ⟨S1x1x1024, .f32⟩
  | 40 => ⟨S_, .f32⟩
  | 41 => ⟨S32x256x1024, .f32⟩
  | 42 => ⟨S32x256x1024, .f32⟩
  | 43 => ⟨S_, .f32⟩
  | 44 => ⟨S1x1x1024, .f32⟩
  | 45 => ⟨S1x1x1024, .f32⟩
  | 46 => ⟨S32x256x1024, .f32⟩
  | 47 => ⟨S32x256x1024, .f32⟩
  | 48 => ⟨S32x256x1024, .f32⟩
  | 49 => ⟨S_, .f32⟩
  | 50 => ⟨S32x256, .f32⟩
  | 51 => ⟨S32x256x1, .f32⟩
  | 52 => ⟨S_, .f32⟩
  | 53 => ⟨S32x256x1, .f32⟩
  | 54 => ⟨S32x256x1, .f32⟩
  | 55 => ⟨S32x256x1024, .f32⟩
  | 56 => ⟨S32x256x1024, .f32⟩
  | 57 => ⟨S32x256x1024, .f32⟩
  | 58 => ⟨S_, .f32⟩
  | 59 => ⟨S32x256, .f32⟩
  | 60 => ⟨S32x256x1, .f32⟩
  | 61 => ⟨S_, .f32⟩
  | 62 => ⟨S32x256x1, .f32⟩
  | 63 => ⟨S32x256x1, .f32⟩
  | 64 => ⟨S_, .f32⟩
  | 65 => ⟨S32x256x1, .f32⟩
  | 66 => ⟨S32x256x1, .f32⟩
  | 67 => ⟨S32x256x1, .f32⟩
  | 68 => ⟨S32x256x1024, .f32⟩
  | 69 => ⟨S32x256x1024, .f32⟩
  | 70 => ⟨S1x1x1024, .f32⟩
  | 71 => ⟨S32x256x1024, .f32⟩
  | 72 => ⟨S32x256x1024, .f32⟩
  | 73 => ⟨S1x1x1024, .f32⟩
  | 74 => ⟨S32x256x1024, .f32⟩
  | 75 => ⟨S32x256x1024, .f32⟩
  | 76 => ⟨S32x1x1x1024, .f32⟩
  | 77 => ⟨S32x1x1024, .f32⟩
  | 78 => ⟨S_, .f32⟩
  | 79 => ⟨S32x1x1024, .f32⟩
  | 80 => ⟨S32x1x1024, .f32⟩
  | 81 => ⟨S32x2048x1024, .f32⟩
  | 82 => ⟨S32x2048x1024, .f32⟩
  | 83 => ⟨S32x1x1x1024, .f32⟩
  | 84 => ⟨S32x1x1024, .f32⟩
  | 85 => ⟨S32x2048x1024, .f32⟩
  | 86 => ⟨S32x2048x1024, .f32⟩
  | 87 => ⟨S32x2048x2816, .f32⟩
  | 88 => ⟨S32x2048x2816, .f32⟩
  | 89 => ⟨S32x2048x2816, .f32⟩
  | 90 => ⟨S_, .f32⟩
  | 91 => ⟨S32x2048x2816, .f32⟩
  | 92 => ⟨S32x2048x2816, .f32⟩
  | 93 => ⟨S_, .f32⟩
  | 94 => ⟨S32x2048x2816, .f32⟩
  | 95 => ⟨S32x2048x2816, .f32⟩
  | 96 => ⟨S32x2048x2816, .f32⟩
  | 97 => ⟨S32x2048x2816, .f32⟩
  | 98 => ⟨S32x2048x2816, .f32⟩
  | 99 => ⟨S32x2048x1024, .f32⟩
  | 100 => ⟨S32x1x1x1024, .f32⟩
  | 101 => ⟨S32x1x1024, .f32⟩
  | 102 => ⟨S_, .f32⟩
  | 103 => ⟨S32x2048x1024, .f32⟩
  | 104 => ⟨S32x2048x1024, .f32⟩
  | 105 => ⟨S_, .f32⟩
  | 106 => ⟨S32x1x1024, .f32⟩
  | 107 => ⟨S32x1x1024, .f32⟩
  | 108 => ⟨S32x2048x1024, .f32⟩
  | 109 => ⟨S32x2048x1024, .f32⟩
  | 110 => ⟨S32x2048x1024, .f32⟩
  | 111 => ⟨S_, .f32⟩
  | 112 => ⟨S32x2048, .f32⟩
  | 113 => ⟨S32x2048x1, .f32⟩
  | 114 => ⟨S_, .f32⟩
  | 115 => ⟨S32x2048x1, .f32⟩
  | 116 => ⟨S32x2048x1, .f32⟩
  | 117 => ⟨S32x2048x1024, .f32⟩
  | 118 => ⟨S32x2048x1024, .f32⟩
  | 119 => ⟨S32x2048x1024, .f32⟩
  | 120 => ⟨S_, .f32⟩
  | 121 => ⟨S32x2048, .f32⟩
  | 122 => ⟨S32x2048x1, .f32⟩
  | 123 => ⟨S_, .f32⟩
  | 124 => ⟨S32x2048x1, .f32⟩
  | 125 => ⟨S32x2048x1, .f32⟩
  | 126 => ⟨S_, .f32⟩
  | 127 => ⟨S32x2048x1, .f32⟩
  | _ => ⟨S73728x1024, .f32⟩

abbrev hbmTy0_1 (i : Nat) : BufTy := match i % 128 with
  | 0 => ⟨S32x2048x1, .f32⟩
  | 1 => ⟨S32x2048x1, .f32⟩
  | 2 => ⟨S32x2048x1024, .f32⟩
  | 3 => ⟨S32x2048x1024, .f32⟩
  | 4 => ⟨S1x1x1024, .f32⟩
  | 5 => ⟨S32x2048x1024, .f32⟩
  | 6 => ⟨S32x2048x1024, .f32⟩
  | 7 => ⟨S1x1x1024, .f32⟩
  | 8 => ⟨S32x2048x1024, .f32⟩
  | 9 => ⟨S32x2048x1024, .f32⟩
  | 10 => ⟨S32x2304x1024, .f32⟩
  | 11 => ⟨S73728x1024, .f32⟩
  | _ => ⟨S73728x1024, .f32⟩

abbrev hbmTy (i : Nat) : BufTy := match i / 128 with
  | 0 => hbmTy0_0 i
  | 1 => hbmTy0_1 i
  | _ => ⟨S73728x1024, .f32⟩

abbrev bufTy : (tb : Table) → Fin (tcTables nBuf tb) → BufTy
  | .hbm, ⟨i, _⟩ => hbmTy i
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_cst_9 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_cst_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_12 : Ref sig .tc := ⟨.hbm, 120, rfl⟩
abbrev main_v84 : Ref sig .tc := ⟨.hbm, 121, rfl⟩
abbrev main_v85 : Ref sig .tc := ⟨.hbm, 122, rfl⟩
abbrev main_cst_13 : Ref sig .tc := ⟨.hbm, 123, rfl⟩
abbrev main_v86 : Ref sig .tc := ⟨.hbm, 124, rfl⟩
abbrev main_v87 : Ref sig .tc := ⟨.hbm, 125, rfl⟩
abbrev main_cst_14 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]
-- ==== Kernel3.lean ====
abbrev S73728x1024 : Shape := ⟨2, ![73728, 1024]⟩
abbrev S40x9x1024 : Shape := ⟨3, ![40, 9, 1024]⟩
abbrev S1024x2816 : Shape := ⟨2, ![1024, 2816]⟩
abbrev S2816x1024 : Shape := ⟨2, ![2816, 1024]⟩
abbrev S1024 : Shape := ⟨1, ![1024]⟩
abbrev S1024x11x256 : Shape := ⟨3, ![1024, 11, 256]⟩
abbrev S1024x11x512 : Shape := ⟨3, ![1024, 11, 512]⟩
abbrev S11x1024x512 : Shape := ⟨3, ![11, 1024, 512]⟩
abbrev S_ : Shape := ⟨0, ![]⟩
abbrev S12x1024x512 : Shape := ⟨3, ![12, 1024, 512]⟩
abbrev S11x256x1024 : Shape := ⟨3, ![11, 256, 1024]⟩
abbrev S12x256x1024 : Shape := ⟨3, ![12, 256, 1024]⟩
abbrev S1x1024 : Shape := ⟨2, ![1, 1024]⟩
abbrev S768x1024 : Shape := ⟨2, ![768, 1024]⟩
abbrev S1x9x1024 : Shape := ⟨3, ![1, 9, 1024]⟩
abbrev S6x1024x512 : Shape := ⟨3, ![6, 1024, 512]⟩
abbrev S6x256x1024 : Shape := ⟨3, ![6, 256, 1024]⟩
abbrev S2x768x1024 : Shape := ⟨3, ![2, 768, 1024]⟩
abbrev S768x1 : Shape := ⟨2, ![768, 1]⟩
abbrev S32x1 : Shape := ⟨2, ![32, 1]⟩
abbrev S1x1x1024 : Shape := ⟨3, ![1, 1, 1024]⟩
abbrev S32x1024 : Shape := ⟨2, ![32, 1024]⟩
abbrev S1x32x1024 : Shape := ⟨3, ![1, 32, 1024]⟩
abbrev S32 : Shape := ⟨1, ![32]⟩
abbrev S1x768x1024 : Shape := ⟨3, ![1, 768, 1024]⟩
abbrev S1x1024x512 : Shape := ⟨3, ![1, 1024, 512]⟩
abbrev S1024x512 : Shape := ⟨2, ![1024, 512]⟩
abbrev S768x512 : Shape := ⟨2, ![768, 512]⟩
abbrev S768x256 : Shape := ⟨2, ![768, 256]⟩
abbrev S1x256x1024 : Shape := ⟨3, ![1, 256, 1024]⟩
abbrev S256x1024 : Shape := ⟨2, ![256, 1024]⟩

abbrev nBuf : Space → Nat
  | .hbm => 24
  | .vmem => 18
  | .smem => 0
  | _ => 0

abbrev bufTy : (tb : Table) → Fin (tcTables nBuf tb) → BufTy
  | .hbm, ⟨0, _⟩ => ⟨S73728x1024, .f32⟩
  | .hbm, ⟨1, _⟩ => ⟨S40x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x11x256, .bf16⟩
  | .hbm, ⟨9, _⟩ => ⟨S1024x2816, .bf16⟩
  | .hbm, ⟨10, _⟩ => ⟨S1024x11x256, .bf16⟩
  | .hbm, ⟨11, _⟩ => ⟨S1024x11x512, .bf16⟩
  | .hbm, ⟨12, _⟩ => ⟨S11x1024x512, .bf16⟩
  | .hbm, ⟨13, _⟩ => ⟨S_, .i32⟩
  | .hbm, ⟨14, _⟩ => ⟨S_, .bf16⟩
  | .hbm, ⟨15, _⟩ => ⟨S12x1024x512, .bf16⟩
  | .hbm, ⟨16, _⟩ => ⟨S2816x1024, .bf16⟩
  | .hbm, ⟨17, _⟩ => ⟨S11x256x1024, .bf16⟩
  | .hbm, ⟨18, _⟩ => ⟨S_, .i32⟩
  | .hbm, ⟨19, _⟩ => ⟨S_, .bf16⟩
  | .hbm, ⟨20, _⟩ => ⟨S12x256x1024, .bf16⟩
  | .hbm, ⟨21, _⟩ => ⟨S1x1024, .f32⟩
  | .hbm, ⟨22, _⟩ => ⟨S1x1024, .f32⟩
  | .hbm, ⟨23, _⟩ => ⟨S73728x1024, .f32⟩
  | .local _ .vmem, ⟨0, _⟩ => ⟨S768x1024, .f32⟩
  | .local _ .vmem, ⟨1, _⟩ => ⟨S768x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x9x1024, .f32⟩
  | .local _ .vmem, ⟨7, _⟩ => ⟨S6x1024x512, .bf16⟩
  | .local _ .vmem, ⟨8, _⟩ => ⟨S6x1024x512, .bf16⟩
  | .local _ .vmem, ⟨9, _⟩ => ⟨S6x256x1024, .bf16⟩
  | .local _ .vmem, ⟨10, _⟩ => ⟨S6x256x1024, .bf16⟩
  | .local _ .vmem, ⟨11, _⟩ => ⟨S1x1024, .f32⟩
  | .local _ .vmem, ⟨12, _⟩ => ⟨S1x1024, .f32⟩
  | .local _ .vmem, ⟨13, _⟩ => ⟨S768x1024, .f32⟩
  | .local _ .vmem, ⟨14, _⟩ => ⟨S768x1024, .f32⟩
  | .local _ .vmem, ⟨15, _⟩ => ⟨S768x1024, .bf16⟩
  | .local _ .vmem, ⟨16, _⟩ => ⟨S2x768x1024, .f32⟩
  | .local _ .vmem, ⟨17, _⟩ => ⟨S2x768x1024, .f32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![97, 2], ![false, false]⟩

def k0_cond1 (i : grid0.Coords) : BitVec 1 :=
  let arg1 : BitVec 32 := BitVec.ofNat 32 (i 1).val
  let c0_i32_9 : BitVec 32 := 0#32
  let v28 : BitVec 1 := Scalar.cmpi .eq arg1 c0_i32_9
  let arg0 : BitVec 32 := BitVec.ofNat 32 (i 0).val
  let c96_i32 : BitVec 32 := 96#32
  let v26 : BitVec 1 := Scalar.cmpi .slt arg0 c96_i32
  let v29 : BitVec 1 := Scalar.andi v28 v26
  let c0_i32_8 : BitVec 32 := 0#32
  let v27 : BitVec 1 := Scalar.cmpi .sgt arg0 c0_i32_8
  let v30 : BitVec 1 := Scalar.andi v29 v27
  let v31 : BitVec 32 := Scalar.extui v30
  let c0_i32_10 : BitVec 32 := 0#32
  let v32 : BitVec 1 := Scalar.cmpi .ne v31 c0_i32_10
  v32

def k0_mult1 (i : grid0.Coords) : BitVec 32 :=
  let arg1 : BitVec 32 := BitVec.ofNat 32 (i 1).val
  let c384_i32 : BitVec 32 := 384#32
  let v52 : BitVec 32 := Scalar.muli arg1 c384_i32
  let c0_i32_18 : BitVec 32 := 0#32
  let v53 : BitVec 32 := Scalar.addi v52 c0_i32_18
  v53
def k0_off1 (i : grid0.Coords) (c0_i32_18 : BitVec 32) : Fin 3 → Nat :=
  let c1_i32_33 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_33 v9
  let v86 : Index := Scalar.indexCast v85
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v87 : Index := Scalar.indexCast v54
  let c0_34 : Index := 0#32
  ![v86.toNat, v87.toNat, 0]
def k0_off2 (i : grid0.Coords) (c0_i32_18 : BitVec 32) : Fin 2 → Nat :=
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v125 : Index := Scalar.indexCast v54
  let c0_47 : Index := 0#32
  ![v125.toNat, 0]
def k0_mult2 (i : grid0.Coords) : BitVec 32 :=
  let arg1 : BitVec 32 := BitVec.ofNat 32 (i 1).val
  let c384_i32_48 : BitVec 32 := 384#32
  let v127 : BitVec 32 := Scalar.muli arg1 c384_i32_48
  let c32_i32 : BitVec 32 := 32#32
  let v128 : BitVec 32 := Scalar.addi v127 c32_i32
  v128
def k0_mult3 (i : grid0.Coords) : BitVec 32 :=
  let arg1 : BitVec 32 := BitVec.ofNat 32 (i 1).val
  let c384_i32_81 : BitVec 32 := 384#32
  let v202 : BitVec 32 := Scalar.muli arg1 c384_i32_81
  let c64_i32 : BitVec 32 := 64#32
  let v203 : BitVec 32 := Scalar.addi v202 c64_i32
  v203
def k0_mult4 (i : grid0.Coords) : BitVec 32 :=
  let arg1 : BitVec 32 := BitVec.ofNat 32 (i 1).val
  let c384_i32_114 : BitVec 32 := 384#32
  let v277 : BitVec 32 := Scalar.muli arg1 c384_i32_114
  let c96_i32_115 : BitVec 32 := 96#32
  let v278 : BitVec 32 := Scalar.addi v277 c96_i32_115
  v278
def k0_mult5 (i : grid0.Coords) : BitVec 32 :=
  let arg1 : BitVec 32 := BitVec.ofNat 32 (i 1).val
  let c384_i32_148 : BitVec 32 := 384#32
  let v352 : BitVec 32 := Scalar.muli arg1 c384_i32_148
  let c128_i32 : BitVec 32 := 128#32
  let v353 : BitVec 32 := Scalar.addi v352 c128_i32
  v353
def k0_mult6 (i : grid0.Coords) : BitVec 32 :=
  let arg1 : BitVec 32 := BitVec.ofNat 32 (i 1).val
  let c384_i32_181 : BitVec 32 := 384#32
  let v427 : BitVec 32 := Scalar.muli arg1 c384_i32_181
  let c160_i32 : BitVec 32 := 160#32
  let v428 : BitVec 32 := Scalar.addi v427 c160_i32
  v428
def k0_mult7 (i : grid0.Coords) : BitVec 32 :=
  let arg1 : BitVec 32 := BitVec.ofNat 32 (i 1).val
  let c384_i32_214 : BitVec 32 := 384#32
  let v502 : BitVec 32 := Scalar.muli arg1 c384_i32_214
  let c192_i32 : BitVec 32 := 192#32
  let v503 : BitVec 32 := Scalar.addi v502 c192_i32
  v503
def k0_mult8 (i : grid0.Coords) : BitVec 32 :=
  let arg1 : BitVec 32 := BitVec.ofNat 32 (i 1).val
  let c384_i32_247 : BitVec 32 := 384#32
  let v577 : BitVec 32 := Scalar.muli arg1 c384_i32_247
  let c224_i32 : BitVec 32 := 224#32
  let v578 : BitVec 32 := Scalar.addi v577 c224_i32
  v578
def k0_mult9 (i : grid0.Coords) : BitVec 32 :=
  let arg1 : BitVec 32 := BitVec.ofNat 32 (i 1).val
  let c384_i32_280 : BitVec 32 := 384#32
  let v652 : BitVec 32 := Scalar.muli arg1 c384_i32_280
  let c256_i32_281 : BitVec 32 := 256#32
  let v653 : BitVec 32 := Scalar.addi v652 c256_i32_281
  v653
def k0_mult10 (i : grid0.Coords) : BitVec 32 :=
  let arg1 : BitVec 32 := BitVec.ofNat 32 (i 1).val
  let c384_i32_314 : BitVec 32 := 384#32
  let v727 : BitVec 32 := Scalar.muli arg1 c384_i32_314
  let c288_i32 : BitVec 32 := 288#32
  let v728 : BitVec 32 := Scalar.addi v727 c288_i32
  v728
def k0_mult11 (i : grid0.Coords) : BitVec 32 :=
  let arg1 : BitVec 32 := BitVec.ofNat 32 (i 1).val
  let c384_i32_347 : BitVec 32 := 384#32
  let v802 : BitVec 32 := Scalar.muli arg1 c384_i32_347
  let c320_i32 : BitVec 32 := 320#32
  let v803 : BitVec 32 := Scalar.addi v802 c320_i32
  v803
def k0_mult12 (i : grid0.Coords) : BitVec 32 :=
  let arg1 : BitVec 32 := BitVec.ofNat 32 (i 1).val
  let c384_i32_380 : BitVec 32 := 384#32
  let v877 : BitVec 32 := Scalar.muli arg1 c384_i32_380
  let c352_i32 : BitVec 32 := 352#32
  let v878 : BitVec 32 := Scalar.addi v877 c352_i32
  v878
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v953 : Index := Scalar.indexCast v9
  let c0_415 : Index := 0#32
  let c0_416 : Index := 0#32
  ![v953.toNat, 0, 0]
def k0_cond2 (i : grid0.Coords) : BitVec 1 :=
  let arg1 : BitVec 32 := BitVec.ofNat 32 (i 1).val
  let c0_i32_9 : BitVec 32 := 0#32
  let v28 : BitVec 1 := Scalar.cmpi .eq arg1 c0_i32_9
  let arg0 : BitVec 32 := BitVec.ofNat 32 (i 0).val
  let c96_i32 : BitVec 32 := 96#32
  let v26 : BitVec 1 := Scalar.cmpi .slt arg0 c96_i32
  let v33 : BitVec 1 := Scalar.andi v28 v26
  let c0_i32_8 : BitVec 32 := 0#32
  let v27 : BitVec 1 := Scalar.cmpi .sgt arg0 c0_i32_8
  let v_true : BitVec 1 := 1#1
  let v34 : BitVec 1 := Scalar.xori v27 v_true
  let v35 : BitVec 1 := Scalar.andi v33 v34
  let v36 : BitVec 32 := Scalar.extui v35
  let c0_i32_11 : BitVec 32 := 0#32
  let v37 : BitVec 1 := Scalar.cmpi .ne v36 c0_i32_11
  v37

def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_19 : Index := 0#32
  let c0_20 : Index := 0#32
  ![v53.toNat, 0, 0]
def k0_cond3 (i : grid0.Coords) : BitVec 1 :=
  let arg1 : BitVec 32 := BitVec.ofNat 32 (i 1).val
  let c1_i32_12 : BitVec 32 := 1#32
  let v38 : BitVec 1 := Scalar.cmpi .eq arg1 c1_i32_12
  let arg0 : BitVec 32 := BitVec.ofNat 32 (i 0).val
  let c96_i32 : BitVec 32 := 96#32
  let v26 : BitVec 1 := Scalar.cmpi .slt arg0 c96_i32
  let v39 : BitVec 1 := Scalar.andi v38 v26
  let c0_i32_8 : BitVec 32 := 0#32
  let v27 : BitVec 1 := Scalar.cmpi .sgt arg0 c0_i32_8
  let v40 : BitVec 1 := Scalar.andi v39 v27
  let v41 : BitVec 32 := Scalar.extui v40
  let c0_i32_13 : BitVec 32 := 0#32
  let v42 : BitVec 1 := Scalar.cmpi .ne v41 c0_i32_13
  v42

def k0_mult13 (i : grid0.Coords) : BitVec 32 :=
  let arg1 : BitVec 32 := BitVec.ofNat 32 (i 1).val
  let c384_i32 : BitVec 32 := 384#32
  let v52 : BitVec 32 := Scalar.muli arg1 c384_i32
  let c0_i32_18 : BitVec 32 := 0#32
  let v53 : BitVec 32 := Scalar.addi v52 c0_i32_18
  v53
def k0_off5 (i : grid0.Coords) (c0_i32_18 : BitVec 32) : Fin 3 → Nat :=
  let c1_i32_33 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_33 v9
  let v86 : Index := Scalar.indexCast v85
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v87 : Index := Scalar.indexCast v54
  let c0_34 : Index := 0#32
  ![v86.toNat, v87.toNat, 0]
def k0_off6 (i : grid0.Coords) (c0_i32_18 : BitVec 32) : Fin 2 → Nat :=
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v125 : Index := Scalar.indexCast v54
  let c0_47 : Index := 0#32
  ![v125.toNat, 0]
def k0_mult14 (i : grid0.Coords) : BitVec 32 :=
  let arg1 : BitVec 32 := BitVec.ofNat 32 (i 1).val
  let c384_i32_48 : BitVec 32 := 384#32
  let v127 : BitVec 32 := Scalar.muli arg1 c384_i32_48
  let c32_i32 : BitVec 32 := 32#32
  let v128 : BitVec 32 := Scalar.addi v127 c32_i32
  v128
def k0_mult15 (i : grid0.Coords) : BitVec 32 :=
  let arg1 : BitVec 32 := BitVec.ofNat 32 (i 1).val
  let c384_i32_81 : BitVec 32 := 384#32
  let v202 : BitVec 32 := Scalar.muli arg1 c384_i32_81
  let c64_i32 : BitVec 32 := 64#32
  let v203 : BitVec 32 := Scalar.addi v202 c64_i32
  v203
def k0_mult16 (i : grid0.Coords) : BitVec 32 :=
  let arg1 : BitVec 32 := BitVec.ofNat 32 (i 1).val
  let c384_i32_114 : BitVec 32 := 384#32
  let v277 : BitVec 32 := Scalar.muli arg1 c384_i32_114
  let c96_i32_115 : BitVec 32 := 96#32
  let v278 : BitVec 32 := Scalar.addi v277 c96_i32_115
  v278
def k0_mult17 (i : grid0.Coords) : BitVec 32 :=
  let arg1 : BitVec 32 := BitVec.ofNat 32 (i 1).val
  let c384_i32_148 : BitVec 32 := 384#32
  let v352 : BitVec 32 := Scalar.muli arg1 c384_i32_148
  let c128_i32 : BitVec 32 := 128#32
  let v353 : BitVec 32 := Scalar.addi v352 c128_i32
  v353
def k0_mult18 (i : grid0.Coords) : BitVec 32 :=
  let arg1 : BitVec 32 := BitVec.ofNat 32 (i 1).val
  let c384_i32_181 : BitVec 32 := 384#32
  let v427 : BitVec 32 := Scalar.muli arg1 c384_i32_181
  let c160_i32 : BitVec 32 := 160#32
  let v428 : BitVec 32 := Scalar.addi v427 c160_i32
  v428
def k0_mult19 (i : grid0.Coords) : BitVec 32 :=
  let arg1 : BitVec 32 := BitVec.ofNat 32 (i 1).val
  let c384_i32_214 : BitVec 32 := 384#32
  let v502 : BitVec 32 := Scalar.muli arg1 c384_i32_214
  let c192_i32 : BitVec 32 := 192#32
  let v503 : BitVec 32 := Scalar.addi v502 c192_i32
  v503
def k0_mult20 (i : grid0.Coords) : BitVec 32 :=
  let arg1 : BitVec 32 := BitVec.ofNat 32 (i 1).val
  let c384_i32_247 : BitVec 32 := 384#32
  let v577 : BitVec 32 := Scalar.muli arg1 c384_i32_247
  let c224_i32 : BitVec 32 := 224#32
  let v578 : BitVec 32 := Scalar.addi v577 c224_i32
  v578
def k0_mult21 (i : grid0.Coords) : BitVec 32 :=
  let arg1 : BitVec 32 := BitVec.ofNat 32 (i 1).val
  let c384_i32_280 : BitVec 32 := 384#32
  let v652 : BitVec 32 := Scalar.muli arg1 c384_i32_280
  let c256_i32_281 : BitVec 32 := 256#32
  let v653 : BitVec 32 := Scalar.addi v652 c256_i32_281
  v653
def k0_mult22 (i : grid0.Coords) : BitVec 32 :=
  let arg1 : BitVec 32 := BitVec.ofNat 32 (i 1).val
  let c384_i32_314 : BitVec 32 := 384#32
  let v727 : BitVec 32 := Scalar.muli arg1 c384_i32_314
  let c288_i32 : BitVec 32 := 288#32
  let v728 : BitVec 32 := Scalar.addi v727 c288_i32
  v728
def k0_mult23 (i : grid0.Coords) : BitVec 32 :=
  let arg1 : BitVec 32 := BitVec.ofNat 32 (i 1).val
  let c384_i32_347 : BitVec 32 := 384#32
  let v802 : BitVec 32 := Scalar.muli arg1 c384_i32_347
  let c320_i32 : BitVec 32 := 320#32
  let v803 : BitVec 32 := Scalar.addi v802 c320_i32
  v803
def k0_mult24 (i : grid0.Coords) : BitVec 32 :=
  let arg1 : BitVec 32 := BitVec.ofNat 32 (i 1).val
  let c384_i32_380 : BitVec 32 := 384#32
  let v877 : BitVec 32 := Scalar.muli arg1 c384_i32_380
  let c352_i32 : BitVec 32 := 352#32
  let v878 : BitVec 32 := Scalar.addi v877 c352_i32
  v878
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v968 : Index := Scalar.indexCast v9
  let c0_424 : Index := 0#32
  let c0_425 : Index := 0#32
  ![v968.toNat, 0, 0]
def k0_cond4 (i : grid0.Coords) : BitVec 1 :=
  let arg1 : BitVec 32 := BitVec.ofNat 32 (i 1).val
  let c1_i32_12 : BitVec 32 := 1#32
  let v38 : BitVec 1 := Scalar.cmpi .eq arg1 c1_i32_12
  let arg0 : BitVec 32 := BitVec.ofNat 32 (i 0).val
  let c96_i32 : BitVec 32 := 96#32
  let v26 : BitVec 1 := Scalar.cmpi .slt arg0 c96_i32
  let v43 : BitVec 1 := Scalar.andi v38 v26
  let c0_i32_8 : BitVec 32 := 0#32
  let v27 : BitVec 1 := Scalar.cmpi .sgt arg0 c0_i32_8
  let true_14 : BitVec 1 := 1#1
  let v44 : BitVec 1 := Scalar.xori v27 true_14
  let v45 : BitVec 1 := Scalar.andi v43 v44
  let v46 : BitVec 32 := Scalar.extui v45
  let c0_i32_15 : BitVec 32 := 0#32
  let v47 : BitVec 1 := Scalar.cmpi .ne v46 c0_i32_15
  v47

def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : Index := Scalar.indexCast v9
  let c0_27 : Index := 0#32
  let c0_28 : Index := 0#32
  ![v68.toNat, 0, 0]
def k0_cond5 (i : grid0.Coords) : BitVec 1 :=
  let arg0 : BitVec 32 := BitVec.ofNat 32 (i 0).val
  let c96_i32 : BitVec 32 := 96#32
  let v26 : BitVec 1 := Scalar.cmpi .slt arg0 c96_i32
  let true_16 : BitVec 1 := 1#1
  let v48 : BitVec 1 := Scalar.xori v26 true_16
  let c0_i32_8 : BitVec 32 := 0#32
  let v27 : BitVec 1 := Scalar.cmpi .sgt arg0 c0_i32_8
  let v49 : BitVec 1 := Scalar.andi v48 v27
  let v50 : BitVec 32 := Scalar.extui v49
  let c0_i32_17 : BitVec 32 := 0#32
  let v51 : BitVec 1 := Scalar.cmpi .ne v50 c0_i32_17
  v51

def k0_mult25 (i : grid0.Coords) : BitVec 32 :=
  let arg1 : BitVec 32 := BitVec.ofNat 32 (i 1).val
  let c384_i32 : BitVec 32 := 384#32
  let v52 : BitVec 32 := Scalar.muli arg1 c384_i32
  let c0_i32_18 : BitVec 32 := 0#32
  let v53 : BitVec 32 := Scalar.addi v52 c0_i32_18
  v53
def k0_off9 (i : grid0.Coords) (c0_i32_18 : BitVec 32) : Fin 3 → Nat :=
  let c1_i32_33 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_33 v9
  let v86 : Index := Scalar.indexCast v85
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v87 : Index := Scalar.indexCast v54
  let c0_34 : Index := 0#32
  ![v86.toNat, v87.toNat, 0]
def k0_off10 (i : grid0.Coords) (c0_i32_18 : BitVec 32) : Fin 2 → Nat :=
  let arg1 : BitVec 32 := BitVec.ofNat 32 (i 1).val
  let c384_i32 : BitVec 32 := 384#32
  let v52 : BitVec 32 := Scalar.muli arg1 c384_i32
  let v53 : BitVec 32 := Scalar.addi v52 c0_i32_18
  let v54 : BitVec 32 := v53
  let v125 : Index := Scalar.indexCast v54
  let c0_47 : Index := 0#32
  ![v125.toNat, 0]
def k0_mult26 (i : grid0.Coords) : BitVec 32 :=
  let arg1 : BitVec 32 := BitVec.ofNat 32 (i 1).val
  let c384_i32_48 : BitVec 32 := 384#32
  let v127 : BitVec 32 := Scalar.muli arg1 c384_i32_48
  let c32_i32 : BitVec 32 := 32#32
  let v128 : BitVec 32 := Scalar.addi v127 c32_i32
  v128
def k0_mult27 (i : grid0.Coords) : BitVec 32 :=
  let arg1 : BitVec 32 := BitVec.ofNat 32 (i 1).val
  let c384_i32_81 : BitVec 32 := 384#32
  let v202 : BitVec 32 := Scalar.muli arg1 c384_i32_81
  let c64_i32 : BitVec 32 := 64#32
  let v203 : BitVec 32 := Scalar.addi v202 c64_i32
  v203
def k0_mult28 (i : grid0.Coords) : BitVec 32 :=
  let arg1 : BitVec 32 := BitVec.ofNat 32 (i 1).val
  let c384_i32_114 : BitVec 32 := 384#32
  let v277 : BitVec 32 := Scalar.muli arg1 c384_i32_114
  let c96_i32_115 : BitVec 32 := 96#32
  let v278 : BitVec 32 := Scalar.addi v277 c96_i32_115
  v278
def k0_mult29 (i : grid0.Coords) : BitVec 32 :=
  let arg1 : BitVec 32 := BitVec.ofNat 32 (i 1).val
  let c384_i32_148 : BitVec 32 := 384#32
  let v352 : BitVec 32 := Scalar.muli arg1 c384_i32_148
  let c128_i32 : BitVec 32 := 128#32
  let v353 : BitVec 32 := Scalar.addi v352 c128_i32
  v353
def k0_mult30 (i : grid0.Coords) : BitVec 32 :=
  let arg1 : BitVec 32 := BitVec.ofNat 32 (i 1).val
  let c384_i32_181 : BitVec 32 := 384#32
  let v427 : BitVec 32 := Scalar.muli arg1 c384_i32_181
  let c160_i32 : BitVec 32 := 160#32
  let v428 : BitVec 32 := Scalar.addi v427 c160_i32
  v428
def k0_mult31 (i : grid0.Coords) : BitVec 32 :=
  let arg1 : BitVec 32 := BitVec.ofNat 32 (i 1).val
  let c384_i32_214 : BitVec 32 := 384#32
  let v502 : BitVec 32 := Scalar.muli arg1 c384_i32_214
  let c192_i32 : BitVec 32 := 192#32
  let v503 : BitVec 32 := Scalar.addi v502 c192_i32
  v503
def k0_mult32 (i : grid0.Coords) : BitVec 32 :=
  let arg1 : BitVec 32 := BitVec.ofNat 32 (i 1).val
  let c384_i32_247 : BitVec 32 := 384#32
  let v577 : BitVec 32 := Scalar.muli arg1 c384_i32_247
  let c224_i32 : BitVec 32 := 224#32
  let v578 : BitVec 32 := Scalar.addi v577 c224_i32
  v578
def k0_mult33 (i : grid0.Coords) : BitVec 32 :=
  let arg1 : BitVec 32 := BitVec.ofNat 32 (i 1).val
  let c384_i32_280 : BitVec 32 := 384#32
  let v652 : BitVec 32 := Scalar.muli arg1 c384_i32_280
  let c256_i32_281 : BitVec 32 := 256#32
  let v653 : BitVec 32 := Scalar.addi v652 c256_i32_281
  v653
def k0_mult34 (i : grid0.Coords) : BitVec 32 :=
  let arg1 : BitVec 32 := BitVec.ofNat 32 (i 1).val
  let c384_i32_314 : BitVec 32 := 384#32
  let v727 : BitVec 32 := Scalar.muli arg1 c384_i32_314
  let c288_i32 : BitVec 32 := 288#32
  let v728 : BitVec 32 := Scalar.addi v727 c288_i32
  v728
def k0_mult35 (i : grid0.Coords) : BitVec 32 :=
  let arg1 : BitVec 32 := BitVec.ofNat 32 (i 1).val
  let c384_i32_347 : BitVec 32 := 384#32
  let v802 : BitVec 32 := Scalar.muli arg1 c384_i32_347
  let c320_i32 : BitVec 32 := 320#32
  let v803 : BitVec 32 := Scalar.addi v802 c320_i32
  v803
def k0_mult36 (i : grid0.Coords) : BitVec 32 :=
  let arg1 : BitVec 32 := BitVec.ofNat 32 (i 1).val
  let c384_i32_380 : BitVec 32 := 384#32
  let v877 : BitVec 32 := Scalar.muli arg1 c384_i32_380
  let c352_i32 : BitVec 32 := 352#32
  let v878 : BitVec 32 := Scalar.addi v877 c352_i32
  v878
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let v1 : BitVec 32 := Scalar.addi arg0 v0
  let c95_i32 : BitVec 32 := 95#32
  let v2 : BitVec 32 := Scalar.minsi v1 c95_i32
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  let c0_i32_1 : BitVec 32 := 0#32
  ![c32_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c95_i32 : BitVec 32 := 95#32
  let v0 : BitVec 32 := Scalar.minsi arg0 c95_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S6x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S6x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S73728x1024 : Shape := ⟨2, ![73728, 1024]⟩
abbrev S40x9x1024 : Shape := ⟨3, ![40, 9, 1024]⟩
abbrev S1024x2816 : Shape := ⟨2, ![1024, 2816]⟩
abbrev S2816x1024 : Shape := ⟨2, ![2816, 1024]⟩
abbrev S1024 : Shape := ⟨1, ![1024]⟩
abbrev S32x2304x1024 : Shape := ⟨3, ![32, 2304, 1024]⟩
abbrev S32x256x1024 : Shape := ⟨3, ![32, 256, 1024]⟩
abbrev S32x2048x1024 : Shape := ⟨3, ![32, 2048, 1024]⟩
abbrev S32x9x1024 : Shape := ⟨3, ![32, 9, 1024]⟩
abbrev S32x9x1x1024 : Shape := ⟨4, ![32, 9, 1, 1024]⟩
abbrev S1x9x1024 : Shape := ⟨3, ![1, 9, 1024]⟩
abbrev S1x9x1x1024 : Shape := ⟨4, ![1, 9, 1, 1024]⟩
abbrev S1x1x1x1024 : Shape := ⟨4, ![1, 1, 1, 1024]⟩
abbrev S1x1x1024 : Shape := ⟨3, ![1, 1, 1024]⟩
abbrev S_ : Shape := ⟨0, ![]⟩
abbrev S32x256x2816 : Shape := ⟨3, ![32, 256, 2816]⟩
abbrev S32x256 : Shape := ⟨2, ![32, 256]⟩
abbrev S32x256x1 : Shape := ⟨3, ![32, 256, 1]⟩
abbrev S32x1x1x1024 : Shape := ⟨4, ![32, 1, 1, 1024]⟩
abbrev S32x1x1024 : Shape := ⟨3, ![32, 1, 1024]⟩
abbrev S32x2048x2816 : Shape := ⟨3, ![32, 2048, 2816]⟩
abbrev S32x2048 : Shape := ⟨2, ![32, 2048]⟩
abbrev S32x2048x1 : Shape := ⟨3, ![32, 2048, 1]⟩

abbrev nBuf : Space → Nat
  | .hbm => 140
  | .vmem => 0
  | .smem => 0
  | _ => 0

abbrev hbmTy0_0 (i : Nat) : BufTy := match i % 128 with
  | 0 => ⟨S73728x1024, .f32⟩
  | 1 => ⟨S40x9x1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S32x2304x1024, .f32⟩
  | 8 => ⟨S32x256x1024, .f32⟩
  | 9 => ⟨S32x2048x1024, .f32⟩
  | 10 => ⟨S32x9x1024, .f32⟩
  | 11 => ⟨S32x9x1x1024, .f32⟩
  | 12 => ⟨S1x9x1024, .f32⟩
  | 13 => ⟨S1x9x1x1024, .f32⟩
  | 14 => ⟨S1x1x1x1024, .f32⟩
  | 15 => ⟨S1x1x1024, .f32⟩
  | 16 => ⟨S_, .f32⟩
  | 17 => ⟨S1x1x1024, .f32⟩
  | 18 => ⟨S1x1x1024, .f32⟩
  | 19 => ⟨S32x256x1024, .f32⟩
  | 20 => ⟨S32x256x1024, .f32⟩
  | 21 => ⟨S1x1x1x1024, .f32⟩
  | 22 => ⟨S1x1x1024, .f32⟩
  | 23 => ⟨S32x256x1024, .f32⟩
  | 24 => ⟨S32x256x1024, .f32⟩
  | 25 => ⟨S32x256x2816, .f32⟩
  | 26 => ⟨S32x256x2816, .f32⟩
  | 27 => ⟨S32x256x2816, .f32⟩
  | 28 => ⟨S_, .f32⟩
  | 29 => ⟨S32x256x2816, .f32⟩
  | 30 => ⟨S32x256x2816, .f32⟩
  | 31 => ⟨S_, .f32⟩
  | 32 => ⟨S32x256x2816, .f32⟩
  | 33 => ⟨S32x256x2816, .f32⟩
  | 34 => ⟨S32x256x2816, .f32⟩
  | 35 => ⟨S32x256x2816, .f32⟩
  | 36 => ⟨S32x256x2816, .f32⟩
  | 37 => ⟨S32x256x1024, .f32⟩
  | 38 => ⟨S1x1x1x1024, .f32⟩
  | 39 => ⟨S1x1x1024, .f32⟩
  | 40 => ⟨S_, .f32⟩
  | 41 => ⟨S32x256x1024, .f32⟩
  | 42 => ⟨S32x256x1024, .f32⟩
  | 43 => ⟨S_, .f32⟩
  | 44 => ⟨S1x1x1024, .f32⟩
  | 45 => ⟨S1x1x1024, .f32⟩
  | 46 => ⟨S32x256x1024, .f32⟩
  | 47 => ⟨S32x256x1024, .f32⟩
  | 48 => ⟨S32x256x1024, .f32⟩
  | 49 => ⟨S_, .f32⟩
  | 50 => ⟨S32x256, .f32⟩
  | 51 => ⟨S32x256x1, .f32⟩
  | 52 => ⟨S_, .f32⟩
  | 53 => ⟨S32x256x1, .f32⟩
  | 54 => ⟨S32x256x1, .f32⟩
  | 55 => ⟨S32x256x1024, .f32⟩
  | 56 => ⟨S32x256x1024, .f32⟩
  | 57 => ⟨S32x256x1024, .f32⟩
  | 58 => ⟨S_, .f32⟩
  | 59 => ⟨S32x256, .f32⟩
  | 60 => ⟨S32x256x1, .f32⟩
  | 61 => ⟨S_, .f32⟩
  | 62 => ⟨S32x256x1, .f32⟩
  | 63 => ⟨S32x256x1, .f32⟩
  | 64 => ⟨S_, .f32⟩
  | 65 => ⟨S32x256x1, .f32⟩
  | 66 => ⟨S32x256x1, .f32⟩
  | 67 => ⟨S32x256x1, .f32⟩
  | 68 => ⟨S32x256x1024, .f32⟩
  | 69 => ⟨S32x256x1024, .f32⟩
  | 70 => ⟨S1x1x1024, .f32⟩
  | 71 => ⟨S32x256x1024, .f32⟩
  | 72 => ⟨S32x256x1024, .f32⟩
  | 73 => ⟨S1x1x1024, .f32⟩
  | 74 => ⟨S32x256x1024, .f32⟩
  | 75 => ⟨S32x256x1024, .f32⟩
  | 76 => ⟨S32x1x1x1024, .f32⟩
  | 77 => ⟨S32x1x1024, .f32⟩
  | 78 => ⟨S_, .f32⟩
  | 79 => ⟨S32x1x1024, .f32⟩
  | 80 => ⟨S32x1x1024, .f32⟩
  | 81 => ⟨S32x2048x1024, .f32⟩
  | 82 => ⟨S32x2048x1024, .f32⟩
  | 83 => ⟨S32x1x1x1024, .f32⟩
  | 84 => ⟨S32x1x1024, .f32⟩
  | 85 => ⟨S32x2048x1024, .f32⟩
  | 86 => ⟨S32x2048x1024, .f32⟩
  | 87 => ⟨S32x2048x2816, .f32⟩
  | 88 => ⟨S32x2048x2816, .f32⟩
  | 89 => ⟨S32x2048x2816, .f32⟩
  | 90 => ⟨S_, .f32⟩
  | 91 => ⟨S32x2048x2816, .f32⟩
  | 92 => ⟨S32x2048x2816, .f32⟩
  | 93 => ⟨S_, .f32⟩
  | 94 => ⟨S32x2048x2816, .f32⟩
  | 95 => ⟨S32x2048x2816, .f32⟩
  | 96 => ⟨S32x2048x2816, .f32⟩
  | 97 => ⟨S32x2048x2816, .f32⟩
  | 98 => ⟨S32x2048x2816, .f32⟩
  | 99 => ⟨S32x2048x1024, .f32⟩
  | 100 => ⟨S32x1x1x1024, .f32⟩
  | 101 => ⟨S32x1x1024, .f32⟩
  | 102 => ⟨S_, .f32⟩
  | 103 => ⟨S32x2048x1024, .f32⟩
  | 104 => ⟨S32x2048x1024, .f32⟩
  | 105 => ⟨S_, .f32⟩
  | 106 => ⟨S32x1x1024, .f32⟩
  | 107 => ⟨S32x1x1024, .f32⟩
  | 108 => ⟨S32x2048x1024, .f32⟩
  | 109 => ⟨S32x2048x1024, .f32⟩
  | 110 => ⟨S32x2048x1024, .f32⟩
  | 111 => ⟨S_, .f32⟩
  | 112 => ⟨S32x2048, .f32⟩
  | 113 => ⟨S32x2048x1, .f32⟩
  | 114 => ⟨S_, .f32⟩
  | 115 => ⟨S32x2048x1, .f32⟩
  | 116 => ⟨S32x2048x1, .f32⟩
  | 117 => ⟨S32x2048x1024, .f32⟩
  | 118 => ⟨S32x2048x1024, .f32⟩
  | 119 => ⟨S32x2048x1024, .f32⟩
  | 120 => ⟨S_, .f32⟩
  | 121 => ⟨S32x2048, .f32⟩
  | 122 => ⟨S32x2048x1, .f32⟩
  | 123 => ⟨S_, .f32⟩
  | 124 => ⟨S32x2048x1, .f32⟩
  | 125 => ⟨S32x2048x1, .f32⟩
  | 126 => ⟨S_, .f32⟩
  | 127 => ⟨S32x2048x1, .f32⟩
  | _ => ⟨S73728x1024, .f32⟩

abbrev hbmTy0_1 (i : Nat) : BufTy := match i % 128 with
  | 0 => ⟨S32x2048x1, .f32⟩
  | 1 => ⟨S32x2048x1, .f32⟩
  | 2 => ⟨S32x2048x1024, .f32⟩
  | 3 => ⟨S32x2048x1024, .f32⟩
  | 4 => ⟨S1x1x1024, .f32⟩
  | 5 => ⟨S32x2048x1024, .f32⟩
  | 6 => ⟨S32x2048x1024, .f32⟩
  | 7 => ⟨S1x1x1024, .f32⟩
  | 8 => ⟨S32x2048x1024, .f32⟩
  | 9 => ⟨S32x2048x1024, .f32⟩
  | 10 => ⟨S32x2304x1024, .f32⟩
  | 11 => ⟨S73728x1024, .f32⟩
  | _ => ⟨S73728x1024, .f32⟩

abbrev hbmTy (i : Nat) : BufTy := match i / 128 with
  | 0 => hbmTy0_0 i
  | 1 => hbmTy0_1 i
  | _ => ⟨S73728x1024, .f32⟩

abbrev bufTy : (tb : Table) → Fin (tcTables nBuf tb) → BufTy
  | .hbm, ⟨i, _⟩ => hbmTy i
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_cst_9 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_cst_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_12 : Ref sig .tc := ⟨.hbm, 120, rfl⟩
abbrev main_v84 : Ref sig .tc := ⟨.hbm, 121, rfl⟩
abbrev main_v85 : Ref sig .tc := ⟨.hbm, 122, rfl⟩
abbrev main_cst_13 : Ref sig .tc := ⟨.hbm, 123, rfl⟩
abbrev main_v86 : Ref sig .tc := ⟨.hbm, 124, rfl⟩
abbrev main_v87 : Ref sig .tc := ⟨.hbm, 125, rfl⟩
abbrev main_cst_14 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]
-- ==== Proof.AttMath.lean ====
/- Attention over extended reals: the weights divided by their sum before the product with the values, and after it,
   give the same element when every score is finite; and a contraction over 128 lanes of which one half is masked by
   zeros is the contraction over the other half. -/
module

public import Idealize.ShloMosaic.Lib.Pointwise

@[expose] public section

set_option maxRecDepth 16384

noncomputable section

namespace Cert.Att

open Idealize.ShloMosaic

/-- The word of minus infinity reads as the bottom element. -/
theorem ofBits_negInf : Ideal.ofBits .f32 0xFF800000#32 = ⊥ := by
  simp [Ideal.ofBits, Ideal.ieee]

/-- The word of plus infinity reads as the top element. -/
theorem ofBits_posInf : Ideal.ofBits .f32 0x7F800000#32 = ⊤ := by
  simp [Ideal.ofBits, Ideal.ieee]

/-- An extended real that is a real number. -/
def Real' (x : EReal) : Prop := ∃ r : ℝ, x = r

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sum {ι : Type} (s : Finset ι) (f : ι → EReal) (h : ∀ i ∈ s, Real' (f i)) : Real' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The largest of a row of scores. -/
def top {n : ℕ} (s : Fin n → EReal) : EReal := Finset.univ.fold max ⊥ s

/-- One element of attention: the exponentials of the scores less their largest, times the values, over their sum. -/
def attend {n : ℕ} (s w : Fin n → EReal) : EReal :=
  Ideal.div (∑ k, Ideal.exp (s k - top s) * w k) (∑ k, Ideal.exp (s k - top s))

theorem top_mem {n : ℕ} (s : Fin n → EReal) (h : 0 < n) : ∃ k, top s = s k := by
  have hs : top s = Finset.univ.sup s := by
    unfold top Finset.sup; rfl
  obtain ⟨k, -, hk⟩ := Finset.exists_mem_eq_sup Finset.univ ⟨⟨0, h⟩, Finset.mem_univ _⟩ s
  exact ⟨k, hs.trans hk⟩

theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih => rw [Finset.sum_insert ha, Finset.sum_insert ha, EReal.right_distrib_of_nonneg_of_ne_top
      (EReal.coe_nonneg.mpr hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing every weight by the sum of the weights before the product with the values changes nothing, where the
    scores are real numbers. -/
theorem attend_eq {n : ℕ} (s w : Fin n → EReal) (h : 0 < n) (hs : ∀ k, Real' (s k)) :
    ∑ k, w k * Ideal.div (Ideal.exp (s k - top s)) (∑ k, Ideal.exp (s k - top s)) = attend s w := by
  obtain ⟨k₀, hk₀⟩ := top_mem s h
  have he : ∀ k, ∃ r : ℝ, 0 < r ∧ Ideal.exp (s k - top s) = r := fun k => by
    obtain ⟨a, ha⟩ := hs k; obtain ⟨b, hb⟩ := hs k₀
    refine ⟨Real.exp (a - b), Real.exp_pos _, ?_⟩
    rw [hk₀, ha, hb, ← EReal.coe_sub]; rfl
  choose r hr0 hr using he
  have hL : (∑ k, Ideal.exp (s k - top s)) = ((∑ k, r k : ℝ) : EReal) := by
    rw [Finset.sum_congr rfl fun k _ => hr k]; exact (coe_sum _ _).symm
  have hpos : 0 < ∑ k, r k := Finset.sum_pos (fun k _ => hr0 k) ⟨k₀, Finset.mem_univ _⟩
  unfold attend
  rw [hL]
  have hne : ((∑ k, r k : ℝ) : EReal) ≠ 0 := fun h => hpos.ne' (EReal.coe_eq_zero.mp h)
  simp only [Ideal.div, if_neg hne, ← EReal.coe_inv]
  rw [sum_mul_coe _ _ _ (inv_nonneg.mpr hpos.le)]
  exact Finset.sum_congr rfl fun k _ => by rw [mul_comm (w k), mul_assoc, mul_comm _ (w k), mul_assoc]

/-- The bit of a lane below 64. -/
theorem lane_lt (x : Fin 128) :
    IntOp.cmpi CmpIPredicate.slt (BitVec.ofNat 32 (x : ℕ)) 64#32 = BitVec.ofBool (decide ((x : ℕ) < 64)) := by
  revert x; decide

/-- A sum over 128 lanes masked to the low half. -/
theorem sum_low (f : Fin 128 → EReal) :
    (∑ x : Fin 128, Scalar.select (IntOp.cmpi CmpIPredicate.slt (BitVec.ofNat 32 (x : ℕ)) 64#32) (f x) 0)
      = ∑ d : Fin 64, f ⟨d.val, by omega⟩ := by
  simp only [lane_lt]
  rw [Fin.sum_univ_two_halves 64 64 rfl]
  have h2 : ∀ d : Fin 64, ¬ 64 + (d : ℕ) < 64 := fun d => by omega
  simp [Scalar.select, h2]

/-- A sum over 128 lanes masked to the high half. -/
theorem sum_high (f : Fin 128 → EReal) :
    (∑ x : Fin 128, Scalar.select (IntOp.cmpi CmpIPredicate.slt (BitVec.ofNat 32 (x : ℕ)) 64#32) 0 (f x))
      = ∑ d : Fin 64, f ⟨64 + d.val, by omega⟩ := by
  simp only [lane_lt]
  rw [Fin.sum_univ_two_halves 64 64 rfl]
  have h2 : ∀ d : Fin 64, ¬ 64 + (d : ℕ) < 64 := fun d => by omega
  simp [Scalar.select, h2]

/-- The scores of one query head against the keys: the half `h` of the 128 lanes. -/
def scores {n : ℕ} (q : Fin 128 → EReal) (k : Fin n → Fin 128 → EReal) (h : Fin 2) (x : Fin n) : EReal :=
  ∑ d : Fin 64, q ⟨64 * h.val + d.val, by omega⟩ * k x ⟨64 * h.val + d.val, by omega⟩

/-- Which half a lane lies in. -/
def half (l : Fin 128) : Fin 2 := ⟨l.val / 64, by omega⟩

/-- One element of a block of 128 lanes that holds two heads: lane `l`'s head attends with its own half of the lanes. -/
def pair {n : ℕ} (q : Fin 128 → EReal) (k v : Fin n → Fin 128 → EReal) (l : Fin 128) : EReal :=
  attend (scores q k (half l)) (fun x => v x l)

theorem scores_finite {n : ℕ} (q : Fin 128 → EReal) (k : Fin n → Fin 128 → EReal) (h : Fin 2) (x : Fin n)
    (hq : ∀ d, Real' (q d)) (hk : ∀ x d, Real' (k x d)) : Real' (scores q k h x) :=
  Real'.sum _ _ fun _ _ => (hq _).mul (hk _ _)

/-- The two heads of a block, computed from masked queries, and the lane's own kept. -/
theorem pair_eq {n : ℕ} (q : Fin 128 → EReal) (k v : Fin n → Fin 128 → EReal) (l : Fin 128) :
    Scalar.select (IntOp.cmpi CmpIPredicate.slt (BitVec.ofNat 32 (l : ℕ)) 64#32)
      (attend (fun x => ∑ y : Fin 128,
        Scalar.select (IntOp.cmpi CmpIPredicate.slt (BitVec.ofNat 32 (y : ℕ)) 64#32) (q y * k x y) 0) fun x => v x l)
      (attend (fun x => ∑ y : Fin 128,
        Scalar.select (IntOp.cmpi CmpIPredicate.slt (BitVec.ofNat 32 (y : ℕ)) 64#32) 0 (q y * k x y)) fun x => v x l)
      = pair q k v l := by
  unfold pair
  by_cases hl : (l : ℕ) < 64
  · have hh : half l = 0 := Fin.ext (by show (l : ℕ) / 64 = 0; omega)
    rw [lane_lt, hh]
    simp only [hl, decide_true, Scalar.select, BitVec.ofBool_true]
    rw [if_pos (by decide)]
    refine congrArg₂ attend (funext fun x => ?_) rfl
    refine (sum_low _).trans (Finset.sum_congr rfl fun d _ => ?_)
    simp
  · have hh : half l = 1 := Fin.ext (by show (l : ℕ) / 64 = 1; omega)
    rw [lane_lt, hh]
    simp only [hl, decide_false, Scalar.select, BitVec.ofBool_false]
    rw [if_neg (by decide)]
    refine congrArg₂ attend (funext fun x => ?_) rfl
    exact sum_high _

end Cert.Att
-- ==== Proof.AttTile.lean ====
/- What the attention kernel's body leaves in its output block at one grid point, read at an index: each of the three
   stored column blocks holds two heads, each of which attends with its own half of the 128 lanes. At a tile of context
   rows the keys are the first 256 rows of the batch's key block; at the other tiles they are all 2304. -/
module

public import proofs.«01_k».proof.Proof.AttMath
public import proofs.«01_k».proof.Proof.Gen.KernelIdeal.Value

@[expose] public section

set_option maxRecDepth 16384

noncomputable section

namespace Cert.Att

open Cert.KernelIdeal Cert.KernelIdeal.Gen Idealize.ShloMosaic Idealize.ShloMosaic.TcCoe Idealize.SL.Sem

/-! ## One stored column block, at a tile of latent rows -/

theorem tileB_0 (q : Vec Ideal S256x128 .bf16) (k v : Vec Ideal S2304x128 .bf16) (r : Fin 256) (l : Fin 128) :
    k0_pay20 (F := Ideal) k0_pay12 (k0_pay13 k v q) (k0_pay16 v (k0_pay15 k q)) (ix2 r l)
      = pair (fun d => q (ix2 r d)) (fun x d => k (ix2 x d)) (fun x d => v (ix2 x d)) l := by
  rw [← pair_eq]
  pointwise [k0_pay20, k0_pay12, k0_pay13, k0_pay16, k0_pay15, attend, top, ofBits_negInf]

theorem tileB_1 (q : Vec Ideal S256x128 .bf16) (k v : Vec Ideal S2304x128 .bf16) (r : Fin 256) (l : Fin 128) :
    k0_pay21 (F := Ideal) k0_pay12 (k0_pay17 v (k0_pay14 k q)) (k0_pay19 k0_pay12 k v q) (ix2 r l)
      = pair (fun d => q (ix2 r d)) (fun x d => k (ix2 x d)) (fun x d => v (ix2 x d)) l := by
  rw [← pair_eq]
  pointwise [k0_pay21, k0_pay12, k0_pay14, k0_pay17, k0_pay19, attend, top, ofBits_negInf]

theorem tileB_2 (q : Vec Ideal S256x128 .bf16) (k v : Vec Ideal S2304x128 .bf16) (r : Fin 256) (l : Fin 128) :
    k0_pay22 (F := Ideal) k0_pay12 k v (k0_pay18 k0_pay12 k q) q (FloatOps.ofBits .bf16 0x0000#16) (ix2 r l)
      = pair (fun d => q (ix2 r d)) (fun x d => k (ix2 x d)) (fun x d => v (ix2 x d)) l := by
  rw [← pair_eq]
  pointwise [k0_pay22, k0_pay12, k0_pay18, attend, top, ofBits_negInf]

/-! ## The same, at a tile of context rows -/

theorem tileA_0 (q : Vec Ideal S256x128 .bf16) (k v : Vec Ideal S256x128 .bf16) (r : Fin 256) (l : Fin 128) :
    k0_pay9 (F := Ideal) k0_pay1 (k0_pay2 k v q) (k0_pay5 v (k0_pay4 k q)) (ix2 r l)
      = pair (fun d => q (ix2 r d)) (fun x d => k (ix2 x d)) (fun x d => v (ix2 x d)) l := by
  rw [← pair_eq]
  pointwise [k0_pay9, k0_pay1, k0_pay2, k0_pay5, k0_pay4, attend, top, ofBits_negInf]

theorem tileA_1 (q : Vec Ideal S256x128 .bf16) (k v : Vec Ideal S256x128 .bf16) (r : Fin 256) (l : Fin 128) :
    k0_pay10 (F := Ideal) k0_pay1 (k0_pay6 v (k0_pay3 k q)) (k0_pay8 k0_pay1 k v q) (ix2 r l)
      = pair (fun d => q (ix2 r d)) (fun x d => k (ix2 x d)) (fun x d => v (ix2 x d)) l := by
  rw [← pair_eq]
  pointwise [k0_pay10, k0_pay1, k0_pay3, k0_pay6, k0_pay8, attend, top, ofBits_negInf]

theorem tileA_2 (q : Vec Ideal S256x128 .bf16) (k v : Vec Ideal S256x128 .bf16) (r : Fin 256) (l : Fin 128) :
    k0_pay11 (F := Ideal) k0_pay1 k v (k0_pay7 k0_pay1 k q) q (FloatOps.ofBits .bf16 0x0000#16) (ix2 r l)
      = pair (fun d => q (ix2 r d)) (fun x d => k (ix2 x d)) (fun x d => v (ix2 x d)) l := by
  rw [← pair_eq]
  pointwise [k0_pay11, k0_pay1, k0_pay7, attend, top, ofBits_negInf]

/-! ## The whole block -/

/-- The block a tile computes: column `j` of row `r` is lane `j % 128` of the pair of heads in column block `j / 128`. -/
def tile {n : ℕ} (q : Fin 256 → Fin 384 → EReal) (k v : Fin n → Fin 128 → EReal) (y : S256x384.Idx) : EReal :=
  pair (fun d => q (y 0) ⟨128 * ((y 1 : Fin 384).val / 128) + d.val, by have : (y 1 : Fin 384).val < 384 := (y 1).isLt; omega⟩) k v
    ⟨(y 1 : Fin 384).val % 128, by omega⟩

/-- Where a stored column block that starts at column `o` puts its element. -/
theorem emb_col (o : ℕ) (ho : o % 128 = 0) (ho' : o ≤ 256) (h) (r : Fin 256) (l : Fin 128) :
    (Rect.unit (s := S256x384) ![0, o] ![256, 128] h).emb (ix2 r l) = ix2 r ⟨o + l.val, by omega⟩ := by
  funext a
  refine Fin.ext ?_
  match a with
  | ⟨0, _⟩ => simp [Rect.emb, Rect.unit, ix2]
  | ⟨1, _⟩ => simp [Rect.emb, Rect.unit, ix2]

theorem tile_ix {n : ℕ} (q : Fin 256 → Fin 384 → EReal) (k v : Fin n → Fin 128 → EReal) (o : ℕ) (ho : o % 128 = 0)
    (ho' : o ≤ 256) (r : Fin 256) (l : Fin 128) :
    tile q k v (ix2 r ⟨o + l.val, by omega⟩) = pair (fun d => q r ⟨o + d.val, by omega⟩) k v l := by
  unfold tile
  have h1 : 128 * ((o + l.val) / 128) = o := by omega
  have h2 : (o + l.val) % 128 = l.val := by omega
  refine congrArg₂ (fun a b => pair a k v b) (funext fun d => congrArg (q r) (Fin.ext ?_)) (Fin.ext h2)
  show 128 * ((o + l.val) / 128) + d.val = o + d.val
  rw [h1]

section
variable (c : Dev nD) (i : grid0.Coords) (a2 : Memref sig .tc .vmem S256x384 .bf16) (h2 : a2.IsWhole)
    (a3 : Memref sig .tc .vmem S2304x128 .bf16) (h3 : a3.IsWhole) (a4 : Memref sig .tc .vmem S2304x128 .bf16)
    (h4 : a4.IsWhole) (a5 : Memref sig .tc .vmem S256x384 .bf16) (h5 : a5.IsWhole)
    (x0 : Vec Ideal S256x384 .bf16) (x1 x2 : Vec Ideal S2304x128 .bf16)

/-- At a tile of latent rows the block attends to all 2304 rows. -/
theorem outB (hc0 hc1) :
    out0_B_3 (F := Ideal) c i a2 h2 a3 h3 a4 h4 a5 h5 hc0 hc1 x0 x1 x2
      = tile (fun r j => x0 (ix2 r j)) (fun x d => x1 (ix2 x d)) (fun x d => x2 (ix2 x d)) := by
  have hcov := cover0_B_3 (F := Ideal) c i a2 h2 a3 h3 a4 h4 a5 h5 hc0 hc1 x0 x1 x2
  unfold out0_B_3
  rw [View.read_writes_eq_canon _ _ _ hcov]
  funext y
  refine View.canon_apply_of_pieces _ _ ?_ y (hcov y)
  unfold kernelRun0_B
  dsimp only
  sl_unfold_words
  simp only [View.readAt_eq_ld, h2.read_unread, h3.read_unread, h4.read_unread]
  simp only [List.forall_mem_cons, List.not_mem_nil, false_imp_iff, implies_true, and_true]
  refine ⟨fun x => ?_, fun x => ?_, fun x => ?_⟩
  · idx_vars x
    rw [emb_col 256 rfl (by decide), tile_ix _ _ _ 256 rfl (by decide)]
    refine (tileB_2 _ _ _ _ _).trans ?_
    pointwise
  · idx_vars x
    rw [emb_col 128 rfl (by decide), tile_ix _ _ _ 128 rfl (by decide)]
    refine (tileB_1 _ _ _ _ _).trans ?_
    pointwise
  · idx_vars x
    rw [emb_col 0 rfl (by decide), tile_ix _ _ _ 0 rfl (by decide)]
    refine (tileB_0 _ _ _ _ _).trans ?_
    pointwise

/-- At a tile of context rows the block attends to the first 256 rows. -/
theorem outA (hc0 hc1) :
    out0_A_3 (F := Ideal) c i a2 h2 a3 h3 a4 h4 a5 h5 hc0 hc1 x0 x1 x2
      = tile (fun r j => x0 (ix2 r j)) (fun (x : Fin 256) d => x1 (ix2 ⟨x.val, by omega⟩ d))
          (fun x d => x2 (ix2 ⟨x.val, by omega⟩ d)) := by
  have hcov := cover0_A_3 (F := Ideal) c i a2 h2 a3 h3 a4 h4 a5 h5 hc0 hc1 x0 x1 x2
  unfold out0_A_3
  rw [View.read_writes_eq_canon _ _ _ hcov]
  funext y
  refine View.canon_apply_of_pieces _ _ ?_ y (hcov y)
  unfold kernelRun0_A
  dsimp only
  sl_unfold_words
  simp only [View.readAt_eq_ld, h2.read_unread, h3.read_unread, h4.read_unread]
  simp only [List.forall_mem_cons, List.not_mem_nil, false_imp_iff, implies_true, and_true]
  refine ⟨fun x => ?_, fun x => ?_, fun x => ?_⟩
  · idx_vars x
    rw [emb_col 256 rfl (by decide), tile_ix _ _ _ 256 rfl (by decide)]
    refine (tileA_2 _ _ _ _ _).trans ?_
    pointwise
  · idx_vars x
    rw [emb_col 128 rfl (by decide), tile_ix _ _ _ 128 rfl (by decide)]
    refine (tileA_1 _ _ _ _ _).trans ?_
    pointwise
  · idx_vars x
    rw [emb_col 0 rfl (by decide), tile_ix _ _ _ 0 rfl (by decide)]
    refine (tileA_0 _ _ _ _ _).trans ?_
    pointwise

end

end Cert.Att
-- ==== Proof.AttArray.lean ====
/- The attention kernel's result array as one function of its queries, keys and values, index by index. -/
module

public import proofs.«01_k».proof.Proof.AttTile
public import Idealize.ShloMosaic.Lib.Pipeline.ValueKit

@[expose] public section

set_option maxRecDepth 16384

noncomputable section

namespace Cert.Att

open Cert.KernelIdeal Cert.KernelIdeal.Gen Idealize.ShloMosaic Idealize.ShloMosaic.TcCoe Idealize.SL.Sem
open Idealize.ShloMosaic.Pipeline (Dat)

/-- Row `x` of batch `R / 2304`. -/
def batchRow (R : Fin 73728) (x : ℕ) (hx : x < 2304) : Fin 73728 := ⟨2304 * (R.val / 2304) + x, by omega⟩

/-- The 128 lanes of the queries of row `R` in the column block of column `j`. -/
def queries (aq : S73728x384.Idx → EReal) (R : Fin 73728) (j : Fin 384) (d : Fin 128) : EReal :=
  aq (ix2 R ⟨128 * (j.val / 128) + d.val, by omega⟩)

/-- The first `n` rows of batch `R / 2304`. -/
def rows (n : ℕ) (hn : n ≤ 2304) (a : S73728x128.Idx → EReal) (R : Fin 73728) (x : Fin n) (d : Fin 128) : EReal :=
  a (ix2 (batchRow R x.val (by omega)) d)

/-- Attention, index by index: a context row attends to the 256 context rows of its batch, a latent row to all 2304. -/
def attention (aq : S73728x384.Idx → EReal) (ak av : S73728x128.Idx → EReal) (i : S73728x384.Idx) : EReal :=
  if (i 0 : Fin 73728).val % 2304 < 256 then
    pair (queries aq (i 0) (i 1)) (rows 256 (by decide) ak (i 0)) (rows 256 (by decide) av (i 0))
      ⟨(i 1 : Fin 384).val % 128, by omega⟩
  else
    pair (queries aq (i 0) (i 1)) (rows 2304 (by decide) ak (i 0)) (rows 2304 (by decide) av (i 0))
      ⟨(i 1 : Fin 384).val % 128, by omega⟩

/-- The tiles of queries and of the result follow the grid's order, 256 rows each. -/
theorem idx0 : ∀ t : Fin cfg0.N, win0_0.index t = ![t.val, 0] :=
  (by decide +kernel : ∀ t : Fin grid0.N, win0_0.index t = ![t.val, 0])

/-- The keys' blocks: one for the nine tiles of a batch. -/
theorem idx1 : ∀ t : Fin cfg0.N, win0_1.index t = ![t.val / 9, 0] :=
  (by decide +kernel : ∀ t : Fin grid0.N, win0_1.index t = ![t.val / 9, 0])

/-- The values' blocks: one for the nine tiles of a batch. -/
theorem idx2 : ∀ t : Fin cfg0.N, win0_2.index t = ![t.val / 9, 0] :=
  (by decide +kernel : ∀ t : Fin grid0.N, win0_2.index t = ![t.val / 9, 0])

theorem idx3 : ∀ t : Fin cfg0.N, win0_3.index t = ![t.val, 0] :=
  (by decide +kernel : ∀ t : Fin grid0.N, win0_3.index t = ![t.val, 0])

variable (m : (ℓ : Loc nD τ sig) → Buf (Elt Ideal) ℓ)

/-- The tile's queries: rows `256 t …` of the array. -/
theorem blk0 (c : Dev nD) (t : Fin cfg0.N) (r : Fin 256) (j : Fin 384) :
    (iblk m c 0 t : Vec Ideal S256x384 .bf16) (ix2 r j)
      = m ((c : Thread nD τ).loc main_arg0) (ix2 ⟨256 * t.val + r.val, by have : t.val < 288 := t.isLt; omega⟩ j) := by
  blk_simp [iblk]
  refine congrArg (m ((c : Thread nD τ).loc main_arg0)) ?_
  blk_ext [idx0]

/-- The tile's keys: rows `2304 (t / 9) …` of the array. -/
theorem blk1 (c : Dev nD) (t : Fin cfg0.N) (x : Fin 2304) (d : Fin 128) :
    (iblk m c 1 t : Vec Ideal S2304x128 .bf16) (ix2 x d)
      = m ((c : Thread nD τ).loc main_arg1) (ix2 ⟨2304 * (t.val / 9) + x.val, by have : t.val < 288 := t.isLt; omega⟩ d) := by
  blk_simp [iblk]
  refine congrArg (m ((c : Thread nD τ).loc main_arg1)) ?_
  blk_ext [idx1]

/-- The tile's values: rows `2304 (t / 9) …` of the array. -/
theorem blk2 (c : Dev nD) (t : Fin cfg0.N) (x : Fin 2304) (d : Fin 128) :
    (iblk m c 2 t : Vec Ideal S2304x128 .bf16) (ix2 x d)
      = m ((c : Thread nD τ).loc main_arg2) (ix2 ⟨2304 * (t.val / 9) + x.val, by have : t.val < 288 := t.isLt; omega⟩ d) := by
  blk_simp [iblk]
  refine congrArg (m ((c : Thread nD τ).loc main_arg2)) ?_
  blk_ext [idx2]

/-- Where a tile's element lies in the result array. -/
theorem emb3 (t : Fin cfg0.N) (r : Fin 256) (j : Fin 384) :
    (win0_3.blk t).view.emb (ix2 r j : S256x384.Idx)
      = (ix2 ⟨256 * t.val + r.val, by have : t.val < 288 := t.isLt; omega⟩ j : S73728x384.Idx) := by
  blk_ext [idx3]

/-- A tile of one column block's rows and the array's attention agree, given the rows that the tile attends to. -/
theorem tile_eq (n : ℕ) (hn : n ≤ 2304) (aq : S73728x384.Idx → EReal) (ak av : S73728x128.Idx → EReal) (t : ℕ) (ht : t < 288)
    (r : Fin 256) (j : Fin 384) :
    tile (fun r j => aq (ix2 ⟨256 * t + r.val, by omega⟩ j))
        (fun (x : Fin n) d => ak (ix2 ⟨2304 * (t / 9) + x.val, by omega⟩ d))
        (fun (x : Fin n) d => av (ix2 ⟨2304 * (t / 9) + x.val, by omega⟩ d)) (ix2 r j)
      = pair (queries aq ⟨256 * t + r.val, by omega⟩ j) (rows n hn ak ⟨256 * t + r.val, by omega⟩)
          (rows n hn av ⟨256 * t + r.val, by omega⟩) ⟨j.val % 128, by omega⟩ := by
  have hb : (256 * t + r.val) / 2304 = t / 9 := by omega
  have hk : ∀ a : S73728x128.Idx → EReal, (fun (x : Fin n) (d : Fin 128) => a (ix2 ⟨2304 * (t / 9) + x.val, by omega⟩ d))
      = rows n hn a ⟨256 * t + r.val, by omega⟩ := fun a => by
    funext x d
    unfold rows
    refine congrArg (fun R => a (ix2 R d)) (Fin.ext ?_)
    show 2304 * (t / 9) + x.val = 2304 * ((256 * t + r.val) / 2304) + x.val
    rw [hb]
  rw [hk, hk]
  rfl

/-- The result array ends holding the attention of the arguments. -/
theorem final (c : Dev nD) : (dats m 0 c).arrAt 3 cfg0.N
    = attention (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 288 := t.isLt
  obtain ⟨r, j, rfl⟩ : ∃ (r : Fin 256) (j : Fin 384), y = ix2 r j := ⟨y 0, y 1, eq_ix2 y⟩
  have he : ((cfg0.win 3).blk t).view.emb (ix2 r j : S256x384.Idx)
      = (ix2 ⟨256 * t.val + r.val, by omega⟩ j : S73728x384.Idx) := emb3 t r j
  blk_simp
  refine Eq.trans ?_ (congrArg (attention (m ((c : Thread nD τ).loc main_arg0)) (m ((c : Thread nD τ).loc main_arg1))
    (m ((c : Thread nD τ).loc main_arg2))) he).symm
  unfold attention
  by_cases h0 : t.val % 9 = 0
  · rw [after0_3, outsAt0_A m c t h0 (by omega), outA, if_pos (by show (256 * t.val + r.val) % 2304 < 256; omega)]
    simp only [blk0, blk1, blk2]
    exact tile_eq 256 (by decide) _ _ _ t.val hN r j
  · rw [after0_3, outsAt0_B m c t h0 (by omega), outB, if_neg (by show ¬ (256 * t.val + r.val) % 2304 < 256; omega)]
    simp only [blk0, blk1, blk2]
    exact tile_eq 2304 (by decide) _ _ _ t.val hN r j

end Cert.Att
-- ==== Proof.AttRef.lean ====
/- The reference's result read at an index: the softmax over the context rows for a context row, over all rows for a
   latent row, in the arithmetic of the kernel's result array. -/
module

public import proofs.«01_k».proof.Proof.AttArray
public import proofs.«01_k».proof.Proof.Gen.ReferenceIdeal.Read

@[expose] public section

set_option maxRecDepth 16384

noncomputable section

namespace Cert.Att

open Cert.ReferenceIdeal Cert.ReferenceIdeal.Gen Cert.ReferenceIdeal.Read Idealize.ShloMosaic

variable (x0 : Vec Ideal S73728x384 .bf16) (x1 x2 : Vec Ideal S73728x128 .bf16)

theorem half_ix (h : Fin 2) (d : Fin 64) : half ⟨64 * h.val + d.val, by omega⟩ = h :=
  Fin.ext (by show (64 * h.val + d.val) / 64 = h.val; omega)

/-- The values reshaped into their heads. -/
theorem ref_values (b : Fin 32) (k : Fin 2304) (h : Fin 2) (d : Fin 64) :
    val_main_v6 (F := Ideal) x2 (ix4 b k h d) = x2 (ix2 ⟨2304 * b.val + k.val, by omega⟩ ⟨64 * h.val + d.val, by omega⟩) := by
  pointwise [val_main_v6, val_main_v5, mul_comm]

section
variable (b : Fin 32) (h : Fin 2) (g : Fin 3) (q : Fin 256) (d : Fin 64)

/-- The scores of a context row. -/
theorem ref_scores_ctx (k : Fin 256) : val_main_v11 (F := Ideal) x0 x1 (ix5 b h g q k)
    = scores (fun l => x0 (ix2 ⟨2304 * b.val + q.val, by omega⟩ ⟨128 * g.val + l.val, by omega⟩))
        (fun (k : Fin 256) l => x1 (ix2 ⟨2304 * b.val + k.val, by omega⟩ l)) h k := by
  unfold scores
  pointwise [val_main_v11, val_main_v10, val_main_v7, val_main_v8, val_main_v4, val_main_v3, val_main_v2, val_main_v1, val_main_v0]
  refine Finset.sum_congr rfl fun y _ => (mul_comm _ _).trans (congrArg₂ (· * ·) (congrArg x0 ?_) (congrArg x1 ?_))
  · exact congrArg₂ ix2 (Fin.ext (by simp only [mul_comm])) (Fin.ext (by simp only; omega))
  · exact congrArg₂ ix2 (Fin.ext (by simp only [mul_comm])) (Fin.ext (by simp only [mul_comm]))

/-- Their largest. -/
theorem ref_top_ctx : val_main_v12 (F := Ideal) x0 x1 (ix4 b h g q) = top fun k => val_main_v11 (F := Ideal) x0 x1 (ix5 b h g q k) := by
  unfold val_main_v12
  generalize val_main_v11 (F := Ideal) x0 x1 = S
  pointwise [val_main_cst, ofBits_negInf, top]

/-- The largest, spread along the row. -/
theorem ref_top_row_ctx (k : Fin 256) : val_main_v16 (F := Ideal) x0 x1 (ix5 b h g q k) = val_main_v12 (F := Ideal) x0 x1 (ix4 b h g q) := by
  have e : idx_main_v15 (idx_main_v16 (ix5 b h g q k)) = ix4 b h g q :=
    funext fun a => match a with | ⟨0, _⟩ => rfl | ⟨1, _⟩ => rfl | ⟨2, _⟩ => rfl | ⟨3, _⟩ => rfl
  rw [val_main_v16_apply, val_main_v15_apply, e, val_main_v14_apply, val_main_v13_apply, val_main_cst_0_apply]
  generalize val_main_v12 (F := Ideal) x0 x1 (ix4 b h g q) = z
  rw [Ideal.maximumf_def, show (FloatOps.ofBits .f32 0xFF800000#32 : Ideal .f32) = ⊥ from ofBits_negInf]
  exact max_eq_right bot_le

/-- The exponentials. -/
theorem ref_exp_ctx (k : Fin 256) : val_main_v18 (F := Ideal) x0 x1 (ix5 b h g q k)
    = Ideal.exp (val_main_v11 (F := Ideal) x0 x1 (ix5 b h g q k) - top fun k => val_main_v11 (F := Ideal) x0 x1 (ix5 b h g q k)) := by
  rw [val_main_v18_apply, val_main_v17_apply, ref_top_row_ctx, ref_top_ctx]
  rfl

/-- Their sum, spread along the row. -/
theorem ref_sum_ctx (k : Fin 256) : val_main_v21 (F := Ideal) x0 x1 (ix5 b h g q k) = ∑ k, val_main_v18 (F := Ideal) x0 x1 (ix5 b h g q k) := by
  unfold val_main_v21 val_main_v20 val_main_v19
  generalize val_main_v18 (F := Ideal) x0 x1 = S
  pointwise [val_main_cst_1]

/-- The weights times the values. -/
theorem ref_dot_ctx : val_main_v24 (F := Ideal) x0 x1 x2 (ix5 b q h g d)
    = ∑ k : Fin 256, val_main_v6 (F := Ideal) x2 (ix4 b ⟨k.val, by omega⟩ h d) * val_main_v22 (F := Ideal) x0 x1 (ix5 b h g q k) := by
  unfold val_main_v24 val_main_v23 val_main_v9
  generalize val_main_v22 (F := Ideal) x0 x1 = S
  generalize val_main_v6 (F := Ideal) x2 = T
  pointwise

/-- A context row's element. -/
theorem ref_ctx (hq : ∀ i, Real' (x0 i)) (hk : ∀ i, Real' (x1 i)) : val_main_v24 (F := Ideal) x0 x1 x2 (ix5 b q h g d)
    = pair (fun l => x0 (ix2 ⟨2304 * b.val + q.val, by omega⟩ ⟨128 * g.val + l.val, by omega⟩))
        (fun (k : Fin 256) l => x1 (ix2 ⟨2304 * b.val + k.val, by omega⟩ l))
        (fun (k : Fin 256) l => x2 (ix2 ⟨2304 * b.val + k.val, by omega⟩ l)) ⟨64 * h.val + d.val, by omega⟩ := by
  unfold pair
  rw [half_ix, ← attend_eq _ _ (by decide) (fun k => scores_finite _ _ _ _ (fun _ => hq _) (fun _ _ => hk _)), ref_dot_ctx]
  refine Finset.sum_congr rfl fun k _ => ?_
  rw [ref_values, val_main_v22_apply, ref_sum_ctx]
  simp only [ref_exp_ctx, ref_scores_ctx]
  rfl

end

section
variable (b : Fin 32) (h : Fin 2) (g : Fin 3) (q : Fin 2048) (d : Fin 64)

/-- The scores of a latent row. -/
theorem ref_scores_lat (k : Fin 2304) : val_main_v27 (F := Ideal) x0 x1 (ix5 b h g q k)
    = scores (fun l => x0 (ix2 ⟨2304 * b.val + (256 + q.val), by omega⟩ ⟨128 * g.val + l.val, by omega⟩))
        (fun (k : Fin 2304) l => x1 (ix2 ⟨2304 * b.val + k.val, by omega⟩ l)) h k := by
  unfold scores
  pointwise [val_main_v27, val_main_v26, val_main_v25, val_main_v4, val_main_v3, val_main_v2, val_main_v1, val_main_v0]
  refine Finset.sum_congr rfl fun y _ => (mul_comm _ _).trans (congrArg₂ (· * ·) (congrArg x0 ?_) (congrArg x1 ?_))
  · exact congrArg₂ ix2 (Fin.ext (by simp only [mul_comm])) (Fin.ext (by simp only; omega))
  · exact congrArg₂ ix2 (Fin.ext (by simp only [mul_comm])) (Fin.ext (by simp only [mul_comm]))

/-- Their largest. -/
theorem ref_top_lat : val_main_v28 (F := Ideal) x0 x1 (ix4 b h g q) = top fun k => val_main_v27 (F := Ideal) x0 x1 (ix5 b h g q k) := by
  unfold val_main_v28
  generalize val_main_v27 (F := Ideal) x0 x1 = S
  pointwise [val_main_cst_2, ofBits_negInf, top]

/-- The largest, spread along the row. -/
theorem ref_top_row_lat (k : Fin 2304) : val_main_v32 (F := Ideal) x0 x1 (ix5 b h g q k) = val_main_v28 (F := Ideal) x0 x1 (ix4 b h g q) := by
  have e : idx_main_v31 (idx_main_v32 (ix5 b h g q k)) = ix4 b h g q :=
    funext fun a => match a with | ⟨0, _⟩ => rfl | ⟨1, _⟩ => rfl | ⟨2, _⟩ => rfl | ⟨3, _⟩ => rfl
  rw [val_main_v32_apply, val_main_v31_apply, e, val_main_v30_apply, val_main_v29_apply, val_main_cst_3_apply]
  generalize val_main_v28 (F := Ideal) x0 x1 (ix4 b h g q) = z
  rw [Ideal.maximumf_def, show (FloatOps.ofBits .f32 0xFF800000#32 : Ideal .f32) = ⊥ from ofBits_negInf]
  exact max_eq_right bot_le

/-- The exponentials. -/
theorem ref_exp_lat (k : Fin 2304) : val_main_v34 (F := Ideal) x0 x1 (ix5 b h g q k)
    = Ideal.exp (val_main_v27 (F := Ideal) x0 x1 (ix5 b h g q k) - top fun k => val_main_v27 (F := Ideal) x0 x1 (ix5 b h g q k)) := by
  rw [val_main_v34_apply, val_main_v33_apply, ref_top_row_lat, ref_top_lat]
  rfl

/-- Their sum, spread along the row. -/
theorem ref_sum_lat (k : Fin 2304) : val_main_v37 (F := Ideal) x0 x1 (ix5 b h g q k) = ∑ k, val_main_v34 (F := Ideal) x0 x1 (ix5 b h g q k) := by
  unfold val_main_v37 val_main_v36 val_main_v35
  generalize val_main_v34 (F := Ideal) x0 x1 = S
  pointwise [val_main_cst_4]

/-- The weights times the values. -/
theorem ref_dot_lat : val_main_v40 (F := Ideal) x0 x1 x2 (ix5 b q h g d)
    = ∑ k : Fin 2304, val_main_v6 (F := Ideal) x2 (ix4 b k h d) * val_main_v38 (F := Ideal) x0 x1 (ix5 b h g q k) := by
  unfold val_main_v40 val_main_v39
  generalize val_main_v38 (F := Ideal) x0 x1 = S
  generalize val_main_v6 (F := Ideal) x2 = T
  pointwise

/-- A latent row's element. -/
theorem ref_lat (hq : ∀ i, Real' (x0 i)) (hk : ∀ i, Real' (x1 i)) : val_main_v40 (F := Ideal) x0 x1 x2 (ix5 b q h g d)
    = pair (fun l => x0 (ix2 ⟨2304 * b.val + (256 + q.val), by omega⟩ ⟨128 * g.val + l.val, by omega⟩))
        (fun (k : Fin 2304) l => x1 (ix2 ⟨2304 * b.val + k.val, by omega⟩ l))
        (fun (k : Fin 2304) l => x2 (ix2 ⟨2304 * b.val + k.val, by omega⟩ l)) ⟨64 * h.val + d.val, by omega⟩ := by
  unfold pair
  rw [half_ix, ← attend_eq _ _ (by decide) (fun k => scores_finite _ _ _ _ (fun _ => hq _) (fun _ _ => hk _)), ref_dot_lat]
  refine Finset.sum_congr rfl fun k _ => ?_
  rw [ref_values, val_main_v38_apply, ref_sum_lat]
  simp only [ref_exp_lat, ref_scores_lat]
  rfl

end

/-- The two kinds of rows side by side, and the heads back in their columns. -/
theorem ref_join (A : Vec Ideal S32x256x2x3x64 .f32) (B : Vec Ideal S32x2048x2x3x64 .f32)
    (hA : val_main_v24 (F := Ideal) x0 x1 x2 = A) (hB : val_main_v40 (F := Ideal) x0 x1 x2 = B) (R : Fin 73728) (j : Fin 384) :
    val_main_v44 (F := Ideal) x0 x1 x2 (ix2 R j)
      = if h : R.val % 2304 < 256 then
          A (ix5 ⟨R.val / 2304, by omega⟩ ⟨R.val % 2304, h⟩ ⟨j.val / 64 % 2, by omega⟩ ⟨j.val / 128, by omega⟩ ⟨j.val % 64, by omega⟩)
        else
          B (ix5 ⟨R.val / 2304, by omega⟩ ⟨R.val % 2304 - 256, by omega⟩ ⟨j.val / 64 % 2, by omega⟩ ⟨j.val / 128, by omega⟩
            ⟨j.val % 64, by omega⟩) := by
  unfold val_main_v44 val_main_v43 val_main_v42 val_main_v41
  rw [hA, hB]
  pointwise

/-- A row's element of the reference is the kernel's, once row and column are put together again. -/
theorem pair_rows (n : ℕ) (hn : n ≤ 2304) (R : Fin 73728) (j : Fin 384) (a : ℕ) (ha : 2304 * (R.val / 2304) + a = R.val) :
    pair (fun l => x0 (ix2 ⟨2304 * (R.val / 2304) + a, by omega⟩ ⟨128 * (j.val / 128) + l.val, by omega⟩))
        (fun (k : Fin n) l => x1 (ix2 ⟨2304 * (R.val / 2304) + k.val, by omega⟩ l))
        (fun (k : Fin n) l => x2 (ix2 ⟨2304 * (R.val / 2304) + k.val, by omega⟩ l))
        ⟨64 * (j.val / 64 % 2) + j.val % 64, by omega⟩
      = pair (queries x0 R j) (rows n hn x1 R) (rows n hn x2 R) ⟨j.val % 128, by omega⟩ := by
  have hq : (fun l : Fin 128 => x0 (ix2 ⟨2304 * (R.val / 2304) + a, by omega⟩ ⟨128 * (j.val / 128) + l.val, by omega⟩))
      = queries x0 R j := funext fun l => congrArg (fun r => x0 (ix2 r _)) (Fin.ext ha)
  rw [hq]
  exact congrArg (pair (queries x0 R j) (rows n hn x1 R) (rows n hn x2 R))
    (Fin.ext (by show 64 * (j.val / 64 % 2) + j.val % 64 = j.val % 128; omega))

/-- The reference's result is the attention of its arguments, where queries and keys are finite. -/
theorem ref_attention (hq : ∀ i, Real' (x0 i)) (hk : ∀ i, Real' (x1 i)) :
    val_main_v44 (F := Ideal) x0 x1 x2 = attention x0 x1 x2 := by
  funext i
  obtain ⟨R, j, rfl⟩ : ∃ (R : Fin 73728) (j : Fin 384), i = ix2 R j := ⟨i 0, i 1, eq_ix2 i⟩
  refine (ref_join x0 x1 x2 _ _ rfl rfl R j).trans ?_
  have hL : attention x0 x1 x2 (ix2 R j) = if R.val % 2304 < 256 then
      pair (queries x0 R j) (rows 256 (by decide) x1 R) (rows 256 (by decide) x2 R) ⟨j.val % 128, by omega⟩
    else
      pair (queries x0 R j) (rows 2304 (by decide) x1 R) (rows 2304 (by decide) x2 R) ⟨j.val % 128, by omega⟩ := rfl
  rw [hL]
  by_cases h0 : R.val % 2304 < 256
  · rw [dif_pos h0, if_pos h0, ref_ctx x0 x1 x2 _ _ _ _ _ hq hk]
    exact pair_rows x0 x1 x2 256 (by decide) R j (R.val % 2304) (by omega)
  · rw [dif_neg h0, if_neg h0, ref_lat x0 x1 x2 _ _ _ _ _ hq hk]
    exact pair_rows x0 x1 x2 2304 (by decide) R j (256 + (R.val % 2304 - 256)) (by omega)

end Cert.Att
-- ==== Proof.AttFinite.lean ====
/- The precondition read back: every query and every key is a real number. -/
module

public import proofs.«01_k».proof.Proof.AttMath
public import proofs.«01_k».proof.Pre_finite_scores
public import Idealize.ShloMosaic.Lib.ReduceAll

@[expose] public section

set_option maxRecDepth 16384

noncomputable section

namespace Cert.Att

open Idealize.ShloMosaic

/-- A value whose magnitude is below plus infinity is a real number. -/
theorem real_of_abs_lt (x : Ideal .f32)
    (e : FloatOps.cmpf .olt (FloatOps.hostAbsf x) (FloatOps.ofBits (F := Ideal) .f32 0x7F800000#32) = 1#1) :
    Real' (x : EReal) := by
  have e' : Ideal.cmp .olt (max (x : EReal) (-(x : EReal))) (Ideal.ofBits .f32 0x7F800000#32) = 1#1 := e
  rw [ofBits_posInf, Ideal.cmp_olt] at e'
  have hlt : max (x : EReal) (-(x : EReal)) < ⊤ := by
    by_contra hn
    rw [decide_eq_false hn] at e'
    exact absurd e' (by decide)
  have h1 : (x : EReal) ≠ ⊤ := fun h => absurd hlt (by rw [h]; simp)
  have h2 : (x : EReal) ≠ ⊥ := fun h => absurd hlt (by rw [h]; simp)
  exact ⟨EReal.toReal x, (EReal.coe_toReal h1 h2).symm⟩

/-- The precondition says that queries and keys are real numbers. -/
theorem finite_of_pre [Cert.Pre_finite_scores.Facts] (q : FVec Ideal Cert.Pre_finite_scores.S73728x384 .bf16)
    (k v : FVec Ideal Cert.Pre_finite_scores.S73728x128 .bf16)
    (h : Cert.Pre_finite_scores.fn (F := Ideal) q k v = fun _ => 1#1) :
    (∀ i, Real' (q i)) ∧ (∀ i, Real' (k i)) := by
  have e := congrFun h (fun a => a.elim0)
  dsimp only [Cert.Pre_finite_scores.fn] at e
  obtain ⟨eq, ek⟩ := IntOp.andi_eq_one.1 e
  haveI : Subsingleton Cert.Pre_finite_scores.S_.Idx := ⟨fun a b => funext fun x => x.elim0⟩
  exact ⟨fun i => real_of_abs_lt _ (Host.reduce_andi_all _ _ _ _ _ eq i),
    fun i => real_of_abs_lt _ (Host.reduce_andi_all _ _ _ _ _ ek i)⟩

end Cert.Att

end
-- ==== Proof.FfnRun1.lean ====
/-
  The body's run in one of its five cases: what its stores leave in the output block and in the three scratch buffers.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first step: the first half of the previous tile is finished, the tile is modulated and its first chunks are accumulated. -/
def run1 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : k0_cond1 i = 1#1) (hc2 : ¬k0_cond2 i = 1#1) (hc3 : ¬k0_cond3 i = 1#1) (hc4 : ¬k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .f32) × List (View.Piece (Elt F) S768x1024 .bf16) × List (View.Piece (Elt F) S2x768x1024 .f32) × List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} arg10.view.writes (Elt F) (harg10.unread x10) L.1) ∗ (arg11.view.loc (c : Thread nD τ) ↦[arg11.view.set]{fullShare} arg11.view.writes (Elt F) (harg11.unread x11) L.2.1) ∗ (arg12.view.loc (c : Thread nD τ) ↦[arg12.view.set]{fullShare} arg12.view.writes (Elt F) (harg12.unread x12) L.2.2.1) ∗ (arg13.view.loc (c : Thread nD τ) ↦[arg13.view.set]{fullShare} arg13.view.writes (Elt F) (harg13.unread x13) L.2.2.2)) -∗ K ⟨⟩))
          ⊢ wp frame (wpE (defs₀ (F := F)) Variants.none c none) E (cc0_ffn2 i arg2 harg2 arg3 harg3 arg4 harg4 arg5 harg5 arg6 harg6 arg7 harg7 arg8 harg8 arg9 harg9 arg10 harg10 arg11 harg11 arg12 harg12 arg13 harg13) K } := by
  refine ⟨(?_, ?_, ?_, ?_), fun E K => ?run⟩
  case run =>
    simp only [cc0_ffn2_eq_skeleton]; unfold cc0_ffn2_skel
    simp only [k0_part82_eq_skeleton, k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexact H10
    isplitl [H11]
    · iexact H11
    isplitl [H12]
    · iexact H12
    iexact H13

end Cert.Ffn

end
-- ==== Proof.FfnRun2.lean ====
/-
  The body's run in one of its five cases: what its stores leave in the output block and in the three scratch buffers.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first step of the first tile: the tile is modulated and its first chunks are accumulated. -/
def run2 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : k0_cond2 i = 1#1) (hc3 : ¬k0_cond3 i = 1#1) (hc4 : ¬k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .bf16) × List (View.Piece (Elt F) S2x768x1024 .f32) × List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L.1) ∗ (arg12.view.loc (c : Thread nD τ) ↦[arg12.view.set]{fullShare} arg12.view.writes (Elt F) (harg12.unread x12) L.2.1) ∗ (arg13.view.loc (c : Thread nD τ) ↦[arg13.view.set]{fullShare} arg13.view.writes (Elt F) (harg13.unread x13) L.2.2)) -∗ K ⟨⟩))
          ⊢ wp frame (wpE (defs₀ (F := F)) Variants.none c none) E (cc0_ffn2 i arg2 harg2 arg3 harg3 arg4 harg4 arg5 harg5 arg6 harg6 arg7 harg7 arg8 harg8 arg9 harg9 arg10 harg10 arg11 harg11 arg12 harg12 arg13 harg13) K } := by
  refine ⟨(?_, ?_, ?_), fun E K => ?run⟩
  case run =>
    simp only [cc0_ffn2_eq_skeleton]; unfold cc0_ffn2_skel
    simp only [k0_part82_eq_skeleton, k0_part28_eq_skeleton, k0_part29_eq_skeleton, k0_part30_eq_skeleton, k0_part31_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexact H12
    iexact H13

end Cert.Ffn

end
-- ==== Proof.FfnRun3.lean ====
/-
  The body's run in one of its five cases: what its stores leave in the output block and in the three scratch buffers.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a second step: the second half of the previous tile is finished and the remaining chunks are accumulated. -/
def run3 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : ¬k0_cond2 i = 1#1) (hc3 : k0_cond3 i = 1#1) (hc4 : ¬k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .f32) × List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg13 fullShare x13 ∗ (arg10.view.loc (c : Thread nD τ) ↦[arg10.view.set]{fullShare} arg10.view.writes (Elt F) (harg10.unread x10) L.1) ∗ (arg12.view.loc (c : Thread nD τ) ↦[arg12.view.set]{fullShare} arg12.view.writes (Elt F) (harg12.unread x12) L.2)) -∗ K ⟨⟩))
          ⊢ wp frame (wpE (defs₀ (F := F)) Variants.none c none) E (cc0_ffn2 i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc0_ffn2_eq_skeleton]; unfold cc0_ffn2_skel
    simp only [k0_part82_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    isplitl [H13]
    · iexists _; isplitr; · ipureintro; exact harg13.read_unread _
      iexact H13
    isplitl [H10]
    · iexact H10
    iexact H12

end Cert.Ffn

end
-- ==== Proof.FfnRun4.lean ====
/-
  The body's run in one of its five cases: what its stores leave in the output block and in the three scratch buffers.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the second step of the first tile: the remaining chunks are accumulated. -/
def run4 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : ¬k0_cond2 i = 1#1) (hc3 : ¬k0_cond3 i = 1#1) (hc4 : k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare x13 ∗ (arg12.view.loc (c : Thread nD τ) ↦[arg12.view.set]{fullShare} arg12.view.writes (Elt F) (harg12.unread x12) L)) -∗ K ⟨⟩))
          ⊢ wp frame (wpE (defs₀ (F := F)) Variants.none c none) E (cc0_ffn2 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn2_eq_skeleton]; unfold cc0_ffn2_skel
    simp only [k0_part82_eq_skeleton, k0_part57_eq_skeleton, k0_part58_eq_skeleton, k0_part59_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; isplitr; · ipureintro; exact harg13.read_unread _
      iexact H13
    iexact H12

end Cert.Ffn

end
-- ==== Proof.FfnRun5.lean ====
/-
  The body's run in one of its five cases: what its stores leave in the output block and in the three scratch buffers.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the last tile row: the previous tile is finished, and nothing is accumulated. -/
def run5 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : ¬k0_cond2 i = 1#1) (hc3 : ¬k0_cond3 i = 1#1) (hc4 : ¬k0_cond4 i = 1#1) (hc5 : k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13 ∗ (arg10.view.loc (c : Thread nD τ) ↦[arg10.view.set]{fullShare} arg10.view.writes (Elt F) (harg10.unread x10) L)) -∗ K ⟨⟩))
          ⊢ wp frame (wpE (defs₀ (F := F)) Variants.none c none) E (cc0_ffn2 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn2_eq_skeleton]; unfold cc0_ffn2_skel
    simp only [k0_part82_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexact H10

end Cert.Ffn

end
-- ==== Proof.FfnData.lean ====
/-
  The feed-forward kernel's frame, over any float values: what each grid point does to the three scratch buffers and
  to the output block (`Trans`), the states the scratch buffers can be in before a point (`Reach`), and the run of the
  whole launch with every array, scratch buffer and counter accounted for.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic
public import proofs.«01_k».proof.Proof.FfnRun1
public import proofs.«01_k».proof.Proof.FfnRun2
public import proofs.«01_k».proof.Proof.FfnRun3
public import proofs.«01_k».proof.Proof.FfnRun4
public import proofs.«01_k».proof.Proof.FfnRun5

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs at a point -/

abbrev ms0 (t : Fin cfg0.N) : Memref sig .tc .vmem S768x1024 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S1x9x1024 .f32 := win0_1.stage (cfg0.slots t 1)
theorem hs1 (t : Fin cfg0.N) : (ms1 t).IsWhole := hstage0_1 ((cfg0.slots t 1).cast nbuf0_1)
abbrev ms2 (t : Fin cfg0.N) : Memref sig .tc .vmem S1x9x1024 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S1x9x1024 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S6x1024x512 .bf16 := win0_4.stage (cfg0.slots t 4)
theorem hs4 (t : Fin cfg0.N) : (ms4 t).IsWhole := hstage0_4 ((cfg0.slots t 4).cast nbuf0_4)
abbrev ms5 (t : Fin cfg0.N) : Memref sig .tc .vmem S6x256x1024 .bf16 := win0_5.stage (cfg0.slots t 5)
theorem hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S768x1024 .f32 := win0_8.stage (cfg0.slots t 8)
theorem hs8 (t : Fin cfg0.N) : (ms8 t).IsWhole := hstage0_8 ((cfg0.slots t 8).cast nbuf0_8)

/-- The three scratch buffers: the modulated tile, the two accumulators, the two kept tiles. -/
abbrev sc0 : Memref sig .tc .vmem S768x1024 .bf16 := Memref.whole cc0_scratch0
abbrev sc1 : Memref sig .tc .vmem S2x768x1024 .f32 := Memref.whole cc0_scratch1
abbrev sc2 : Memref sig .tc .vmem S2x768x1024 .f32 := Memref.whole cc0_scratch2

/-- What a memref reads once the pieces `L` have been written over `x`. -/
abbrev over {S : Shape} {e : EltTy} (M : Memref sig .tc .vmem S e) (h : M.IsWhole) (c : Dev nD) (x : Vec F S e) (L : List (View.Piece (Elt F) S e)) : Vec F S e :=
  M.view.read (Elt F) (M.view.writes (Elt F) (h.unread x) L)

theorem owns_over {S : Shape} {e : EltTy} (M : Memref sig .tc .vmem S e) (h : M.IsWhole) (c : Dev nD) (x : Vec F S e) (L : List (View.Piece (Elt F) S e)) :
    (M.view.loc (c : Thread nD τ) ↦[M.view.set]{fullShare} M.view.writes (Elt F) (h.unread x) L : sProp 𝕄)
      ⊢ owns (c : Thread nD τ) M fullShare (over M h c x L) := by
  iintro H
  unfold owns
  iexists _
  isplitr
  · ipureintro; rfl
  · iexact H

/-- The scratch buffers' contents. -/
structure St (F : FTy → Type) [FloatOps F] where
  hm : Vec F S768x1024 .bf16
  acc : Vec F S2x768x1024 .f32
  xk : Vec F S2x768x1024 .f32

/-! ## What a point does -/

/-- The state after The body at a first step: the first half of the previous tile is finished, the tile is modulated and its first chunks are accumulated. -/
def next1 (m : (ℓ : Loc nD τ sig) → Buf (Elt F) ℓ) (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) : St F :=
  (⟨(over (sc0) (Memref.isWhole_whole _) c s.hm (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1), (over (sc1) (Memref.isWhole_whole _) c s.acc (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.1), (over (sc2) (Memref.isWhole_whole _) c s.xk (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.2)⟩ : St F)

/-- The output block after it. -/
def outp1 (m : (ℓ : Loc nD τ sig) → Buf (Elt F) ℓ) (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) : Vec F S768x1024 .f32 :=
  (over (ms8 t) (hs8 t) c Y (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1)
/-- The body at a first step: the first half of the previous tile is finished, the tile is modulated and its first chunks are accumulated. -/
def Case1 (c : Dev nD) (t : Fin cfg0.N) (s s' : St F) (Y X : Vec F S768x1024 .f32) : Prop :=
  ∃ (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1), X = outp1 m c t Y s hc1 hc2 hc3 hc4 hc5 ∧ s' = next1 m c t Y s hc1 hc2 hc3 hc4 hc5

/-- The state after The body at the first step of the first tile: the tile is modulated and its first chunks are accumulated. -/
def next2 (m : (ℓ : Loc nD τ sig) → Buf (Elt F) ℓ) (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) : St F :=
  (⟨(over (sc0) (Memref.isWhole_whole _) c s.hm (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1), (over (sc1) (Memref.isWhole_whole _) c s.acc (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1), (over (sc2) (Memref.isWhole_whole _) c s.xk (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2)⟩ : St F)

/-- The output block after it. -/
def outp2 (m : (ℓ : Loc nD τ sig) → Buf (Elt F) ℓ) (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) : Vec F S768x1024 .f32 :=
  Y
/-- The body at the first step of the first tile: the tile is modulated and its first chunks are accumulated. -/
def Case2 (c : Dev nD) (t : Fin cfg0.N) (s s' : St F) (Y X : Vec F S768x1024 .f32) : Prop :=
  ∃ (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1), X = outp2 m c t Y s hc1 hc2 hc3 hc4 hc5 ∧ s' = next2 m c t Y s hc1 hc2 hc3 hc4 hc5

/-- The state after The body at a second step: the second half of the previous tile is finished and the remaining chunks are accumulated. -/
def next3 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) : St F :=
  (⟨s.hm, (over (sc1) (Memref.isWhole_whole _) c s.acc (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2), s.xk⟩ : St F)

/-- The output block after it. -/
def outp3 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) : Vec F S768x1024 .f32 :=
  (over (ms8 t) (hs8 t) c Y (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1)
/-- The body at a second step: the second half of the previous tile is finished and the remaining chunks are accumulated. -/
def Case3 (c : Dev nD) (t : Fin cfg0.N) (s s' : St F) (Y X : Vec F S768x1024 .f32) : Prop :=
  ∃ (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1), X = outp3 m c t Y s hc1 hc2 hc3 hc4 hc5 ∧ s' = next3 m c t Y s hc1 hc2 hc3 hc4 hc5

/-- The state after The body at the second step of the first tile: the remaining chunks are accumulated. -/
def next4 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) : St F :=
  (⟨s.hm, (over (sc1) (Memref.isWhole_whole _) c s.acc (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1), s.xk⟩ : St F)

/-- The output block after it. -/
def outp4 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) : Vec F S768x1024 .f32 :=
  Y
/-- The body at the second step of the first tile: the remaining chunks are accumulated. -/
def Case4 (c : Dev nD) (t : Fin cfg0.N) (s s' : St F) (Y X : Vec F S768x1024 .f32) : Prop :=
  ∃ (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1), X = outp4 m c t Y s hc1 hc2 hc3 hc4 hc5 ∧ s' = next4 m c t Y s hc1 hc2 hc3 hc4 hc5

/-- The state after The body at a point of the last tile row: the previous tile is finished, and nothing is accumulated. -/
def next5 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) : St F :=
  (⟨s.hm, s.acc, s.xk⟩ : St F)

/-- The output block after it. -/
def outp5 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) : Vec F S768x1024 .f32 :=
  (over (ms8 t) (hs8 t) c Y (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1)
/-- The body at a point of the last tile row: the previous tile is finished, and nothing is accumulated. -/
def Case5 (c : Dev nD) (t : Fin cfg0.N) (s s' : St F) (Y X : Vec F S768x1024 .f32) : Prop :=
  ∃ (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1), X = outp5 m c t Y s hc1 hc2 hc3 hc4 hc5 ∧ s' = next5 m c t Y s hc1 hc2 hc3 hc4 hc5

/-- A point takes the scratch from `s` to `s'` and the output block from `Y` to `X`. -/
def Trans (c : Dev nD) (t : Fin cfg0.N) (s s' : St F) (Y X : Vec F S768x1024 .f32) : Prop :=
  Case1 m c t s s' Y X ∨ Case2 m c t s s' Y X ∨ Case3 m c t s s' Y X ∨ Case4 m c t s s' Y X ∨ Case5 m c t s s' Y X

/-- The states the scratch can be in before point `n`. -/
inductive Reach (c : Dev nD) : ℕ → St F → Prop
  | start (s : St F) : Reach c 0 s
  | step (t : Fin cfg0.N) (s s' : St F) (Y X : Vec F S768x1024 .f32) : Reach c t.val s → Trans m c t s s' Y X → Reach c (t.val + 1) s'

/-- Every point is in exactly one of the five cases. -/
theorem cases_at : ∀ t : Fin cfg0.N,
    (k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1) ∨ (¬k0_cond1 (grid0.coords t) = 1#1 ∧ k0_cond2 (grid0.coords t) = 1#1 ∧ ¬k0_cond3 (grid0.coords t) = 1#1 ∧ ¬k0_cond4 (grid0.coords t) = 1#1 ∧ ¬k0_cond5 (grid0.coords t) = 1#1) ∨ (¬k0_cond1 (grid0.coords t) = 1#1 ∧ ¬k0_cond2 (grid0.coords t) = 1#1 ∧ k0_cond3 (grid0.coords t) = 1#1 ∧ ¬k0_cond4 (grid0.coords t) = 1#1 ∧ ¬k0_cond5 (grid0.coords t) = 1#1) ∨ (¬k0_cond1 (grid0.coords t) = 1#1 ∧ ¬k0_cond2 (grid0.coords t) = 1#1 ∧ ¬k0_cond3 (grid0.coords t) = 1#1 ∧ k0_cond4 (grid0.coords t) = 1#1 ∧ ¬k0_cond5 (grid0.coords t) = 1#1) ∨ (¬k0_cond1 (grid0.coords t) = 1#1 ∧ ¬k0_cond2 (grid0.coords t) = 1#1 ∧ ¬k0_cond3 (grid0.coords t) = 1#1 ∧ ¬k0_cond4 (grid0.coords t) = 1#1 ∧ k0_cond5 (grid0.coords t) = 1#1) := by
  decide +kernel

/-! ## The pipeline's data -/

/-- The scratch buffers at some state reachable before point `n`. -/
def scratch (c : Dev nD) (n : ℕ) : sProp 𝕄 :=
  iprop(∃ s : St F, ⌜Reach m c n s⌝ ∗ owns (c : Thread nD τ) sc0 fullShare s.hm ∗ owns (c : Thread nD τ) sc1 fullShare s.acc ∗ owns (c : Thread nD τ) sc2 fullShare s.xk)

/-- The launch's data: the inputs' blocks stay as found, the output block changes as some reachable state has it. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => ∃ s s' : St F, Reach m c t.val s ∧ Trans m c t s s' Y X
  Φ t := iprop(scratch m c t.val ∗ (∃ r, prngReg c r))
  q w := Pipeline.shareOf spec0 w
  owed _ := 0

theorem A_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = iblk m c 0 t := by
  obtain ⟨d, e⟩ := (rdat m c).finds_in_eq_fetched 0 rfl (fun _ _ _ => rfl) (fun _ _ _ h => h) t Y h
  rw [e]; unfold Pipeline.RDat.fetched Pipeline.RDat.blockOf iblk; rw [A_eq]; rfl
theorem finds1 (c : Dev nD) (t : Fin cfg0.N) (Y) (h : (rdat m c).Finds 1 t Y) : Y = iblk m c 1 t := by
  obtain ⟨d, e⟩ := (rdat m c).finds_in_eq_fetched 1 rfl (fun _ _ _ => rfl) (fun _ _ _ h => h) t Y h
  rw [e]; unfold Pipeline.RDat.fetched Pipeline.RDat.blockOf iblk; rw [A_eq]; rfl
theorem finds2 (c : Dev nD) (t : Fin cfg0.N) (Y) (h : (rdat m c).Finds 2 t Y) : Y = iblk m c 2 t := by
  obtain ⟨d, e⟩ := (rdat m c).finds_in_eq_fetched 2 rfl (fun _ _ _ => rfl) (fun _ _ _ h => h) t Y h
  rw [e]; unfold Pipeline.RDat.fetched Pipeline.RDat.blockOf iblk; rw [A_eq]; rfl
theorem finds3 (c : Dev nD) (t : Fin cfg0.N) (Y) (h : (rdat m c).Finds 3 t Y) : Y = iblk m c 3 t := by
  obtain ⟨d, e⟩ := (rdat m c).finds_in_eq_fetched 3 rfl (fun _ _ _ => rfl) (fun _ _ _ h => h) t Y h
  rw [e]; unfold Pipeline.RDat.fetched Pipeline.RDat.blockOf iblk; rw [A_eq]; rfl
theorem finds4 (c : Dev nD) (t : Fin cfg0.N) (Y) (h : (rdat m c).Finds 4 t Y) : Y = iblk m c 4 t := by
  obtain ⟨d, e⟩ := (rdat m c).finds_in_eq_fetched 4 rfl (fun _ _ _ => rfl) (fun _ _ _ h => h) t Y h
  rw [e]; unfold Pipeline.RDat.fetched Pipeline.RDat.blockOf iblk; rw [A_eq]; rfl
theorem finds5 (c : Dev nD) (t : Fin cfg0.N) (Y) (h : (rdat m c).Finds 5 t Y) : Y = iblk m c 5 t := by
  obtain ⟨d, e⟩ := (rdat m c).finds_in_eq_fetched 5 rfl (fun _ _ _ => rfl) (fun _ _ _ h => h) t Y h
  rw [e]; unfold Pipeline.RDat.fetched Pipeline.RDat.blockOf iblk; rw [A_eq]; rfl
theorem finds6 (c : Dev nD) (t : Fin cfg0.N) (Y) (h : (rdat m c).Finds 6 t Y) : Y = iblk m c 6 t := by
  obtain ⟨d, e⟩ := (rdat m c).finds_in_eq_fetched 6 rfl (fun _ _ _ => rfl) (fun _ _ _ h => h) t Y h
  rw [e]; unfold Pipeline.RDat.fetched Pipeline.RDat.blockOf iblk; rw [A_eq]; rfl
theorem finds7 (c : Dev nD) (t : Fin cfg0.N) (Y) (h : (rdat m c).Finds 7 t Y) : Y = iblk m c 7 t := by
  obtain ⟨d, e⟩ := (rdat m c).finds_in_eq_fetched 7 rfl (fun _ _ _ => rfl) (fun _ _ _ h => h) t Y h
  rw [e]; unfold Pipeline.RDat.fetched Pipeline.RDat.blockOf iblk; rw [A_eq]; rfl
end Cert.Ffn

end
-- ==== Proof.FfnFrame.lean ====
/-
  The run of the feed-forward launch, over any float values: every array, scratch buffer and counter is accounted for.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic
public import proofs.«01_k».proof.Proof.FfnData

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

theorem trans1 (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    Trans m c t s (next1 m c t Y s hc1 hc2 hc3 hc4 hc5) Y (outp1 m c t Y s hc1 hc2 hc3 hc4 hc5) :=
  Or.inl ⟨hc1, hc2, hc3, hc4, hc5, rfl, rfl⟩

set_option maxHeartbeats 1000000 in
theorem sound1 (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next1 m c t Y s hc1 hc2 hc3 hc4 hc5).hm ∗ owns (c : Thread nD τ) sc1 fullShare (next1 m c t Y s hc1 hc2 hc3 hc4 hc5).acc ∗ owns (c : Thread nD τ) sc2 fullShare (next1 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp1 m c t Y s hc1 hc2 hc3 hc4 hc5))) := by
  have hrun := (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next1, outp1]
  generalize (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S1, S2⟩
  isplitl [S0 S1 S2]
  · isplitl [S0]; · iapply owns_over; iexact S0
    isplitl [S1]; · iapply owns_over; iexact S1
    iapply owns_over; iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply owns_over; iexact H8

theorem trans2 (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    Trans m c t s (next2 m c t Y s hc1 hc2 hc3 hc4 hc5) Y (outp2 m c t Y s hc1 hc2 hc3 hc4 hc5) :=
  Or.inr (Or.inl ⟨hc1, hc2, hc3, hc4, hc5, rfl, rfl⟩)

set_option maxHeartbeats 1000000 in
theorem sound2 (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next2 m c t Y s hc1 hc2 hc3 hc4 hc5).hm ∗ owns (c : Thread nD τ) sc1 fullShare (next2 m c t Y s hc1 hc2 hc3 hc4 hc5).acc ∗ owns (c : Thread nD τ) sc2 fullShare (next2 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp2 m c t Y s hc1 hc2 hc3 hc4 hc5))) := by
  have hrun := (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next2, outp2]
  generalize (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S1, S2⟩
  isplitl [S0 S1 S2]
  · isplitl [S0]; · iapply owns_over; iexact S0
    isplitl [S1]; · iapply owns_over; iexact S1
    iapply owns_over; iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem trans3 (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) :
    Trans m c t s (next3 m c t Y s hc1 hc2 hc3 hc4 hc5) Y (outp3 m c t Y s hc1 hc2 hc3 hc4 hc5) :=
  Or.inr (Or.inr (Or.inl ⟨hc1, hc2, hc3, hc4, hc5, rfl, rfl⟩))

set_option maxHeartbeats 1000000 in
theorem sound3 (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next3 m c t Y s hc1 hc2 hc3 hc4 hc5).hm ∗ owns (c : Thread nD τ) sc1 fullShare (next3 m c t Y s hc1 hc2 hc3 hc4 hc5).acc ∗ owns (c : Thread nD τ) sc2 fullShare (next3 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp3 m c t Y s hc1 hc2 hc3 hc4 hc5))) := by
  have hrun := (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next3, outp3]
  generalize (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, S0, S2, H8, S1⟩
  isplitl [S0 S1 S2]
  · isplitl [S0]; · iexact S0
    isplitl [S1]; · iapply owns_over; iexact S1
    iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply owns_over; iexact H8

theorem trans4 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) :
    Trans m c t s (next4 m c t Y s hc1 hc2 hc3 hc4 hc5) Y (outp4 m c t Y s hc1 hc2 hc3 hc4 hc5) :=
  Or.inr (Or.inr (Or.inr (Or.inl ⟨hc1, hc2, hc3, hc4, hc5, rfl, rfl⟩)))

set_option maxHeartbeats 1000000 in
theorem sound4 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next4 m c t Y s hc1 hc2 hc3 hc4 hc5).hm ∗ owns (c : Thread nD τ) sc1 fullShare (next4 m c t Y s hc1 hc2 hc3 hc4 hc5).acc ∗ owns (c : Thread nD τ) sc2 fullShare (next4 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp4 m c t Y s hc1 hc2 hc3 hc4 hc5))) := by
  have hrun := (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next4, outp4]
  generalize (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S2, S1⟩
  isplitl [S0 S1 S2]
  · isplitl [S0]; · iexact S0
    isplitl [S1]; · iapply owns_over; iexact S1
    iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem trans5 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) :
    Trans m c t s (next5 m c t Y s hc1 hc2 hc3 hc4 hc5) Y (outp5 m c t Y s hc1 hc2 hc3 hc4 hc5) :=
  Or.inr (Or.inr (Or.inr (Or.inr ⟨hc1, hc2, hc3, hc4, hc5, rfl, rfl⟩)))

set_option maxHeartbeats 1000000 in
theorem sound5 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next5 m c t Y s hc1 hc2 hc3 hc4 hc5).hm ∗ owns (c : Thread nD τ) sc1 fullShare (next5 m c t Y s hc1 hc2 hc3 hc4 hc5).acc ∗ owns (c : Thread nD τ) sc2 fullShare (next5 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp5 m c t Y s hc1 hc2 hc3 hc4 hc5))) := by
  have hrun := (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next5, outp5]
  generalize (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, S0, S1, S2, H8⟩
  isplitl [S0 S1 S2]
  · isplitl [S0]; · iexact S0
    isplitl [S1]; · iexact S1
    iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply owns_over; iexact H8

/-- A state and an output block that the point can lead to are what the data ask for. -/
theorem close (c : Dev nD) (t : Fin cfg0.N) (Y X : Vec F S768x1024 .f32) (s s' : St F) (hR : Reach m c t.val s) (hT : Trans m c t s s' Y X) :
    iprop((owns (c : Thread nD τ) sc0 fullShare s'.hm ∗ owns (c : Thread nD τ) sc1 fullShare s'.acc ∗ owns (c : Thread nD τ) sc2 fullShare s'.xk) ∗ (∃ r, prngReg c r) ∗ (rdat m c).owesAt () t.castSucc
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare X)
    ⊢ iprop((rdat m c).Φ t.succ ∗ (rdat m c).owesAt () t.succ
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜∃ s s' : St F, Reach m c t.val s ∧ Trans m c t s s' Y X⌝ ∗ owns (c : Thread nD τ) (ms8 t) fullShare X)) := by
  rw [show (rdat m c).owesAt () t.succ = (rdat m c).owesAt () t.castSucc from rfl,
    show (rdat m c).Φ t.succ = iprop(scratch m c (t.val + 1) ∗ (∃ r, prngReg c r)) from rfl]
  unfold scratch
  iintro ⟨S, Hg, Ho, H0, H1, H2, H3, H4, H5, H6, H7, H8⟩
  isplitl [S Hg]
  · isplitl [S]
    · iexists s'
      isplitr; · ipureintro; exact Reach.step t s s' Y X hR hT
      iexact S
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists X; isplitr; · ipureintro; exact ⟨s, s', hR, hT⟩
  iexact H8

/-- The body at any point, from any reachable state and any output block. -/
theorem sound_body (c : Dev nD) (t : Fin cfg0.N) (Y : Vec F S768x1024 .f32) :
    iprop((rdat m c).Φ t.castSucc ∗ (rdat m c).owesAt () t.castSucc
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((rdat m c).Φ t.succ ∗ (rdat m c).owesAt () t.succ
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜∃ s s' : St F, Reach m c t.val s ∧ Trans m c t s s' Y X⌝ ∗ owns (c : Thread nD τ) (ms8 t) fullShare X))) := by
  rw [show (rdat m c).Φ t.castSucc = iprop(scratch m c t.val ∗ (∃ r, prngReg c r)) from rfl]
  unfold scratch
  iintro ⟨⟨⟨%s, %hR, S⟩, Hg⟩, Ho, H⟩
  rcases cases_at t with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
  · iapply (triple_restated (sound1 m c t Y s hc1 hc2 hc3 hc4 hc5 iprop(∃ r, prngReg c r) ((rdat m c).owesAt () t.castSucc)) rfl .rfl fun _ => close m c t Y _ s _ hR (trans1 m c t Y s hc1 hc2 hc3 hc4 hc5))
    isplitl [S]; · iexact S
    isplitl [Hg]; · iexact Hg
    isplitl [Ho]; · iexact Ho
    iexact H
  · iapply (triple_restated (sound2 m c t Y s hc1 hc2 hc3 hc4 hc5 iprop(∃ r, prngReg c r) ((rdat m c).owesAt () t.castSucc)) rfl .rfl fun _ => close m c t Y _ s _ hR (trans2 m c t Y s hc1 hc2 hc3 hc4 hc5))
    isplitl [S]; · iexact S
    isplitl [Hg]; · iexact Hg
    isplitl [Ho]; · iexact Ho
    iexact H
  · iapply (triple_restated (sound3 m c t Y s hc1 hc2 hc3 hc4 hc5 iprop(∃ r, prngReg c r) ((rdat m c).owesAt () t.castSucc)) rfl .rfl fun _ => close m c t Y _ s _ hR (trans3 m c t Y s hc1 hc2 hc3 hc4 hc5))
    isplitl [S]; · iexact S
    isplitl [Hg]; · iexact Hg
    isplitl [Ho]; · iexact Ho
    iexact H
  · iapply (triple_restated (sound4 m c t Y s hc1 hc2 hc3 hc4 hc5 iprop(∃ r, prngReg c r) ((rdat m c).owesAt () t.castSucc)) rfl .rfl fun _ => close m c t Y _ s _ hR (trans4 m c t Y s hc1 hc2 hc3 hc4 hc5))
    isplitl [S]; · iexact S
    isplitl [Hg]; · iexact Hg
    isplitl [Ho]; · iexact Ho
    iexact H
  · iapply (triple_restated (sound5 m c t Y s hc1 hc2 hc3 hc4 hc5 iprop(∃ r, prngReg c r) ((rdat m c).owesAt () t.castSucc)) rfl .rfl fun _ => close m c t Y _ s _ hR (trans5 m c t Y s hc1 hc2 hc3 hc4 hc5))
    isplitl [S]; · iexact S
    isplitl [Hg]; · iexact Hg
    isplitl [Ho]; · iexact Ho
    iexact H

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : (rdat m c).BodyObligation (defs₀ (F := F)) Variants.none () Set.univ := by
  intro t Y hY
  rw [bigSep_W0, bigSep_W0, defs₀_row]
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  refine triple_restated (sound_body m c t (Y 8)) rfl ?_ fun _ => ?_
  · rw [e0, e1, e2, e3, e4, e5, e6, e7]
  · iintro ⟨HΦ, Ho, H0, H1, H2, H3, H4, H5, H6, H7, ⟨%X, %hX, H8⟩⟩
    isplitl [HΦ]; · iexact HΦ
    isplitl [Ho]; · iexact Ho
    isplitl [H0]
    · iexists (iblk m c 0 t)
      isplitr
      · ipureintro; exact e0.symm
      · iexact H0
    isplitl [H1]
    · iexists (iblk m c 1 t)
      isplitr
      · ipureintro; exact e1.symm
      · iexact H1
    isplitl [H2]
    · iexists (iblk m c 2 t)
      isplitr
      · ipureintro; exact e2.symm
      · iexact H2
    isplitl [H3]
    · iexists (iblk m c 3 t)
      isplitr
      · ipureintro; exact e3.symm
      · iexact H3
    isplitl [H4]
    · iexists (iblk m c 4 t)
      isplitr
      · ipureintro; exact e4.symm
      · iexact H4
    isplitl [H5]
    · iexists (iblk m c 5 t)
      isplitr
      · ipureintro; exact e5.symm
      · iexact H5
    isplitl [H6]
    · iexists (iblk m c 6 t)
      isplitr
      · ipureintro; exact e6.symm
      · iexact H6
    isplitl [H7]
    · iexists (iblk m c 7 t)
      isplitr
      · ipureintro; exact e7.symm
      · iexact H7
    iexists X; isplitr; · ipureintro; exact hX
    iexact H8

/-! ## The launch -/

theorem enter (c : Dev nD) : Pipeline.ΦA spec0 c ⊢ (rdat m c).Φ 0 := by
  rw [show (rdat m c).Φ 0 = iprop(scratch m c 0 ∗ (∃ r, prngReg c r)) from rfl]
  unfold Pipeline.ΦA scratch
  rw [scopedRest0_eq]
  iintro ⟨⟨⟨%f0, H0⟩, ⟨%f1, H1⟩, ⟨%f2, H2⟩⟩, Hg⟩
  isplitr [Hg]
  · iexists ⟨f0, f1, f2⟩
    isplitr; · ipureintro; exact Reach.start _
    simp only [owns_whole]
    isplitl [H0]; · iexact H0
    isplitl [H1]; · iexact H1
    iexact H2
  · iexact Hg

theorem leave (c : Dev nD) : (rdat m c).Φ (Fin.last cfg0.N) ⊢ Pipeline.ΦA spec0 c := by
  rw [show (rdat m c).Φ (Fin.last cfg0.N) = iprop(scratch m c cfg0.N ∗ (∃ r, prngReg c r)) from rfl]
  unfold Pipeline.ΦA scratch
  rw [scopedRest0_eq]
  iintro ⟨⟨%s, %hR, H0, H1, H2⟩, Hg⟩
  simp only [owns_whole]
  isplitr [Hg]
  · isplitl [H0]; · iexists _; iexact H0
    isplitl [H1]; · iexists _; iexact H1
    iexists _; iexact H2
  · iexact Hg

set_option backward.isDefEq.respectTransparency.types false in
/-- The whole launch: it ends, with every array as the data relate it and every counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := A_eq m) (hin := enter m) (hout := leave m)

variable {m} in
/-- An input array of the launch ends as it was. -/
theorem arr_kept {r : PUnit × MemSt nD τ sig (Elt F)} (h : Pipeline.RDat.FramePost cfg0 (rdat m) (V m) r) (c : Dev nD) (w : Fin cfg0.W)
    (hw : (cfg0.win w).isOut = false) : r.2.mem ((cfg0.spec w).arr.view.loc (c.tc : Thread nD τ)) = V m c (Pipeline.arrRef spec0 w) :=
  (Pipeline.RDat.FramePost.arr_in h c w hw).trans (A_eq m c w)

/-- The seven arguments end as launched. -/
theorem args_kept {r : PUnit × MemSt nD τ sig (Elt F)} (h : Pipeline.RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(arr_kept h c 0 rfl).trans (V_main_arg0 m c),
      (arr_kept h c 3 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩

/-- The frame: the seven arguments end as launched, every counter at zero. -/
theorem frame_ffn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main m ρ)

end Cert.Ffn

end
-- ==== Proof.FfnTwin.lean ====
/-
  The bit-exact feed-forward program is the idealized one's text: the body tables and the main functions agree over any
  float values.
-/
module

public import proofs.«01_k».proof.Proof.Gen.Kernel2
public import proofs.«01_k».proof.Proof.Gen.Kernel2Ideal

@[expose] public section

namespace Cert.Ffn
open Idealize Idealize.ShloMosaic

variable {F : FTy → Type} [FloatOps F]

theorem body_twin : @Cert.Kernel2.cc0_ffn2 F _ Cert.Kernel2.Gen.facts = @Cert.Kernel2Ideal.cc0_ffn2 F _ Cert.Kernel2Ideal.Gen.facts := rfl

theorem table_twin : Cert.Kernel2.defs₀ (F := F) = Cert.Kernel2Ideal.defs₀ (F := F) := by
  refine congrArg Defs.onTc (funext fun l => funext fun a => ?_)
  match l, a with
  | 0, (t, s) =>
    show Cert.Kernel2.cc0_ffn2 (F := F) _ _ _ _ _ _ _ _ _ _ _ _ _ _ _ _ _ _ _ _ _ _ _ _ _
      = Cert.Kernel2Ideal.cc0_ffn2 (F := F) _ _ _ _ _ _ _ _ _ _ _ _ _ _ _ _ _ _ _ _ _ _ _ _ _
    rw [body_twin]; rfl

/-- The two programs' body tables agree. -/
theorem defs_twin : Cert.Kernel2.defs (F := F) = Cert.Kernel2Ideal.defs (F := F) := congrArg (Pipeline.defs _) table_twin
/-- The two programs' main functions agree. -/
theorem main_twin : Cert.Kernel2.main (F := F) = Cert.Kernel2Ideal.main (F := F) := rfl

end Cert.Ffn

end
-- ==== Proof.FfnFin.lean ====
/-
  The blocks of 32 rows that finish the previous tile, at the first step, at the second step and after the last tile: the
  three compute the same block, which is read here at an index.
-/
module

public import proofs.«01_k».proof.Proof.FfnRun1
public import proofs.«01_k».proof.Proof.FfnRun3
public import proofs.«01_k».proof.Proof.FfnRun5
public import Idealize.ShloMosaic.Lib.Pipeline.ValueKit
public import Idealize.ShloMosaic.Lib.WritesUnit

@[expose] public section

set_option maxRecDepth 16384

noncomputable section

namespace Cert.Ffn

open Cert.Kernel2Ideal Cert.Kernel2Ideal.Gen Idealize.ShloMosaic Idealize.ShloMosaic.TcCoe Idealize.SL.Sem

section
variable {F : FTy → Type} [FloatOps F]

/-- One block of 32 rows, the tile's rows from `o` on: the kept rows, the gate's two candidates and the accumulated rows
make the sum that the layer norm normalizes. -/
def finBlk (i0 i1 o : BitVec 32) (mc mp : Vec F S1x1x1024 .f32) (xk ac : Vec F S1x32x1024 .f32) (g b : Vec F S1x1024 .f32) : FVec F S32x1024 .f32 :=
  k0_pay153 (k0_pay151 xk) (k0_pay152 (Scalar.addi (Scalar.muli i1 384#32) o) (Scalar.subi (Scalar.addi i0 3#32) 1#32) 3#32 mc mp) ac g b

/-- The twelve stores of a step, newest first. -/
def stores (off : Fin 12 → Fin 2 → ℕ) (inb : ∀ k a, off k a + S32x1024.size a ≤ S768x1024.size a) (w : Fin 12 → FVec F S32x1024 .f32) :
    Fin 12 → View.Piece (Elt F) S768x1024 .f32 := fun k => ⟨Rect.unit (s := S768x1024) (off k) S32x1024.size (inb k), w k⟩

end

section
variable {F : FTy → Type} [FloatOps F]
variable (c : Dev nD) (i : grid0.Coords)
  (a2 : Memref sig .tc .vmem S768x1024 .f32) (h2 : a2.IsWhole) (a3 : Memref sig .tc .vmem S1x9x1024 .f32) (h3 : a3.IsWhole) (a4 : Memref sig .tc .vmem S1x9x1024 .f32) (h4 : a4.IsWhole) (a5 : Memref sig .tc .vmem S1x9x1024 .f32) (h5 : a5.IsWhole) (a6 : Memref sig .tc .vmem S6x1024x512 .bf16) (h6 : a6.IsWhole) (a7 : Memref sig .tc .vmem S6x256x1024 .bf16) (h7 : a7.IsWhole) (a8 : Memref sig .tc .vmem S1x1024 .f32) (h8 : a8.IsWhole) (a9 : Memref sig .tc .vmem S1x1024 .f32) (h9 : a9.IsWhole) (a10 : Memref sig .tc .vmem S768x1024 .f32) (h10 : a10.IsWhole) (a11 : Memref sig .tc .vmem S768x1024 .bf16) (h11 : a11.IsWhole) (a12 : Memref sig .tc .vmem S2x768x1024 .f32) (h12 : a12.IsWhole) (a13 : Memref sig .tc .vmem S2x768x1024 .f32) (h13 : a13.IsWhole)
  (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32)

/-- The block `k` from the whole buffers, the kept and accumulated rows at the offsets `off`. -/
def finAt (off : Fin 12 → Fin 3 → ℕ) (inb : ∀ k a, off k a + S1x32x1024.size a ≤ S2x768x1024.size a) (k : Fin 12) : FVec F S32x1024 .f32 :=
  finBlk (BitVec.ofNat 32 (i 0).val) (BitVec.ofNat 32 (i 1).val) (BitVec.ofNat 32 (32 * k.val))
    (View.readAt (Elt F) a3.view (Rect.unit (s := S1x9x1024) ![0, 8, 0] S1x1x1024.size inb_S1x9x1024_S1x1x1024_0_8_0).toLoadRect (h3.unread x3))
    (View.readAt (Elt F) a5.view (Rect.unit (s := S1x9x1024) ![0, 8, 0] S1x1x1024.size inb_S1x9x1024_S1x1x1024_0_8_0).toLoadRect (h5.unread x5))
    (View.readAt (Elt F) a13.view (Rect.unit (s := S2x768x1024) (off k) S1x32x1024.size (inb k)).toLoadRect (h13.unread x13))
    (View.readAt (Elt F) a12.view (Rect.unit (s := S2x768x1024) (off k) S1x32x1024.size (inb k)).toLoadRect (h12.unread x12))
    (View.readAt (Elt F) a8.view (Rect.unit (s := S1x1024) ![0, 0] S1x1024.size inb_S1x1024_S1x1024_0_0).toLoadRect (h8.unread x8))
    (View.readAt (Elt F) a9.view (Rect.unit (s := S1x1024) ![0, 0] S1x1024.size inb_S1x1024_S1x1024_0_0).toLoadRect (h9.unread x9))

set_option maxHeartbeats 2000000 in
theorem fin_list5 (hc1 : ¬k0_cond1 i = 1#1) (hc2 : ¬k0_cond2 i = 1#1) (hc3 : ¬k0_cond3 i = 1#1) (hc4 : ¬k0_cond4 i = 1#1) (hc5 : k0_cond5 i = 1#1) :
    (run5 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1
      = ([11, 10, 9, 8, 7, 6, 5, 4, 3, 2, 1, 0] : List (Fin 12)).map (stores (fun k => k0_off10 i (BitVec.ofNat 32 (32 * k.val))) (k0_off10_inb i hc5)
          (finAt i a3 h3 a5 h5 a8 h8 a9 h9 a12 h12 a13 h13 x3 x5 x8 x9 x12 x13 (fun k => k0_off9 i (BitVec.ofNat 32 (32 * k.val))) (k0_off9_inb i hc5))) := by
  rfl

set_option maxHeartbeats 2000000 in
theorem fin_list1 (hc1 : k0_cond1 i = 1#1) (hc2 : ¬k0_cond2 i = 1#1) (hc3 : ¬k0_cond3 i = 1#1) (hc4 : ¬k0_cond4 i = 1#1) (hc5 : ¬k0_cond5 i = 1#1) :
    (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.1
      = ([11, 10, 9, 8, 7, 6, 5, 4, 3, 2, 1, 0] : List (Fin 12)).map (stores (fun k => k0_off2 i (BitVec.ofNat 32 (32 * k.val))) (k0_off2_inb i hc1)
          (finAt i a3 h3 a5 h5 a8 h8 a9 h9 a12 h12 a13 h13 x3 x5 x8 x9 x12 x13 (fun k => k0_off1 i (BitVec.ofNat 32 (32 * k.val))) (k0_off1_inb i hc1))) := by
  rfl

set_option maxHeartbeats 2000000 in
theorem fin_list3 (hc1 : ¬k0_cond1 i = 1#1) (hc2 : ¬k0_cond2 i = 1#1) (hc3 : k0_cond3 i = 1#1) (hc4 : ¬k0_cond4 i = 1#1) (hc5 : ¬k0_cond5 i = 1#1) :
    (run3 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.1
      = ([11, 10, 9, 8, 7, 6, 5, 4, 3, 2, 1, 0] : List (Fin 12)).map (stores (fun k => k0_off6 i (BitVec.ofNat 32 (32 * k.val))) (k0_off6_inb i hc3)
          (finAt i a3 h3 a5 h5 a8 h8 a9 h9 a12 h12 a13 h13 x3 x5 x8 x9 x12 x13 (fun k => k0_off5 i (BitVec.ofNat 32 (32 * k.val))) (k0_off5_inb i hc3))) := by
  rfl

end

end Cert.Ffn

end
-- ==== Proof.FfnMath.lean ====
/-
  The mathematics that both feed-forwards share: one chunk of hidden columns, which rows are context rows, the layer norm of a
  row, and a row of the result. Two facts of arithmetic: `h + h tanh h` at `h = x/2` is `x` times the logistic function of `x` for
  a real `x`, and a sum over 2816 columns is the sum over eleven chunks of 256.
-/
module

public import proofs.«01_k».proof.Proof.AttMath
public import Mathlib.Analysis.Complex.Trigonometric

@[expose] public section

noncomputable section

namespace Cert.Ffn

open Idealize.ShloMosaic Cert.Att

/-! ## One chunk -/

/-- The kernel's silu: `h + h tanh h` at half the argument. -/
def ksilu (z : EReal) : EReal :=
  Ideal.ofBits FTy.f32 1056964608#32 * z + (Ideal.ofBits FTy.f32 1056964608#32 * z) * Ideal.tanh (Ideal.ofBits FTy.f32 1056964608#32 * z)

/-- What 256 hidden columns add to one column of one row: `hm` is the row, `w` the columns of the two first matrices side by
side, `u` the column of the last one. -/
def part (hm : Fin 1024 → EReal) (w : Fin 1024 → Fin 512 → EReal) (u : Fin 256 → EReal) : EReal :=
  ∑ j : Fin 256, (ksilu (∑ d, hm d * w d ⟨j.val, by omega⟩) * ∑ d, hm d * w d ⟨256 + j.val, by omega⟩) * u j

/-! ## Context rows -/

/-- The kernel's divisor, three. -/
def three : BitVec 32 := Scalar.select (Scalar.cmpi CmpIPredicate.eq 3#32 0#32) 1#32 3#32

/-- The batch's row that tile `a` starts at, as the kernel computes it: `768 (a mod 3)`. -/
def tileBase (a : BitVec 32) : BitVec 32 :=
  Scalar.muli (Scalar.select (Scalar.andi (Scalar.xori (Scalar.cmpi CmpIPredicate.slt (Scalar.remsi a three) 0#32)
      (Scalar.cmpi CmpIPredicate.slt three 0#32)) (Scalar.cmpi CmpIPredicate.ne (Scalar.remsi a three) 0#32))
    (Scalar.addi (Scalar.remsi a three) three) (Scalar.remsi a three)) 768#32

/-- Whether row `r` from row `b` on is one of the first 256. -/
def ctxBit (b : BitVec 32) (r : ℕ) : BitVec 1 := IntOp.cmpi CmpIPredicate.slt (IntOp.addi b (BitVec.ofNat 32 r)) 256#32

theorem ctxBit_ofNat (B r : ℕ) (h : B + r < 2 ^ 31) : ctxBit (BitVec.ofNat 32 B) r = if B + r < 256 then 1#1 else 0#1 := by
  unfold ctxBit IntOp.cmpi IntOp.addi
  have e : BitVec.ofNat 32 B + BitVec.ofNat 32 r = BitVec.ofNat 32 (B + r) := by
    apply BitVec.eq_of_toNat_eq; simp [BitVec.toNat_add]
  have hs : (BitVec.ofNat 32 (B + r)).slt 256#32 = decide (B + r < 256) := by
    rw [BitVec.slt_eq_decide]
    have h1 : (BitVec.ofNat 32 (B + r)).toInt = ((B + r : ℕ) : ℤ) := by
      rw [BitVec.toInt_eq_toNat_of_lt]
      · rw [BitVec.toNat_ofNat, Nat.mod_eq_of_lt (by omega)]
      · rw [BitVec.toNat_ofNat, Nat.mod_eq_of_lt (by omega)]; omega
    rw [h1]
    have h2 : (256#32 : BitVec 32).toInt = 256 := by decide
    rw [h2]
    exact decide_eq_decide.mpr (by omega)
  rw [e]
  simp only [hs]
  by_cases h3 : B + r < 256 <;> simp [h3]

/-! ## The layer norm -/

/-- The mean of a row. -/
def mean (z : Fin 1024 → EReal) : EReal := Ideal.div (∑ x, z x) (Ideal.ofBits FTy.f32 1149239296#32)

/-- The layer norm of a row, with the scale and the shift. -/
def lnorm (z g b : Fin 1024 → EReal) (l : Fin 1024) : EReal :=
  ((z l - mean z) * Ideal.rsqrt (mean (fun x => (z x - mean z) * (z x - mean z)) + Ideal.ofBits FTy.f32 897988541#32)) * g l + b l

/-- The sum that is normalized: the scaled residual, and half the gate times what was accumulated. -/
def resid (x gate y : Fin 1024 → EReal) (l : Fin 1024) : EReal :=
  Ideal.ofBits FTy.f32 1071072509#32 * x l + (Ideal.ofBits FTy.f32 1056964608#32 * gate l) * y l

/-! ## The reference's gate -/

theorem ofBits_half : Ideal.ofBits FTy.f32 1056964608#32 = ((1 / 2 : ℝ) : EReal) := by
  simp [Ideal.ofBits, Ideal.ieee]
  rw [← EReal.coe_mul]
  norm_num

theorem ofBits_one : Ideal.ofBits FTy.f32 1065353216#32 = ((1 : ℝ) : EReal) := by
  simp [Ideal.ofBits, Ideal.ieee]
  rw [← EReal.coe_mul, ← EReal.coe_one]
  norm_num

theorem ofBits_zero : Ideal.ofBits FTy.f32 0#32 = 0 := by
  simp [Ideal.ofBits, Ideal.ieee]

/-- The reference's silu: the argument times the logistic function of it. -/
def silu (z : EReal) : EReal :=
  z * Ideal.div (Ideal.ofBits FTy.f32 1065353216#32) (Ideal.ofBits FTy.f32 1065353216#32 + Ideal.exp (-z))

theorem half_tanh (x : ℝ) : 1 / 2 * x + 1 / 2 * x * Real.tanh (1 / 2 * x) = x * (1 + Real.exp (-x))⁻¹ := by
  have h : Real.exp (-x) = Real.exp (-(1 / 2 * x)) * Real.exp (-(1 / 2 * x)) := by rw [← Real.exp_add]; congr 1; ring
  have hi : Real.exp (1 / 2 * x) * Real.exp (-(1 / 2 * x)) = 1 := by rw [← Real.exp_add]; simp
  rw [Real.tanh_eq_sinh_div_cosh, Real.sinh_eq, Real.cosh_eq, h]
  generalize Real.exp (1 / 2 * x) = a at *
  have hb : 0 < Real.exp (-(1 / 2 * x)) := Real.exp_pos _
  generalize Real.exp (-(1 / 2 * x)) = b at *
  have ha : a = b⁻¹ := by field_simp; linarith
  subst ha
  have : (0 : ℝ) < 1 + b * b := by positivity
  have : (0 : ℝ) < b⁻¹ + b := by positivity
  field_simp
  ring

/-- The kernel's silu is the reference's on a real number. -/
theorem ksilu_eq (z : EReal) (h : Real' z) : ksilu z = silu z := by
  obtain ⟨x, rfl⟩ := h
  unfold ksilu silu
  rw [ofBits_half, ofBits_one, ← EReal.coe_mul]
  have e1 : Ideal.tanh (((1 / 2 * x : ℝ)) : EReal) = ((Real.tanh (1 / 2 * x) : ℝ) : EReal) := rfl
  have e2 : Ideal.exp (-(x : EReal)) = ((Real.exp (-x) : ℝ) : EReal) := by rw [← EReal.coe_neg]; rfl
  have hp : (0 : ℝ) < 1 + Real.exp (-x) := by have := Real.exp_pos (-x); positivity
  have hne : ((1 + Real.exp (-x) : ℝ) : EReal) ≠ 0 := by rw [← EReal.coe_zero]; exact fun h => hp.ne' (EReal.coe_injective h)
  rw [e1, e2, ← EReal.coe_mul, ← EReal.coe_add, ← EReal.coe_add, half_tanh, Ideal.div, if_neg hne, ← EReal.coe_inv, ← EReal.coe_mul,
    ← EReal.coe_mul, one_mul]

/-- Eleven chunks of 256 columns, one after the other, are all 2816. -/
theorem sum_chunks (f : Fin 2816 → EReal) (C : Fin 12 → EReal)
    (h : ∀ q : Fin 12, ∀ hq : q.val < 11, C q = ∑ j : Fin 256, f ⟨256 * q.val + j.val, by omega⟩) :
    C 0 + C 1 + C 2 + C 3 + C 4 + C 5 + C 6 + C 7 + C 8 + C 9 + C 10 = ∑ k, f k := by
  have e : ∑ k, f k = ∑ q : Fin 11, ∑ j : Fin 256, f ⟨256 * q.val + j.val, by omega⟩ := by
    rw [← Equiv.sum_comp (finProdFinEquiv (m := 11) (n := 256)), Fintype.sum_prod_type]
    refine Finset.sum_congr rfl fun q _ => Finset.sum_congr rfl fun j _ => congrArg f (Fin.ext ?_)
    show j.val + 256 * q.val = 256 * q.val + j.val
    omega
  rw [e, h 0 (by decide), h 1 (by decide), h 2 (by decide), h 3 (by decide), h 4 (by decide), h 5 (by decide), h 6 (by decide), h 7 (by decide),
    h 8 (by decide), h 9 (by decide), h 10 (by decide)]
  simp only [Fin.sum_univ_succ (n := 10), Fin.sum_univ_succ (n := 9), Fin.sum_univ_succ (n := 8), Fin.sum_univ_succ (n := 7), Fin.sum_univ_succ (n := 6),
    Fin.sum_univ_succ (n := 5), Fin.sum_univ_succ (n := 4), Fin.sum_univ_succ (n := 3), Fin.sum_univ_succ (n := 2), Fin.sum_univ_succ (n := 1),
    Fin.sum_univ_succ (n := 0), Fin.sum_univ_zero, add_zero, ← add_assoc]
  rfl

/-! ## A row of the result -/

/-- A row modulated. -/
def modulated (x scale shift : Fin 1024 → EReal) (d : Fin 1024) : EReal :=
  x d * (Ideal.ofBits FTy.f32 1065353216#32 + scale d) + shift d

/-- A row's hidden columns. -/
def hiddenRow (h : Fin 1024 → EReal) (w1 w3 : Fin 1024 → Fin 2816 → EReal) (k : Fin 2816) : EReal :=
  silu (∑ d, h d * w1 d k) * ∑ d, h d * w3 d k

/-- A row of the result. -/
def layer (x scale shift gate : Fin 1024 → EReal) (w1 w3 : Fin 1024 → Fin 2816 → EReal) (w2 : Fin 2816 → Fin 1024 → EReal) (g b : Fin 1024 → EReal)
    (l : Fin 1024) : EReal :=
  lnorm (resid x gate fun y => ∑ k, hiddenRow (modulated x scale shift) w1 w3 k * w2 k y) g b l

end Cert.Ffn

end
-- ==== Proof.FfnAcc.lean ====
/-
  What the chunks of hidden columns add to the accumulator, and what the first step leaves in the other two scratch
  buffers, read at an index.
-/
module

public import proofs.«01_k».proof.Proof.FfnMath
public import proofs.«01_k».proof.Proof.FfnRun1
public import proofs.«01_k».proof.Proof.FfnRun2
public import proofs.«01_k».proof.Proof.FfnRun3
public import proofs.«01_k».proof.Proof.FfnRun4
public import Idealize.ShloMosaic.Lib.Pipeline.ValueKit
public import Idealize.ShloMosaic.Lib.WritesUnit

@[expose] public section

set_option maxRecDepth 16384

noncomputable section

namespace Cert.Ffn

open Cert.Kernel2Ideal Cert.Kernel2Ideal.Gen Idealize.ShloMosaic Idealize.ShloMosaic.TcCoe Idealize.SL.Sem

/-! ## One chunk -/

theorem chunk (hm : Vec Ideal S768x1024 .bf16) (w : Vec Ideal S1x1024x512 .bf16) (u : Vec Ideal S1x256x1024 .bf16)
    (a : Vec Ideal S1x768x1024 .f32) (r : Fin 768) (l : Fin 1024) :
    k0_pay1 (F := Ideal) hm w u a (ix3 0 r l)
      = a (ix3 0 r l) + part (fun d => hm (ix2 r d)) (fun d j => w (ix3 0 d j)) (fun j => u (ix3 0 j l)) := by
  pointwise [k0_pay1, part, ksilu]

theorem chunk_first (hm : Vec Ideal S768x1024 .bf16) (w : Vec Ideal S1x1024x512 .bf16) (u : Vec Ideal S1x256x1024 .bf16)
    (r : Fin 768) (l : Fin 1024) :
    k0_pay60 (F := Ideal) hm w u (ix3 0 r l)
      = part (fun d => hm (ix2 r d)) (fun d j => w (ix3 0 d j)) (fun j => u (ix3 0 j l)) := by
  pointwise [k0_pay60, part, ksilu]

section
variable {F : FTy → Type} [FloatOps F] (hm : Vec F S768x1024 .bf16) (w : Vec F S1x1024x512 .bf16) (u : Vec F S1x256x1024 .bf16)
    (a : Vec F S1x768x1024 .f32)
theorem chunk_eq1 : k0_pay62 (k0_pay61 hm w u a) = k0_pay1 hm w u a := rfl
theorem chunk_eq2 : k0_pay63 hm w u a = k0_pay1 hm w u a := rfl
theorem chunk_eq3 : k0_pay65 (k0_pay64 hm w) u a = k0_pay1 hm w u a := rfl
theorem chunk_eq4 : k0_pay66 hm w u a = k0_pay1 hm w u a := rfl
theorem chunk_eq5 : k0_pay67 hm w u a = k0_pay1 hm w u a := rfl
theorem chunk_eq6 : k0_pay72 (k0_pay71 hm w u a) = k0_pay1 hm w u a := rfl
theorem chunk_eq7 : k0_pay73 hm w u a = k0_pay1 hm w u a := rfl
theorem chunk_eq8 : k0_pay75 (k0_pay74 hm w) u a = k0_pay1 hm w u a := rfl
theorem chunk_eq9 : k0_pay76 hm w u a = k0_pay1 hm w u a := rfl
theorem chunk_eq10 : k0_pay131 hm w u a = k0_pay1 hm w u a := rfl
theorem chunk_eq11 : k0_pay133 (k0_pay132 hm w) u a = k0_pay1 hm w u a := rfl
theorem chunk_eq12 : k0_pay134 hm w u a = k0_pay1 hm w u a := rfl
theorem chunk_eq13 : k0_pay136 hm (k0_pay135 w) (constant S768x512 FTy.f32 0#32) u a = k0_pay1 hm w u a := rfl
theorem chunk_eq14 : k0_pay2 (k0_pay137 hm w u) (k0_pay138 a) = k0_pay1 hm w u a := rfl
theorem chunk_eq15 : k0_pay139 hm w u a = k0_pay1 hm w u a := rfl
theorem chunk_eq16 : k0_pay141 (k0_pay140 hm w) u a = k0_pay1 hm w u a := rfl
theorem chunk_eq17 : k0_pay142 hm w u a = k0_pay1 hm w u a := rfl
theorem chunk_eq18 : k0_pay144 hm (k0_pay143 w) (constant S768x512 FTy.f32 0#32) u a = k0_pay1 hm w u a := rfl
theorem chunk_eq19 : k0_pay3 (k0_pay145 hm w u) (k0_pay146 a) = k0_pay1 hm w u a := rfl
theorem chunk_first_eq : k0_pay70 hm w u = k0_pay60 hm w u := rfl

end

/-! ## A slot of a buffer of two slots -/

section
variable {F : FTy → Type} {e : EltTy} (v : View sig .tc .vmem S2x768x1024 e) (f : v.ty.Contents (Elt F))

theorem slot_hit {off : Fin 3 → ℕ} (inb : ∀ a, off a + S1x768x1024.size a ≤ S2x768x1024.size a)
    (w : S1x768x1024.Idx → Elt F e) (L : List (View.Piece (Elt F) S2x768x1024 e)) (s : Fin 2) (r : Fin 768) (l : Fin 1024) (ho : off = ![s.val, 0, 0]) :
    v.read (Elt F) (v.writes (Elt F) f ((⟨Rect.unit off S1x768x1024.size inb, w⟩ : View.Piece (Elt F) S2x768x1024 e) :: L)) (ix3 s r l) = w (ix3 0 r l) :=
  View.read_writes_cons_unit_of_mem v f inb w L _ (ix3 0 r l) ho fun a => match a with
    | ⟨0, _⟩ => by simp [ix3]
    | ⟨1, _⟩ => by simp [ix3]
    | ⟨2, _⟩ => by simp [ix3]

theorem slot_miss {off : Fin 3 → ℕ} (inb : ∀ a, off a + S1x768x1024.size a ≤ S2x768x1024.size a)
    (w : S1x768x1024.Idx → Elt F e) (L : List (View.Piece (Elt F) S2x768x1024 e)) (s s' : Fin 2) (r : Fin 768) (l : Fin 1024) (ho : off = ![s.val, 0, 0]) (hs : s' ≠ s) :
    v.read (Elt F) (v.writes (Elt F) f ((⟨Rect.unit off S1x768x1024.size inb, w⟩ : View.Piece (Elt F) S2x768x1024 e) :: L)) (ix3 s' r l)
      = v.read (Elt F) (v.writes (Elt F) f L) (ix3 s' r l) :=
  View.read_writes_cons_unit_of_not_mem v f inb w L _ ho 0 (by
    have h1 : s'.val ≠ s.val := fun h => hs (Fin.ext h)
    have h2 := s.isLt
    have h3 := s'.isLt
    show s'.val < s.val ∨ s.val + 1 ≤ s'.val
    omega)

theorem slot_ld (x : S2x768x1024.Idx → Elt F e) {off : Fin 3 → ℕ} (inb : ∀ a, off a + S1x768x1024.size a ≤ S2x768x1024.size a) (s : Fin 2) (r : Fin 768) (l : Fin 1024)
    (ho : off = ![s.val, 0, 0]) : View.ld x (Rect.unit (s := S2x768x1024) off S1x768x1024.size inb) (ix3 0 r l) = x (ix3 s r l) := by
  subst ho
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]

end

/-! ## The accumulator after each step -/

section
variable (c : Dev nD) (i : grid0.Coords)
  (a2 : Memref sig .tc .vmem S768x1024 .f32) (h2 : a2.IsWhole) (a3 : Memref sig .tc .vmem S1x9x1024 .f32) (h3 : a3.IsWhole) (a4 : Memref sig .tc .vmem S1x9x1024 .f32) (h4 : a4.IsWhole) (a5 : Memref sig .tc .vmem S1x9x1024 .f32) (h5 : a5.IsWhole) (a6 : Memref sig .tc .vmem S6x1024x512 .bf16) (h6 : a6.IsWhole) (a7 : Memref sig .tc .vmem S6x256x1024 .bf16) (h7 : a7.IsWhole) (a8 : Memref sig .tc .vmem S1x1024 .f32) (h8 : a8.IsWhole) (a9 : Memref sig .tc .vmem S1x1024 .f32) (h9 : a9.IsWhole) (a10 : Memref sig .tc .vmem S768x1024 .f32) (h10 : a10.IsWhole) (a11 : Memref sig .tc .vmem S768x1024 .bf16) (h11 : a11.IsWhole) (a12 : Memref sig .tc .vmem S2x768x1024 .f32) (h12 : a12.IsWhole) (a13 : Memref sig .tc .vmem S2x768x1024 .f32) (h13 : a13.IsWhole)
  (x2 : Vec Ideal S768x1024 .f32) (x3 : Vec Ideal S1x9x1024 .f32) (x4 : Vec Ideal S1x9x1024 .f32) (x5 : Vec Ideal S1x9x1024 .f32) (x6 : Vec Ideal S6x1024x512 .bf16) (x7 : Vec Ideal S6x256x1024 .bf16) (x8 : Vec Ideal S1x1024 .f32) (x9 : Vec Ideal S1x1024 .f32) (x10 : Vec Ideal S768x1024 .f32) (x11 : Vec Ideal S768x1024 .bf16) (x12 : Vec Ideal S2x768x1024 .f32) (x13 : Vec Ideal S2x768x1024 .f32)

/-- Row `r` of the tile, modulated: the scale and the shift are the context's where the row is a context row. -/
def modRow (r : Fin 768) (d : Fin 1024) : EReal :=
  x2 (ix2 r d) * (Ideal.ofBits FTy.f32 1065353216#32 + Scalar.select (k0_pay201 i (ix2 r 0)) (x3 (ix3 0 7 d)) (x4 (ix3 0 7 d)))
    + Scalar.select (k0_pay201 i (ix2 r 0)) (x3 (ix3 0 6 d)) (x4 (ix3 0 6 d))

theorem pay69_read (r : Fin 768) (d : Fin 1024) :
    k0_pay69 (F := Ideal) (k0_pay201 i) (View.ld x2 (Rect.unit ![0, 0] S768x1024.size inb_S768x1024_S768x1024_0_0))
      (View.ld x3 (Rect.unit ![0, 7, 0] S1x1x1024.size inb_S1x9x1024_S1x1x1024_0_7_0))
      (View.ld x4 (Rect.unit ![0, 7, 0] S1x1x1024.size inb_S1x9x1024_S1x1x1024_0_7_0))
      (View.ld x3 (Rect.unit ![0, 6, 0] S1x1x1024.size inb_S1x9x1024_S1x1x1024_0_6_0))
      (View.ld x4 (Rect.unit ![0, 6, 0] S1x1x1024.size inb_S1x9x1024_S1x1x1024_0_6_0)) (ix2 r d) = modRow i x2 x3 x4 r d := by
  pointwise [k0_pay69, modRow]

theorem pay59_eq {F : FTy → Type} [FloatOps F] (m : IVec S768x1 1) (x : Vec F S768x1024 .f32) (p q p' q' : Vec F S1x1x1024 .f32) :
    k0_pay59 m x p q p' q' = k0_pay69 m x p q p' q' := rfl

/-- What chunk `q` of a step adds to row `r`, column `l`. -/
def add (hm : Fin 1024 → EReal) (q : Fin 6) (l : Fin 1024) : EReal :=
  part hm (fun d j => x6 (ix3 q d j)) (fun j => x7 (ix3 q j l))

set_option maxHeartbeats 2000000 in
theorem acc4 (hc1 : ¬k0_cond1 i = 1#1) (hc2 : ¬k0_cond2 i = 1#1) (hc3 : ¬k0_cond3 i = 1#1) (hc4 : k0_cond4 i = 1#1) (hc5 : ¬k0_cond5 i = 1#1) (s : Fin 2) (ho : k0_off8 i = ![s.val, 0, 0]) (r : Fin 768) (l : Fin 1024) :
    a12.view.read (Elt Ideal) (a12.view.writes (Elt Ideal) (h12.unread x12) (run4 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1) (ix3 s r l)
      = x12 (ix3 s r l) + add x6 x7 (fun d => x11 (ix2 r d)) 0 l + add x6 x7 (fun d => x11 (ix2 r d)) 1 l + add x6 x7 (fun d => x11 (ix2 r d)) 2 l + add x6 x7 (fun d => x11 (ix2 r d)) 3 l + add x6 x7 (fun d => x11 (ix2 r d)) 4 l := by
  unfold run4
  dsimp only
  refine (slot_hit _ _ _ _ _ s r l ho).trans ?_
  simp only [run4.sl.H12_1, run4.sl.H12_2, run4.sl.H12_3, run4.sl.H12_4, run4.sl.cst_57, run4.sl.r, run4.sl.r_1, run4.sl.r_2, run4.sl.r_3, run4.sl.r_4, run4.sl.v115, run4.sl.v138, run4.sl.v161, run4.sl.v92, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  rw [slot_ld x12 _ s r l ho]
  pointwise [add]

set_option maxHeartbeats 2000000 in
theorem acc3 (hc1 : ¬k0_cond1 i = 1#1) (hc2 : ¬k0_cond2 i = 1#1) (hc3 : k0_cond3 i = 1#1) (hc4 : ¬k0_cond4 i = 1#1) (hc5 : ¬k0_cond5 i = 1#1) (s : Fin 2) (ho : k0_off7 i = ![s.val, 0, 0]) (r : Fin 768) (l : Fin 1024) :
    a12.view.read (Elt Ideal) (a12.view.writes (Elt Ideal) (h12.unread x12) (run3 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2) (ix3 s r l)
      = x12 (ix3 s r l) + add x6 x7 (fun d => x11 (ix2 r d)) 0 l + add x6 x7 (fun d => x11 (ix2 r d)) 1 l + add x6 x7 (fun d => x11 (ix2 r d)) 2 l + add x6 x7 (fun d => x11 (ix2 r d)) 3 l + add x6 x7 (fun d => x11 (ix2 r d)) 4 l := by
  unfold run3
  dsimp only
  refine (slot_hit _ _ _ _ _ s r l ho).trans ?_
  simp only [run3.sl.H12_1, run3.sl.H12_2, run3.sl.H12_3, run3.sl.H12_4, run3.sl.cst_454, run3.sl.r_43, run3.sl.r_44, run3.sl.r_45, run3.sl.r_46, run3.sl.r_47, run3.sl.v1015, run3.sl.v1038, run3.sl.v1061, run3.sl.v992, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  rw [slot_ld x12 _ s r l ho]
  pointwise [add]

set_option maxHeartbeats 2000000 in
theorem acc2 (hc1 : ¬k0_cond1 i = 1#1) (hc2 : k0_cond2 i = 1#1) (hc3 : ¬k0_cond3 i = 1#1) (hc4 : ¬k0_cond4 i = 1#1) (hc5 : ¬k0_cond5 i = 1#1) (s : Fin 2) (ho : k0_off4 i = ![s.val, 0, 0]) (r : Fin 768) (l : Fin 1024) :
    a12.view.read (Elt Ideal) (a12.view.writes (Elt Ideal) (h12.unread x12) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.1) (ix3 s r l)
      = add x6 x7 (modRow i x2 x3 x4 r) 0 l + add x6 x7 (modRow i x2 x3 x4 r) 1 l + add x6 x7 (modRow i x2 x3 x4 r) 2 l + add x6 x7 (modRow i x2 x3 x4 r) 3 l + add x6 x7 (modRow i x2 x3 x4 r) 4 l + add x6 x7 (modRow i x2 x3 x4 r) 5 l := by
  unfold run2
  dsimp only
  refine (slot_hit _ _ _ _ _ s r l ho).trans ?_
  simp only [run2.sl.H11_1, run2.sl.H12_1, run2.sl.H12_2, run2.sl.H12_3, run2.sl.H12_4, run2.sl.H12_5, run2.sl.r, run2.sl.r_1, run2.sl.v123, run2.sl.v146, run2.sl.v169, run2.sl.v192, run2.sl.v215, run2.sl.v87, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  simp only [pay59_eq, pay69_read]
  pointwise [add]

set_option maxHeartbeats 2000000 in
theorem acc1 (hc1 : k0_cond1 i = 1#1) (hc2 : ¬k0_cond2 i = 1#1) (hc3 : ¬k0_cond3 i = 1#1) (hc4 : ¬k0_cond4 i = 1#1) (hc5 : ¬k0_cond5 i = 1#1) (s : Fin 2) (ho : k0_off3 i = ![s.val, 0, 0]) (r : Fin 768) (l : Fin 1024) :
    a12.view.read (Elt Ideal) (a12.view.writes (Elt Ideal) (h12.unread x12) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.1) (ix3 s r l)
      = add x6 x7 (modRow i x2 x3 x4 r) 0 l + add x6 x7 (modRow i x2 x3 x4 r) 1 l + add x6 x7 (modRow i x2 x3 x4 r) 2 l + add x6 x7 (modRow i x2 x3 x4 r) 3 l + add x6 x7 (modRow i x2 x3 x4 r) 4 l + add x6 x7 (modRow i x2 x3 x4 r) 5 l := by
  unfold run1
  dsimp only
  refine (slot_hit _ _ _ _ _ s r l ho).trans ?_
  simp only [run1.sl.H11_1, run1.sl.H12_1, run1.sl.H12_2, run1.sl.H12_3, run1.sl.H12_4, run1.sl.H12_5, run1.sl.r_43, run1.sl.r_44, run1.sl.r_45, run1.sl.v1023, run1.sl.v1046, run1.sl.v1069, run1.sl.v1092, run1.sl.v1115, run1.sl.v987, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  simp only [pay59_eq, pay69_read]
  pointwise [add]

theorem other4 (hc1 : ¬k0_cond1 i = 1#1) (hc2 : ¬k0_cond2 i = 1#1) (hc3 : ¬k0_cond3 i = 1#1) (hc4 : k0_cond4 i = 1#1) (hc5 : ¬k0_cond5 i = 1#1) (s s' : Fin 2) (ho : k0_off8 i = ![s.val, 0, 0]) (hs : s' ≠ s) (r : Fin 768) (l : Fin 1024) :
    a12.view.read (Elt Ideal) (a12.view.writes (Elt Ideal) (h12.unread x12) (run4 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1) (ix3 s' r l)
      = x12 (ix3 s' r l) := by
  unfold run4
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem other3 (hc1 : ¬k0_cond1 i = 1#1) (hc2 : ¬k0_cond2 i = 1#1) (hc3 : k0_cond3 i = 1#1) (hc4 : ¬k0_cond4 i = 1#1) (hc5 : ¬k0_cond5 i = 1#1) (s s' : Fin 2) (ho : k0_off7 i = ![s.val, 0, 0]) (hs : s' ≠ s) (r : Fin 768) (l : Fin 1024) :
    a12.view.read (Elt Ideal) (a12.view.writes (Elt Ideal) (h12.unread x12) (run3 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2) (ix3 s' r l)
      = x12 (ix3 s' r l) := by
  unfold run3
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem other2 (hc1 : ¬k0_cond1 i = 1#1) (hc2 : k0_cond2 i = 1#1) (hc3 : ¬k0_cond3 i = 1#1) (hc4 : ¬k0_cond4 i = 1#1) (hc5 : ¬k0_cond5 i = 1#1) (s s' : Fin 2) (ho : k0_off4 i = ![s.val, 0, 0]) (hs : s' ≠ s) (r : Fin 768) (l : Fin 1024) :
    a12.view.read (Elt Ideal) (a12.view.writes (Elt Ideal) (h12.unread x12) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.1) (ix3 s' r l)
      = x12 (ix3 s' r l) := by
  unfold run2
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem other1 (hc1 : k0_cond1 i = 1#1) (hc2 : ¬k0_cond2 i = 1#1) (hc3 : ¬k0_cond3 i = 1#1) (hc4 : ¬k0_cond4 i = 1#1) (hc5 : ¬k0_cond5 i = 1#1) (s s' : Fin 2) (ho : k0_off3 i = ![s.val, 0, 0]) (hs : s' ≠ s) (r : Fin 768) (l : Fin 1024) :
    a12.view.read (Elt Ideal) (a12.view.writes (Elt Ideal) (h12.unread x12) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.1) (ix3 s' r l)
      = x12 (ix3 s' r l) := by
  unfold run1
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem hm2 (hc1 : ¬k0_cond1 i = 1#1) (hc2 : k0_cond2 i = 1#1) (hc3 : ¬k0_cond3 i = 1#1) (hc4 : ¬k0_cond4 i = 1#1) (hc5 : ¬k0_cond5 i = 1#1) (r : Fin 768) (d : Fin 1024) :
    a11.view.read (Elt Ideal) (a11.view.writes (Elt Ideal) (h11.unread x11) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.1) (ix2 r d)
      = modRow i x2 x3 x4 r d := by
  unfold run2
  dsimp only
  refine (View.read_writes_cons_unit_of_mem a11.view _ _ _ _ _ (ix2 r d) rfl fun a => match a with
    | ⟨0, _⟩ => by simp [ix2]
    | ⟨1, _⟩ => by simp [ix2]).trans ?_
  simp only [View.readAt_eq_ld, h2.read_unread, h3.read_unread, h4.read_unread]
  simp only [pay59_eq, pay69_read]

theorem xk2 (hc1 : ¬k0_cond1 i = 1#1) (hc2 : k0_cond2 i = 1#1) (hc3 : ¬k0_cond3 i = 1#1) (hc4 : ¬k0_cond4 i = 1#1) (hc5 : ¬k0_cond5 i = 1#1) (s : Fin 2) (ho : k0_off4 i = ![s.val, 0, 0]) (r : Fin 768) (l : Fin 1024) :
    a13.view.read (Elt Ideal) (a13.view.writes (Elt Ideal) (h13.unread x13) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2) (ix3 s r l)
      = x2 (ix2 r l) := by
  unfold run2
  dsimp only
  refine (slot_hit _ _ _ _ _ s r l ho).trans ?_
  simp only [View.readAt_eq_ld, h2.read_unread]
  pointwise [k0_pay58, k0_pay68]

theorem xk_other2 (hc1 : ¬k0_cond1 i = 1#1) (hc2 : k0_cond2 i = 1#1) (hc3 : ¬k0_cond3 i = 1#1) (hc4 : ¬k0_cond4 i = 1#1) (hc5 : ¬k0_cond5 i = 1#1) (s s' : Fin 2) (ho : k0_off4 i = ![s.val, 0, 0]) (hs : s' ≠ s) (r : Fin 768) (l : Fin 1024) :
    a13.view.read (Elt Ideal) (a13.view.writes (Elt Ideal) (h13.unread x13) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2) (ix3 s' r l)
      = x13 (ix3 s' r l) := by
  unfold run2
  dsimp only
  refine (slot_miss _ _ _ _ _ s s' r l ho hs).trans ?_
  exact congrFun (h13.read_unread x13) _

theorem hm1 (hc1 : k0_cond1 i = 1#1) (hc2 : ¬k0_cond2 i = 1#1) (hc3 : ¬k0_cond3 i = 1#1) (hc4 : ¬k0_cond4 i = 1#1) (hc5 : ¬k0_cond5 i = 1#1) (r : Fin 768) (d : Fin 1024) :
    a11.view.read (Elt Ideal) (a11.view.writes (Elt Ideal) (h11.unread x11) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.1) (ix2 r d)
      = modRow i x2 x3 x4 r d := by
  unfold run1
  dsimp only
  refine (View.read_writes_cons_unit_of_mem a11.view _ _ _ _ _ (ix2 r d) rfl fun a => match a with
    | ⟨0, _⟩ => by simp [ix2]
    | ⟨1, _⟩ => by simp [ix2]).trans ?_
  simp only [View.readAt_eq_ld, h2.read_unread, h3.read_unread, h4.read_unread]
  simp only [pay59_eq, pay69_read]

theorem xk1 (hc1 : k0_cond1 i = 1#1) (hc2 : ¬k0_cond2 i = 1#1) (hc3 : ¬k0_cond3 i = 1#1) (hc4 : ¬k0_cond4 i = 1#1) (hc5 : ¬k0_cond5 i = 1#1) (s : Fin 2) (ho : k0_off3 i = ![s.val, 0, 0]) (r : Fin 768) (l : Fin 1024) :
    a13.view.read (Elt Ideal) (a13.view.writes (Elt Ideal) (h13.unread x13) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.2) (ix3 s r l)
      = x2 (ix2 r l) := by
  unfold run1
  dsimp only
  refine (slot_hit _ _ _ _ _ s r l ho).trans ?_
  simp only [View.readAt_eq_ld, h2.read_unread]
  pointwise [k0_pay58, k0_pay68]

theorem xk_other1 (hc1 : k0_cond1 i = 1#1) (hc2 : ¬k0_cond2 i = 1#1) (hc3 : ¬k0_cond3 i = 1#1) (hc4 : ¬k0_cond4 i = 1#1) (hc5 : ¬k0_cond5 i = 1#1) (s s' : Fin 2) (ho : k0_off3 i = ![s.val, 0, 0]) (hs : s' ≠ s) (r : Fin 768) (l : Fin 1024) :
    a13.view.read (Elt Ideal) (a13.view.writes (Elt Ideal) (h13.unread x13) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.2) (ix3 s' r l)
      = x13 (ix3 s' r l) := by
  unfold run1
  dsimp only
  refine (slot_miss _ _ _ _ _ s s' r l ho hs).trans ?_
  exact congrFun (h13.read_unread x13) _

end

end Cert.Ffn

end
-- ==== Proof.FfnRow.lean ====
/-
  Which rows of a tile are context rows, the layer norm of a row, and the output block after a step that finishes half of the
  previous tile.
-/
module

public import proofs.«01_k».proof.Proof.FfnFin
public import proofs.«01_k».proof.Proof.FfnAcc

@[expose] public section

set_option maxRecDepth 16384

noncomputable section

namespace Cert.Ffn

open Cert.Kernel2Ideal Cert.Kernel2Ideal.Gen Idealize.ShloMosaic Idealize.ShloMosaic.TcCoe Idealize.SL.Sem

/-! ## Context rows -/

theorem pay201_read (i : grid0.Coords) (r : Fin 768) :
    k0_pay201 i (ix2 r 0) = ctxBit (tileBase (BitVec.ofNat 32 (i 0).val)) r.val := by
  pointwise [k0_pay201, ctxBit, tileBase, three]

/-! ## The layer norm -/

theorem finBlk_read (i0 i1 o : BitVec 32) (mc mp : Vec Ideal S1x1x1024 .f32) (xk ac : Vec Ideal S1x32x1024 .f32) (g b : Vec Ideal S1x1024 .f32)
    (r : Fin 32) (l : Fin 1024) :
    finBlk (F := Ideal) i0 i1 o mc mp xk ac g b (ix2 r l)
      = lnorm (resid (fun x => xk (ix3 0 r x))
          (fun x => Scalar.select (ctxBit (Scalar.addi (tileBase (Scalar.subi (Scalar.addi i0 3#32) 1#32)) (Scalar.addi (Scalar.muli i1 384#32) o)) r.val)
            (mc (ix3 0 0 x)) (mp (ix3 0 0 x))) (fun x => ac (ix3 0 r x)))
        (fun x => g (ix2 0 x)) (fun x => b (ix2 0 x)) l := by
  pointwise [finBlk, k0_pay151, k0_pay152, k0_pay153, lnorm, mean, resid, ctxBit, tileBase, three]

/-! ## Rows of the output block -/

section
variable {F : FTy → Type} [FloatOps F] (v : View sig .tc .vmem S768x1024 .f32) (f : v.ty.Contents (Elt F))
  (off : Fin 12 → Fin 2 → ℕ) (inb : ∀ k a, off k a + S32x1024.size a ≤ S768x1024.size a) (w : Fin 12 → FVec F S32x1024 .f32)
  (B : ℕ) (ho : ∀ k : Fin 12, off k = ![B + 32 * k.val, 0])
include ho

theorem rows_miss (L : List (Fin 12)) (R : Fin 768) (l : Fin 1024) (h : ∀ k ∈ L, R.val < B + 32 * k.val ∨ B + 32 * k.val + 32 ≤ R.val) :
    v.read (Elt F) (v.writes (Elt F) f (L.map (stores off inb w))) (ix2 R l) = v.read (Elt F) f (ix2 R l) := by
  induction L with
  | nil => rfl
  | cons k L ih =>
    rw [List.map_cons]
    refine (View.read_writes_cons_unit_of_not_mem v f (inb k) (w k) _ _ (ho k) 0 ?_).trans (ih fun k' hk' => h k' (List.mem_cons_of_mem _ hk'))
    exact h k List.mem_cons_self

theorem rows_hit (L : List (Fin 12)) (k : Fin 12) (hk : k ∈ L) (R : Fin 768) (a : Fin 32) (l : Fin 1024) (hR : R.val = B + 32 * k.val + a.val) :
    v.read (Elt F) (v.writes (Elt F) f (L.map (stores off inb w))) (ix2 R l) = w k (ix2 a l) := by
  induction L with
  | nil => exact absurd hk (List.not_mem_nil)
  | cons k' L ih =>
    rw [List.map_cons]
    by_cases e : k' = k
    · subst e
      refine View.read_writes_cons_unit_of_mem v f (inb k') (w k') _ _ (ix2 a l) (ho k') fun x => ?_
      match x with
      | ⟨0, _⟩ => simp [ix2, hR]
      | ⟨1, _⟩ => simp [ix2]
    · refine (View.read_writes_cons_unit_of_not_mem v f (inb k') (w k') _ _ (ho k') 0 ?_).trans
        (ih ((List.mem_cons.mp hk).resolve_left fun h => e h.symm))
      have h1 : k'.val ≠ k.val := fun h => e (Fin.ext h)
      show R.val < B + 32 * k'.val ∨ B + 32 * k'.val + 32 ≤ R.val
      omega

end

end Cert.Ffn

end
-- ==== Proof.FfnBlk.lean ====
/-
  The feed-forward kernel's mathematics row by row, the blocks that a grid point reads, and the scalars that it computes.
-/
module

public import proofs.«01_k».proof.Proof.FfnRow
public import proofs.«01_k».proof.Proof.FfnData

@[expose] public section

set_option maxRecDepth 16384

noncomputable section

namespace Cert.Ffn

open Cert.Kernel2Ideal Cert.Kernel2Ideal.Gen Idealize.ShloMosaic Idealize.ShloMosaic.TcCoe Idealize.SL.Sem

/-! ## The mathematics -/

/-- The arrays that the launch reads. -/
structure Arr where
  xa : S73728x1024.Idx → EReal
  md : S40x9x1024.Idx → EReal
  w13 : S12x1024x512.Idx → EReal
  w2 : S12x256x1024.Idx → EReal
  g : S1x1024.Idx → EReal
  b : S1x1024.Idx → EReal

/-- Row `R`'s modulation `k`: the context's for the first 256 rows of a batch, the batch's own for the others. -/
def modv (A : Arr) (R : Fin 73728) (k : Fin 9) (d : Fin 1024) : EReal :=
  A.md (ix3 (if R.val % 2304 < 256 then 32 else ⟨R.val / 2304, by omega⟩) k d)

/-- Row `R`, modulated. -/
def hmv (A : Arr) (R : Fin 73728) (d : Fin 1024) : EReal :=
  A.xa (ix2 R d) * (Ideal.ofBits FTy.f32 1065353216#32 + modv A R 7 d) + modv A R 6 d

/-- What chunk `q` of the hidden columns adds. -/
def chunkv (A : Arr) (R : Fin 73728) (l : Fin 1024) (q : Fin 12) : EReal :=
  part (hmv A R) (fun d j => A.w13 (ix3 q d j)) (fun j => A.w2 (ix3 q j l))

/-- The first six chunks. -/
def firstv (A : Arr) (R : Fin 73728) (l : Fin 1024) : EReal :=
  chunkv A R l 0 + chunkv A R l 1 + chunkv A R l 2 + chunkv A R l 3 + chunkv A R l 4 + chunkv A R l 5

/-- All eleven. -/
def accv (A : Arr) (R : Fin 73728) (l : Fin 1024) : EReal :=
  firstv A R l + chunkv A R l 6 + chunkv A R l 7 + chunkv A R l 8 + chunkv A R l 9 + chunkv A R l 10

/-- Row `R` of the result. -/
def outv (A : Arr) (R : Fin 73728) (l : Fin 1024) : EReal :=
  lnorm (resid (fun x => A.xa (ix2 R x)) (modv A R 8) (accv A R)) (fun x => A.g (ix2 0 x)) (fun x => A.b (ix2 0 x)) l

/-! ## The blocks -/

variable (m : (ℓ : Loc nD τ sig) → Buf (Elt Ideal) ℓ)

/-- The arrays that the launch finds. -/
def arrs (c : Dev nD) : Arr where
  xa := m ((c : Thread nD τ).loc main_arg0)
  md := m ((c : Thread nD τ).loc main_arg1)
  w13 := V m c main_v6
  w2 := V m c main_v9
  g := V m c main_v10
  b := V m c main_v11

theorem idx0 : ∀ t : Fin cfg0.N, win0_0.index t = ![min (t.val / 2 + t.val % 2) 95, 0] :=
  (by decide +kernel : ∀ t : Fin grid0.N, win0_0.index t = ![min (t.val / 2 + t.val % 2) 95, 0])
theorem idx1 : ∀ t : Fin cfg0.N, win0_1.index t = ![32, 0, 0] :=
  (by decide +kernel : ∀ t : Fin grid0.N, win0_1.index t = ![32, 0, 0])
theorem idx2 : ∀ t : Fin cfg0.N, win0_2.index t = ![min (t.val / 2) 95 / 3, 0, 0] :=
  (by decide +kernel : ∀ t : Fin grid0.N, win0_2.index t = ![min (t.val / 2) 95 / 3, 0, 0])
theorem idx3 : ∀ t : Fin cfg0.N, win0_3.index t = ![(t.val / 2 - 1) / 3, 0, 0] :=
  (by decide +kernel : ∀ t : Fin grid0.N, win0_3.index t = ![(t.val / 2 - 1) / 3, 0, 0])
theorem idx4 : ∀ t : Fin cfg0.N, win0_4.index t = ![t.val % 2, 0, 0] :=
  (by decide +kernel : ∀ t : Fin grid0.N, win0_4.index t = ![t.val % 2, 0, 0])
theorem idx5 : ∀ t : Fin cfg0.N, win0_5.index t = ![t.val % 2, 0, 0] :=
  (by decide +kernel : ∀ t : Fin grid0.N, win0_5.index t = ![t.val % 2, 0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val / 2 - 1, 0] :=
  (by decide +kernel : ∀ t : Fin grid0.N, win0_8.index t = ![t.val / 2 - 1, 0])

theorem blk0 (c : Dev nD) (t : Fin cfg0.N) (h : t.val % 2 = 0) (h' : t.val / 2 < 96) (r : Fin 768) (d : Fin 1024) (R : Fin 73728)
    (hR : R.val = 768 * (t.val / 2) + r.val) : (iblk m c 0 t : Vec Ideal S768x1024 .f32) (ix2 r d) = (arrs m c).xa (ix2 R d) := by
  blk_simp [iblk]
  refine congrArg (m ((c : Thread nD τ).loc main_arg0)) ?_
  blk_ext [idx0]

theorem blk1 (c : Dev nD) (t : Fin cfg0.N) (k : Fin 9) (d : Fin 1024) :
    (iblk m c 1 t : Vec Ideal S1x9x1024 .f32) (ix3 0 k d) = (arrs m c).md (ix3 32 k d) := by
  blk_simp [iblk]
  refine congrArg (m ((c : Thread nD τ).loc main_arg1)) ?_
  blk_ext [idx1]

theorem blk2 (c : Dev nD) (t : Fin cfg0.N) (h' : t.val / 2 < 96) (k : Fin 9) (d : Fin 1024) (e : Fin 40) (he : e.val = t.val / 2 / 3) :
    (iblk m c 2 t : Vec Ideal S1x9x1024 .f32) (ix3 0 k d) = (arrs m c).md (ix3 e k d) := by
  blk_simp [iblk]
  refine congrArg (m ((c : Thread nD τ).loc main_arg1)) ?_
  blk_ext [idx2]

theorem blk3 (c : Dev nD) (t : Fin cfg0.N) (k : Fin 9) (d : Fin 1024) (e : Fin 40) (he : e.val = (t.val / 2 - 1) / 3) :
    (iblk m c 3 t : Vec Ideal S1x9x1024 .f32) (ix3 0 k d) = (arrs m c).md (ix3 e k d) := by
  blk_simp [iblk]
  refine congrArg (m ((c : Thread nD τ).loc main_arg1)) ?_
  blk_ext [idx3]

theorem blk4 (c : Dev nD) (t : Fin cfg0.N) (q : Fin 6) (d : Fin 1024) (j : Fin 512) (q' : Fin 12) (hq : q'.val = 6 * (t.val % 2) + q.val) :
    (iblk m c 4 t : Vec Ideal S6x1024x512 .bf16) (ix3 q d j) = (arrs m c).w13 (ix3 q' d j) := by
  blk_simp [iblk]
  refine congrArg (V m c main_v6) ?_
  blk_ext [idx4]

theorem blk5 (c : Dev nD) (t : Fin cfg0.N) (q : Fin 6) (j : Fin 256) (l : Fin 1024) (q' : Fin 12) (hq : q'.val = 6 * (t.val % 2) + q.val) :
    (iblk m c 5 t : Vec Ideal S6x256x1024 .bf16) (ix3 q j l) = (arrs m c).w2 (ix3 q' j l) := by
  blk_simp [iblk]
  refine congrArg (V m c main_v9) ?_
  blk_ext [idx5]

theorem blk6 (c : Dev nD) (t : Fin cfg0.N) (l : Fin 1024) : (iblk m c 6 t : Vec Ideal S1x1024 .f32) (ix2 0 l) = (arrs m c).g (ix2 0 l) := by
  blk_simp [iblk]
  refine congrArg (V m c main_v10) ?_
  blk_ext [idx6]

theorem blk7 (c : Dev nD) (t : Fin cfg0.N) (l : Fin 1024) : (iblk m c 7 t : Vec Ideal S1x1024 .f32) (ix2 0 l) = (arrs m c).b (ix2 0 l) := by
  blk_simp [iblk]
  refine congrArg (V m c main_v11) ?_
  blk_ext [idx7]

/-! ## The points' scalars -/

theorem base_cur : ∀ t : Fin cfg0.N, tileBase (BitVec.ofNat 32 (grid0.coords t 0).val) = BitVec.ofNat 32 (768 * (t.val / 2 % 3)) :=
  (by decide +kernel : ∀ t : Fin grid0.N, tileBase (BitVec.ofNat 32 (grid0.coords t 0).val) = BitVec.ofNat 32 (768 * (t.val / 2 % 3)))

theorem base_prev : ∀ t : Fin cfg0.N, ∀ k : Fin 12, Scalar.addi (tileBase (Scalar.subi (Scalar.addi (BitVec.ofNat 32 (grid0.coords t 0).val) 3#32) 1#32))
      (Scalar.addi (Scalar.muli (BitVec.ofNat 32 (grid0.coords t 1).val) 384#32) (BitVec.ofNat 32 (32 * k.val)))
    = BitVec.ofNat 32 (768 * ((t.val / 2 + 2) % 3) + (384 * (t.val % 2) + 32 * k.val)) :=
  (by decide +kernel : ∀ t : Fin grid0.N, ∀ k : Fin 12, Scalar.addi (tileBase (Scalar.subi (Scalar.addi (BitVec.ofNat 32 (grid0.coords t 0).val) 3#32) 1#32))
      (Scalar.addi (Scalar.muli (BitVec.ofNat 32 (grid0.coords t 1).val) 384#32) (BitVec.ofNat 32 (32 * k.val)))
    = BitVec.ofNat 32 (768 * ((t.val / 2 + 2) % 3) + (384 * (t.val % 2) + 32 * k.val)))

theorem off3_at : ∀ t : Fin cfg0.N, k0_off3 (grid0.coords t) = ![t.val / 2 % 2, 0, 0] :=
  (by decide +kernel : ∀ t : Fin grid0.N, k0_off3 (grid0.coords t) = ![t.val / 2 % 2, 0, 0])
theorem off4_at : ∀ t : Fin cfg0.N, k0_off4 (grid0.coords t) = ![t.val / 2 % 2, 0, 0] :=
  (by decide +kernel : ∀ t : Fin grid0.N, k0_off4 (grid0.coords t) = ![t.val / 2 % 2, 0, 0])
theorem off7_at : ∀ t : Fin cfg0.N, k0_off7 (grid0.coords t) = ![t.val / 2 % 2, 0, 0] :=
  (by decide +kernel : ∀ t : Fin grid0.N, k0_off7 (grid0.coords t) = ![t.val / 2 % 2, 0, 0])
theorem off8_at : ∀ t : Fin cfg0.N, k0_off8 (grid0.coords t) = ![t.val / 2 % 2, 0, 0] :=
  (by decide +kernel : ∀ t : Fin grid0.N, k0_off8 (grid0.coords t) = ![t.val / 2 % 2, 0, 0])
theorem off1_at : ∀ t : Fin cfg0.N, ∀ k : Fin 12, k0_off1 (grid0.coords t) (BitVec.ofNat 32 (32 * k.val)) = ![(t.val / 2 + 1) % 2, 384 * (t.val % 2) + 32 * k.val, 0] :=
  (by decide +kernel : ∀ t : Fin grid0.N, ∀ k : Fin 12, k0_off1 (grid0.coords t) (BitVec.ofNat 32 (32 * k.val)) = ![(t.val / 2 + 1) % 2, 384 * (t.val % 2) + 32 * k.val, 0])
theorem off5_at : ∀ t : Fin cfg0.N, ∀ k : Fin 12, k0_off5 (grid0.coords t) (BitVec.ofNat 32 (32 * k.val)) = ![(t.val / 2 + 1) % 2, 384 * (t.val % 2) + 32 * k.val, 0] :=
  (by decide +kernel : ∀ t : Fin grid0.N, ∀ k : Fin 12, k0_off5 (grid0.coords t) (BitVec.ofNat 32 (32 * k.val)) = ![(t.val / 2 + 1) % 2, 384 * (t.val % 2) + 32 * k.val, 0])
theorem off9_at : ∀ t : Fin cfg0.N, ∀ k : Fin 12, k0_off9 (grid0.coords t) (BitVec.ofNat 32 (32 * k.val)) = ![(t.val / 2 + 1) % 2, 384 * (t.val % 2) + 32 * k.val, 0] :=
  (by decide +kernel : ∀ t : Fin grid0.N, ∀ k : Fin 12, k0_off9 (grid0.coords t) (BitVec.ofNat 32 (32 * k.val)) = ![(t.val / 2 + 1) % 2, 384 * (t.val % 2) + 32 * k.val, 0])
theorem off2_at : ∀ t : Fin cfg0.N, ∀ k : Fin 12, k0_off2 (grid0.coords t) (BitVec.ofNat 32 (32 * k.val)) = ![384 * (t.val % 2) + 32 * k.val, 0] :=
  (by decide +kernel : ∀ t : Fin grid0.N, ∀ k : Fin 12, k0_off2 (grid0.coords t) (BitVec.ofNat 32 (32 * k.val)) = ![384 * (t.val % 2) + 32 * k.val, 0])
theorem off6_at : ∀ t : Fin cfg0.N, ∀ k : Fin 12, k0_off6 (grid0.coords t) (BitVec.ofNat 32 (32 * k.val)) = ![384 * (t.val % 2) + 32 * k.val, 0] :=
  (by decide +kernel : ∀ t : Fin grid0.N, ∀ k : Fin 12, k0_off6 (grid0.coords t) (BitVec.ofNat 32 (32 * k.val)) = ![384 * (t.val % 2) + 32 * k.val, 0])
theorem off10_at : ∀ t : Fin cfg0.N, ∀ k : Fin 12, k0_off10 (grid0.coords t) (BitVec.ofNat 32 (32 * k.val)) = ![384 * (t.val % 2) + 32 * k.val, 0] :=
  (by decide +kernel : ∀ t : Fin grid0.N, ∀ k : Fin 12, k0_off10 (grid0.coords t) (BitVec.ofNat 32 (32 * k.val)) = ![384 * (t.val % 2) + 32 * k.val, 0])
theorem cond1_at : ∀ t : Fin cfg0.N, k0_cond1 (grid0.coords t) = 1#1 → t.val % 2 = 0 ∧ 1 ≤ t.val / 2 ∧ t.val / 2 < 96 :=
  (by decide +kernel : ∀ t : Fin grid0.N, k0_cond1 (grid0.coords t) = 1#1 → t.val % 2 = 0 ∧ 1 ≤ t.val / 2 ∧ t.val / 2 < 96)
theorem cond2_at : ∀ t : Fin cfg0.N, k0_cond2 (grid0.coords t) = 1#1 → t.val = 0 :=
  (by decide +kernel : ∀ t : Fin grid0.N, k0_cond2 (grid0.coords t) = 1#1 → t.val = 0)
theorem cond3_at : ∀ t : Fin cfg0.N, k0_cond3 (grid0.coords t) = 1#1 → t.val % 2 = 1 ∧ 1 ≤ t.val / 2 ∧ t.val / 2 < 96 :=
  (by decide +kernel : ∀ t : Fin grid0.N, k0_cond3 (grid0.coords t) = 1#1 → t.val % 2 = 1 ∧ 1 ≤ t.val / 2 ∧ t.val / 2 < 96)
theorem cond4_at : ∀ t : Fin cfg0.N, k0_cond4 (grid0.coords t) = 1#1 → t.val = 1 :=
  (by decide +kernel : ∀ t : Fin grid0.N, k0_cond4 (grid0.coords t) = 1#1 → t.val = 1)
theorem cond5_at : ∀ t : Fin cfg0.N, k0_cond5 (grid0.coords t) = 1#1 → t.val / 2 = 96 :=
  (by decide +kernel : ∀ t : Fin grid0.N, k0_cond5 (grid0.coords t) = 1#1 → t.val / 2 = 96)

/-! ## A tile's row -/

theorem select_one {α : Type} (a b : α) : Scalar.select (1#1) a b = a := rfl
theorem select_zero {α : Type} (a b : α) : Scalar.select (0#1) a b = b := rfl

theorem ctx_cur (t : Fin cfg0.N) (r : Fin 768) (R : Fin 73728) (hR : R.val = 768 * (t.val / 2) + r.val) :
    k0_pay201 (grid0.coords t) (ix2 r 0) = if R.val % 2304 < 256 then 1#1 else 0#1 := by
  rw [pay201_read, base_cur, ctxBit_ofNat _ _ (by omega)]
  have e : R.val % 2304 = 768 * (t.val / 2 % 3) + r.val := by omega
  rw [e]

theorem modRow_eq (c : Dev nD) (t : Fin cfg0.N) (h : t.val % 2 = 0) (h' : t.val / 2 < 96) (r : Fin 768) (d : Fin 1024) (R : Fin 73728)
    (hR : R.val = 768 * (t.val / 2) + r.val) :
    modRow (grid0.coords t) (iblk m c 0 t) (iblk m c 1 t) (iblk m c 2 t) r d = hmv (arrs m c) R d := by
  unfold modRow hmv modv
  rw [blk0 m c t h h' r d R hR, ctx_cur t r R hR, blk1, blk1, blk2 m c t h' 7 d ⟨R.val / 2304, by omega⟩ (by show R.val / 2304 = _; omega),
    blk2 m c t h' 6 d ⟨R.val / 2304, by omega⟩ (by show R.val / 2304 = _; omega)]
  by_cases hx : R.val % 2304 < 256
  · simp only [if_pos hx, select_one]
  · simp only [if_neg hx, select_zero]

theorem add_eq (c : Dev nD) (t : Fin cfg0.N) (R : Fin 73728) (l : Fin 1024) (q : Fin 6) (q' : Fin 12) (hq : q'.val = 6 * (t.val % 2) + q.val) :
    add (iblk m c 4 t) (iblk m c 5 t) (hmv (arrs m c) R) q l = chunkv (arrs m c) R l q' := by
  unfold add chunkv
  congr 1
  · funext d j; exact blk4 m c t q d j q' hq
  · funext j; exact blk5 m c t q j l q' hq

end Cert.Ffn

end
-- ==== Proof.FfnHost.lean ====
/-
  The weights as the launch finds them: chunk by chunk, the two first matrices side by side, and the layer norm's two rows.
-/
module

public import proofs.«01_k».proof.Proof.FfnBlk
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe Idealize.ShloMosaic.Tactic Idealize.SL.Sem

variable (m : (ℓ : Loc nD τ sig) → Buf (Elt Ideal) ℓ)

/-- Two stacks of chunks side by side. -/
def side (a b : Vec Ideal S1024x11x256 .bf16) : Vec Ideal S1024x11x512 .bf16 :=
  concatenate S1024x11x512 2 [⟨S1024x11x256, a⟩, ⟨S1024x11x256, b⟩] concatenates_S1024x11x256_S1024x11x256_S1024x11x512_d2

/-- The host operations that pack the two first matrices. -/
abbrev packOps : List (HloOp τ sig (Elt Ideal)) :=
  [ StableHlo.unary main_arg2 main_v0 ((truncf (F := Ideal) .bf16 · bitsLt_bf16_f32) : (⟨S1024x2816, .f32⟩ : BufTy).Contents (Elt Ideal) → (⟨S1024x2816, .bf16⟩ : BufTy).Contents (Elt Ideal)),
    StableHlo.reshape main_v0 main_v1 (rfl : (.bf16 : EltTy) = .bf16) shapeCasts_S1024x2816_S1024x11x256,
    StableHlo.unary main_arg3 main_v2 ((truncf (F := Ideal) .bf16 · bitsLt_bf16_f32) : (⟨S1024x2816, .f32⟩ : BufTy).Contents (Elt Ideal) → (⟨S1024x2816, .bf16⟩ : BufTy).Contents (Elt Ideal)),
    StableHlo.reshape main_v2 main_v3 (rfl : (.bf16 : EltTy) = .bf16) shapeCasts_S1024x2816_S1024x11x256,
    StableHlo.binary main_v1 main_v3 main_v4 side,
    StableHlo.unary main_v4 main_v5 ((transpose S11x1024x512 [1, 0, 2] · transposes_S1024x11x512_S11x1024x512_1_0_2) : (⟨S1024x11x512, .bf16⟩ : BufTy).Contents (Elt Ideal) → (⟨S11x1024x512, .bf16⟩ : BufTy).Contents (Elt Ideal)),
    StableHlo.nullary main_c (constantI S_ 32 0#32) ]

theorem packOps_eq : (hostOps0 : List (HloOp τ sig (Elt Ideal))) = packOps := rfl

/-- The two first matrices, chunk by chunk and side by side. -/
def packed13 (x2 x3 : Vec Ideal S1024x2816 .f32) : Vec Ideal S12x1024x512 .bf16 :=
  pad S12x1024x512 ![0, 0, 0] ![1, 0, 0] ![0, 0, 0]
    (transpose S11x1024x512 [1, 0, 2] (side (shapeCast S1024x11x256 (truncf (F := Ideal) .bf16 x2 bitsLt_bf16_f32) shapeCasts_S1024x2816_S1024x11x256)
      (shapeCast S1024x11x256 (truncf (F := Ideal) .bf16 x3 bitsLt_bf16_f32) shapeCasts_S1024x2816_S1024x11x256)) transposes_S1024x11x512_S11x1024x512_1_0_2)
    (sitofp (F := Ideal) .bf16 (constantI S_ 32 0#32)) pads_S11x1024x512_S12x1024x512_010_000_000 h_S_

/-- The last matrix, chunk by chunk. -/
def packed2 (x4 : Vec Ideal S2816x1024 .f32) : Vec Ideal S12x256x1024 .bf16 :=
  pad S12x256x1024 ![0, 0, 0] ![1, 0, 0] ![0, 0, 0] (shapeCast S11x256x1024 (truncf (F := Ideal) .bf16 x4 bitsLt_bf16_f32) shapeCasts_S2816x1024_S11x256x1024)
    (sitofp (F := Ideal) .bf16 (constantI S_ 32 0#32)) pads_S11x256x1024_S12x256x1024_010_000_000 h_S_

theorem V6 (c : Dev nD) : V m c main_v6 = packed13 (m ((c : Thread nD τ).loc main_arg2)) (m ((c : Thread nD τ).loc main_arg3)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V9 (c : Dev nD) : V m c main_v9 = packed2 (m ((c : Thread nD τ).loc main_arg4)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V10 (c : Dev nD) : V m c main_v10 = broadcastInDim S1x1024 ![1] bcast_S1024_S1x1024_1 (m ((c : Thread nD τ).loc main_arg5)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V11 (c : Dev nD) : V m c main_v11 = broadcastInDim S1x1024 ![1] bcast_S1024_S1x1024_1 (m ((c : Thread nD τ).loc main_arg6)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

variable (x2 x3 : Vec Ideal S1024x2816 .f32) (x4 : Vec Ideal S2816x1024 .f32) (q : Fin 12) (hq : q.val < 11)

theorem packed13_left (d : Fin 1024) (j : Fin 256) :
    packed13 x2 x3 (ix3 q d ⟨j.val, by omega⟩) = x2 (ix2 d ⟨256 * q.val + j.val, by omega⟩) := by
  pointwise [packed13, side]
  exact (dif_pos ⟨hq, by omega⟩).trans (congrArg (fun y => x2 (ix2 d y)) (Fin.ext (by show q.val * 256 + j.val = 256 * q.val + j.val; omega)))

theorem packed13_right (d : Fin 1024) (j : Fin 256) :
    packed13 x2 x3 (ix3 q d ⟨256 + j.val, by omega⟩) = x3 (ix2 d ⟨256 * q.val + j.val, by omega⟩) := by
  pointwise [packed13, side]
  exact (dif_pos ⟨hq, by omega⟩).trans (congrArg (fun y => x3 (ix2 d y)) (Fin.ext (by show q.val * 256 + j.val = 256 * q.val + j.val; omega)))

theorem packed2_read (j : Fin 256) (l : Fin 1024) :
    packed2 x4 (ix3 q j l) = x4 (ix2 ⟨256 * q.val + j.val, by omega⟩ l) := by
  pointwise [packed2]
  exact (dif_pos hq).trans (congrArg (fun y => x4 (ix2 y l)) (Fin.ext (by show q.val * 256 + j.val = 256 * q.val + j.val; omega)))

end Cert.Ffn

end
-- ==== Proof.FfnInv.lean ====
/-
  What the scratch buffers hold before each grid point, and what a point leaves in the output block: before tile `i`'s first
  step the previous tile's accumulator is complete, and between its two steps the tile is modulated and its first six chunks
  are accumulated.
-/
module

public import proofs.«01_k».proof.Proof.FfnBlk

@[expose] public section

set_option maxRecDepth 16384

noncomputable section

namespace Cert.Ffn

open Cert.Kernel2Ideal Cert.Kernel2Ideal.Gen Idealize.ShloMosaic Idealize.ShloMosaic.TcCoe Idealize.SL.Sem

section
variable {F : FTy → Type} [FloatOps F] (m : (ℓ : Loc nD τ sig) → Buf (Elt F) ℓ)

theorem next1_acc (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    (next1 m c t Y s hc1 hc2 hc3 hc4 hc5).acc = sc1.view.read (Elt F) (sc1.view.writes (Elt F) ((Memref.isWhole_whole cc0_scratch1).unread s.acc)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.1) := by
  unfold next1
  dsimp only

theorem next2_acc (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    (next2 m c t Y s hc1 hc2 hc3 hc4 hc5).acc = sc1.view.read (Elt F) (sc1.view.writes (Elt F) ((Memref.isWhole_whole cc0_scratch1).unread s.acc)
      (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1) := by
  unfold next2
  dsimp only

theorem next3_acc (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) :
    (next3 m c t Y s hc1 hc2 hc3 hc4 hc5).acc = sc1.view.read (Elt F) (sc1.view.writes (Elt F) ((Memref.isWhole_whole cc0_scratch1).unread s.acc)
      (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2) := by
  unfold next3
  dsimp only

theorem next4_acc (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) :
    (next4 m c t Y s hc1 hc2 hc3 hc4 hc5).acc = sc1.view.read (Elt F) (sc1.view.writes (Elt F) ((Memref.isWhole_whole cc0_scratch1).unread s.acc)
      (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1) := by
  unfold next4
  dsimp only

theorem next1_hm (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    (next1 m c t Y s hc1 hc2 hc3 hc4 hc5).hm = sc0.view.read (Elt F) (sc0.view.writes (Elt F) ((Memref.isWhole_whole cc0_scratch0).unread s.hm)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1) := by
  unfold next1
  dsimp only

theorem next2_hm (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    (next2 m c t Y s hc1 hc2 hc3 hc4 hc5).hm = sc0.view.read (Elt F) (sc0.view.writes (Elt F) ((Memref.isWhole_whole cc0_scratch0).unread s.hm)
      (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1) := by
  unfold next2
  dsimp only

theorem next1_xk (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    (next1 m c t Y s hc1 hc2 hc3 hc4 hc5).xk = sc2.view.read (Elt F) (sc2.view.writes (Elt F) ((Memref.isWhole_whole cc0_scratch2).unread s.xk)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.2) := by
  unfold next1
  dsimp only

theorem next2_xk (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    (next2 m c t Y s hc1 hc2 hc3 hc4 hc5).xk = sc2.view.read (Elt F) (sc2.view.writes (Elt F) ((Memref.isWhole_whole cc0_scratch2).unread s.xk)
      (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2) := by
  unfold next2
  dsimp only

theorem outp1_eq (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    outp1 m c t Y s hc1 hc2 hc3 hc4 hc5 = (ms8 t).view.read (Elt F) ((ms8 t).view.writes (Elt F) ((hs8 t).unread Y)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1) := by
  unfold outp1
  dsimp only

theorem outp3_eq (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) :
    outp3 m c t Y s hc1 hc2 hc3 hc4 hc5 = (ms8 t).view.read (Elt F) ((ms8 t).view.writes (Elt F) ((hs8 t).unread Y)
      (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1) := by
  unfold outp3
  dsimp only

theorem outp5_eq (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) :
    outp5 m c t Y s hc1 hc2 hc3 hc4 hc5 = (ms8 t).view.read (Elt F) ((ms8 t).view.writes (Elt F) ((hs8 t).unread Y)
      (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1) := by
  unfold outp5
  dsimp only

end

variable (m : (ℓ : Loc nD τ sig) → Buf (Elt Ideal) ℓ)

theorem v_other1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next1 m c t Y s hc1 hc2 hc3 hc4 hc5).acc (ix3 sl r l) = s.acc (ix3 sl r l) := by
  rw [next1_acc]
  exact other1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off3_at t) hs r l

theorem v_xk_other1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next1 m c t Y s hc1 hc2 hc3 hc4 hc5).xk (ix3 sl r l) = s.xk (ix3 sl r l) := by
  rw [next1_xk]
  exact xk_other1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off3_at t) hs r l

theorem v_acc1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next1 m c t Y s hc1 hc2 hc3 hc4 hc5).acc (ix3 ⟨t.val / 2 % 2, Nat.mod_lt _ (by decide)⟩ r l) = add (iblk m c 4 t) (iblk m c 5 t) (modRow (grid0.coords t) (iblk m c 0 t) (iblk m c 1 t) (iblk m c 2 t) r) 0 l + add (iblk m c 4 t) (iblk m c 5 t) (modRow (grid0.coords t) (iblk m c 0 t) (iblk m c 1 t) (iblk m c 2 t) r) 1 l + add (iblk m c 4 t) (iblk m c 5 t) (modRow (grid0.coords t) (iblk m c 0 t) (iblk m c 1 t) (iblk m c 2 t) r) 2 l + add (iblk m c 4 t) (iblk m c 5 t) (modRow (grid0.coords t) (iblk m c 0 t) (iblk m c 1 t) (iblk m c 2 t) r) 3 l + add (iblk m c 4 t) (iblk m c 5 t) (modRow (grid0.coords t) (iblk m c 0 t) (iblk m c 1 t) (iblk m c 2 t) r) 4 l + add (iblk m c 4 t) (iblk m c 5 t) (modRow (grid0.coords t) (iblk m c 0 t) (iblk m c 1 t) (iblk m c 2 t) r) 5 l := by
  rw [next1_acc]
  exact acc1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off3_at t) r l

theorem v_xk1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next1 m c t Y s hc1 hc2 hc3 hc4 hc5).xk (ix3 ⟨t.val / 2 % 2, Nat.mod_lt _ (by decide)⟩ r l) = (iblk m c 0 t : Vec Ideal S768x1024 .f32) (ix2 r l) := by
  rw [next1_xk]
  exact xk1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off3_at t) r l

theorem v_hm1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next1 m c t Y s hc1 hc2 hc3 hc4 hc5).hm (ix2 r l) = modRow (grid0.coords t) (iblk m c 0 t) (iblk m c 1 t) (iblk m c 2 t) r l := by
  rw [next1_hm]
  exact hm1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5  r l

theorem v_other2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next2 m c t Y s hc1 hc2 hc3 hc4 hc5).acc (ix3 sl r l) = s.acc (ix3 sl r l) := by
  rw [next2_acc]
  exact other2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off4_at t) hs r l

theorem v_xk_other2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next2 m c t Y s hc1 hc2 hc3 hc4 hc5).xk (ix3 sl r l) = s.xk (ix3 sl r l) := by
  rw [next2_xk]
  exact xk_other2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off4_at t) hs r l

theorem v_acc2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next2 m c t Y s hc1 hc2 hc3 hc4 hc5).acc (ix3 ⟨t.val / 2 % 2, Nat.mod_lt _ (by decide)⟩ r l) = add (iblk m c 4 t) (iblk m c 5 t) (modRow (grid0.coords t) (iblk m c 0 t) (iblk m c 1 t) (iblk m c 2 t) r) 0 l + add (iblk m c 4 t) (iblk m c 5 t) (modRow (grid0.coords t) (iblk m c 0 t) (iblk m c 1 t) (iblk m c 2 t) r) 1 l + add (iblk m c 4 t) (iblk m c 5 t) (modRow (grid0.coords t) (iblk m c 0 t) (iblk m c 1 t) (iblk m c 2 t) r) 2 l + add (iblk m c 4 t) (iblk m c 5 t) (modRow (grid0.coords t) (iblk m c 0 t) (iblk m c 1 t) (iblk m c 2 t) r) 3 l + add (iblk m c 4 t) (iblk m c 5 t) (modRow (grid0.coords t) (iblk m c 0 t) (iblk m c 1 t) (iblk m c 2 t) r) 4 l + add (iblk m c 4 t) (iblk m c 5 t) (modRow (grid0.coords t) (iblk m c 0 t) (iblk m c 1 t) (iblk m c 2 t) r) 5 l := by
  rw [next2_acc]
  exact acc2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off4_at t) r l

theorem v_xk2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next2 m c t Y s hc1 hc2 hc3 hc4 hc5).xk (ix3 ⟨t.val / 2 % 2, Nat.mod_lt _ (by decide)⟩ r l) = (iblk m c 0 t : Vec Ideal S768x1024 .f32) (ix2 r l) := by
  rw [next2_xk]
  exact xk2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off4_at t) r l

theorem v_hm2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next2 m c t Y s hc1 hc2 hc3 hc4 hc5).hm (ix2 r l) = modRow (grid0.coords t) (iblk m c 0 t) (iblk m c 1 t) (iblk m c 2 t) r l := by
  rw [next2_hm]
  exact hm2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5  r l

theorem v_acc3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (r : Fin 768) (l : Fin 1024) :
    (next3 m c t Y s hc1 hc2 hc3 hc4 hc5).acc (ix3 ⟨t.val / 2 % 2, Nat.mod_lt _ (by decide)⟩ r l) = s.acc (ix3 ⟨t.val / 2 % 2, Nat.mod_lt _ (by decide)⟩ r l) + add (iblk m c 4 t) (iblk m c 5 t) (fun d => s.hm (ix2 r d)) 0 l + add (iblk m c 4 t) (iblk m c 5 t) (fun d => s.hm (ix2 r d)) 1 l + add (iblk m c 4 t) (iblk m c 5 t) (fun d => s.hm (ix2 r d)) 2 l + add (iblk m c 4 t) (iblk m c 5 t) (fun d => s.hm (ix2 r d)) 3 l + add (iblk m c 4 t) (iblk m c 5 t) (fun d => s.hm (ix2 r d)) 4 l := by
  rw [next3_acc]
  exact acc3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off7_at t) r l

theorem v_keep3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) : (next3 m c t Y s hc1 hc2 hc3 hc4 hc5).xk = s.xk := by
  unfold next3
  rfl

theorem v_acc4 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) (r : Fin 768) (l : Fin 1024) :
    (next4 m c t Y s hc1 hc2 hc3 hc4 hc5).acc (ix3 ⟨t.val / 2 % 2, Nat.mod_lt _ (by decide)⟩ r l) = s.acc (ix3 ⟨t.val / 2 % 2, Nat.mod_lt _ (by decide)⟩ r l) + add (iblk m c 4 t) (iblk m c 5 t) (fun d => s.hm (ix2 r d)) 0 l + add (iblk m c 4 t) (iblk m c 5 t) (fun d => s.hm (ix2 r d)) 1 l + add (iblk m c 4 t) (iblk m c 5 t) (fun d => s.hm (ix2 r d)) 2 l + add (iblk m c 4 t) (iblk m c 5 t) (fun d => s.hm (ix2 r d)) 3 l + add (iblk m c 4 t) (iblk m c 5 t) (fun d => s.hm (ix2 r d)) 4 l := by
  rw [next4_acc]
  exact acc4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off8_at t) r l

theorem v_keep4 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) : (next4 m c t Y s hc1 hc2 hc3 hc4 hc5).xk = s.xk := by
  unfold next4
  rfl

/-! ## The invariant -/

/-- The previous tile is accumulated and kept; between a tile's two steps it is modulated, kept and accumulated by six chunks. -/
def Inv (A : Arr) (n : ℕ) (s : St Ideal) : Prop :=
  (∀ i, i + 1 = n / 2 → i < 96 → ∀ (sl : Fin 2), sl.val = i % 2 → ∀ (r : Fin 768) (l : Fin 1024) (R : Fin 73728), R.val = 768 * i + r.val →
      s.acc (ix3 sl r l) = accv A R l ∧ s.xk (ix3 sl r l) = A.xa (ix2 R l))
    ∧ (n % 2 = 1 → n / 2 < 96 → ∀ (sl : Fin 2), sl.val = n / 2 % 2 → ∀ (r : Fin 768) (l : Fin 1024) (R : Fin 73728), R.val = 768 * (n / 2) + r.val →
      s.hm (ix2 r l) = hmv A R l ∧ s.acc (ix3 sl r l) = firstv A R l ∧ s.xk (ix3 sl r l) = A.xa (ix2 R l))

theorem inv1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1)
    (hI : Inv (arrs m c) t.val s) : Inv (arrs m c) (t.val + 1) (next1 m c t Y s hc1 hc2 hc3 hc4 hc5) := by
  have hc := cond1_at t hc1
  refine ⟨fun i hi hi96 sl hsl r l R hR => ?_, fun _ h96 sl hsl r l R hR => ?_⟩
  · have hs : sl ≠ (⟨t.val / 2 % 2, Nat.mod_lt _ (by decide)⟩ : Fin 2) := fun h => by
      have := congrArg Fin.val h; simp only at this; omega
    rw [v_other1 m c t Y s hc1 hc2 hc3 hc4 hc5 sl hs r l, v_xk_other1 m c t Y s hc1 hc2 hc3 hc4 hc5 sl hs r l]
    exact hI.1 i (by omega) hi96 sl hsl r l R hR
  · have e : sl = (⟨t.val / 2 % 2, Nat.mod_lt _ (by decide)⟩ : Fin 2) := Fin.ext (by show sl.val = t.val / 2 % 2; omega)
    subst e
    have hh : t.val % 2 = 0 := by omega
    have hR' : R.val = 768 * (t.val / 2) + r.val := by omega
    have hm := fun d => modRow_eq m c t hh (by omega) r d R hR'
    have hm' : modRow (grid0.coords t) (iblk m c 0 t) (iblk m c 1 t) (iblk m c 2 t) r = hmv (arrs m c) R := funext hm
    rw [v_hm1 m c t Y s hc1 hc2 hc3 hc4 hc5 r l, v_acc1 m c t Y s hc1 hc2 hc3 hc4 hc5 r l, v_xk1 m c t Y s hc1 hc2 hc3 hc4 hc5 r l]
    refine ⟨hm l, ?_, blk0 m c t hh (by omega) r l R hR'⟩
    rw [hm', add_eq m c t R l 0 0 (by rw [hh]; rfl), add_eq m c t R l 1 1 (by rw [hh]; rfl), add_eq m c t R l 2 2 (by rw [hh]; rfl),
      add_eq m c t R l 3 3 (by rw [hh]; rfl), add_eq m c t R l 4 4 (by rw [hh]; rfl), add_eq m c t R l 5 5 (by rw [hh]; rfl)]
    rfl

theorem inv2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1)
    (hI : Inv (arrs m c) t.val s) : Inv (arrs m c) (t.val + 1) (next2 m c t Y s hc1 hc2 hc3 hc4 hc5) := by
  have hc := cond2_at t hc2
  refine ⟨fun i hi hi96 sl hsl r l R hR => ?_, fun _ h96 sl hsl r l R hR => ?_⟩
  · have hs : sl ≠ (⟨t.val / 2 % 2, Nat.mod_lt _ (by decide)⟩ : Fin 2) := fun h => by
      have := congrArg Fin.val h; simp only at this; omega
    rw [v_other2 m c t Y s hc1 hc2 hc3 hc4 hc5 sl hs r l, v_xk_other2 m c t Y s hc1 hc2 hc3 hc4 hc5 sl hs r l]
    exact hI.1 i (by omega) hi96 sl hsl r l R hR
  · have e : sl = (⟨t.val / 2 % 2, Nat.mod_lt _ (by decide)⟩ : Fin 2) := Fin.ext (by show sl.val = t.val / 2 % 2; omega)
    subst e
    have hh : t.val % 2 = 0 := by omega
    have hR' : R.val = 768 * (t.val / 2) + r.val := by omega
    have hm := fun d => modRow_eq m c t hh (by omega) r d R hR'
    have hm' : modRow (grid0.coords t) (iblk m c 0 t) (iblk m c 1 t) (iblk m c 2 t) r = hmv (arrs m c) R := funext hm
    rw [v_hm2 m c t Y s hc1 hc2 hc3 hc4 hc5 r l, v_acc2 m c t Y s hc1 hc2 hc3 hc4 hc5 r l, v_xk2 m c t Y s hc1 hc2 hc3 hc4 hc5 r l]
    refine ⟨hm l, ?_, blk0 m c t hh (by omega) r l R hR'⟩
    rw [hm', add_eq m c t R l 0 0 (by rw [hh]; rfl), add_eq m c t R l 1 1 (by rw [hh]; rfl), add_eq m c t R l 2 2 (by rw [hh]; rfl),
      add_eq m c t R l 3 3 (by rw [hh]; rfl), add_eq m c t R l 4 4 (by rw [hh]; rfl), add_eq m c t R l 5 5 (by rw [hh]; rfl)]
    rfl

theorem inv3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1)
    (hI : Inv (arrs m c) t.val s) : Inv (arrs m c) (t.val + 1) (next3 m c t Y s hc1 hc2 hc3 hc4 hc5) := by
  have hc := cond3_at t hc3
  refine ⟨fun i hi hi96 sl hsl r l R hR => ?_, fun h1 _ => by omega⟩
  have e : sl = (⟨t.val / 2 % 2, Nat.mod_lt _ (by decide)⟩ : Fin 2) := Fin.ext (by show sl.val = t.val / 2 % 2; omega)
  subst e
  have hh : t.val % 2 = 1 := by omega
  have hR' : R.val = 768 * (t.val / 2) + r.val := by omega
  have h := fun l => hI.2 hh (by omega) ⟨t.val / 2 % 2, Nat.mod_lt _ (by decide)⟩ rfl r l R hR'
  have hm' : (fun d => s.hm (ix2 r d)) = hmv (arrs m c) R := funext fun d => (h d).1
  rw [v_acc3 m c t Y s hc1 hc2 hc3 hc4 hc5 r l, v_keep3 m c t Y s hc1 hc2 hc3 hc4 hc5]
  refine ⟨?_, (h l).2.2⟩
  rw [hm', (h l).2.1, add_eq m c t R l 0 6 (by rw [hh]; rfl), add_eq m c t R l 1 7 (by rw [hh]; rfl), add_eq m c t R l 2 8 (by rw [hh]; rfl),
    add_eq m c t R l 3 9 (by rw [hh]; rfl), add_eq m c t R l 4 10 (by rw [hh]; rfl)]
  rfl

theorem inv4 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1)
    (hI : Inv (arrs m c) t.val s) : Inv (arrs m c) (t.val + 1) (next4 m c t Y s hc1 hc2 hc3 hc4 hc5) := by
  have hc := cond4_at t hc4
  refine ⟨fun i hi hi96 sl hsl r l R hR => ?_, fun h1 _ => by omega⟩
  have e : sl = (⟨t.val / 2 % 2, Nat.mod_lt _ (by decide)⟩ : Fin 2) := Fin.ext (by show sl.val = t.val / 2 % 2; omega)
  subst e
  have hh : t.val % 2 = 1 := by omega
  have hR' : R.val = 768 * (t.val / 2) + r.val := by omega
  have h := fun l => hI.2 hh (by omega) ⟨t.val / 2 % 2, Nat.mod_lt _ (by decide)⟩ rfl r l R hR'
  have hm' : (fun d => s.hm (ix2 r d)) = hmv (arrs m c) R := funext fun d => (h d).1
  rw [v_acc4 m c t Y s hc1 hc2 hc3 hc4 hc5 r l, v_keep4 m c t Y s hc1 hc2 hc3 hc4 hc5]
  refine ⟨?_, (h l).2.2⟩
  rw [hm', (h l).2.1, add_eq m c t R l 0 6 (by rw [hh]; rfl), add_eq m c t R l 1 7 (by rw [hh]; rfl), add_eq m c t R l 2 8 (by rw [hh]; rfl),
    add_eq m c t R l 3 9 (by rw [hh]; rfl), add_eq m c t R l 4 10 (by rw [hh]; rfl)]
  rfl

/-- The invariant holds of every reachable state. -/
theorem inv_of_reach (c : Dev nD) {n : ℕ} {s : St Ideal} (h : Reach m c n s) : Inv (arrs m c) n s := by
  induction h with
  | start s => exact ⟨fun i hi => by omega, fun h => by omega⟩
  | step t s s' Y X _ hT ih =>
    rcases hT with ⟨hc1, hc2, hc3, hc4, hc5, -, e⟩ | ⟨hc1, hc2, hc3, hc4, hc5, -, e⟩ | ⟨hc1, hc2, hc3, hc4, hc5, -, e⟩ | ⟨hc1, hc2, hc3, hc4, hc5, -, e⟩ | ⟨hc1, hc2, hc3, hc4, hc5, -, e⟩
    · exact e ▸ inv1 m c t Y s hc1 hc2 hc3 hc4 hc5 ih
    · exact e ▸ inv2 m c t Y s hc1 hc2 hc3 hc4 hc5 ih
    · exact e ▸ inv3 m c t Y s hc1 hc2 hc3 hc4 hc5 ih
    · exact e ▸ inv4 m c t Y s hc1 hc2 hc3 hc4 hc5 ih
    · have hc := cond5_at t hc5
      rw [e]
      exact ⟨fun i hi hi96 => ih.1 i (by omega) hi96, fun _ h => by omega⟩

end Cert.Ffn

end
-- ==== Proof.FfnOut.lean ====
/-
  What a step that finishes half of the previous tile leaves in the output block, and the array that the launch leaves.
-/
module

public import proofs.«01_k».proof.Proof.FfnInv
public import proofs.«01_k».proof.Proof.FfnFrame
public import Idealize.ShloMosaic.Lib.Pipeline.ArrRel

@[expose] public section

set_option maxRecDepth 16384

noncomputable section

namespace Cert.Ffn

open Cert.Kernel2Ideal Cert.Kernel2Ideal.Gen Idealize.ShloMosaic Idealize.ShloMosaic.TcCoe Idealize.SL.Sem

/-! ## Reading a block of 32 rows -/

theorem row_ld {e : EltTy} (x : S2x768x1024.Idx → Elt Ideal e) {off : Fin 3 → ℕ} (inb : ∀ a, off a + S1x32x1024.size a ≤ S2x768x1024.size a)
    (sl : Fin 2) (B : ℕ) (a : Fin 32) (p : Fin 768) (hp : p.val = B + a.val) (l : Fin 1024) (ho : off = ![sl.val, B, 0]) :
    View.ld x (Rect.unit (s := S2x768x1024) off S1x32x1024.size inb) (ix3 0 a l) = x (ix3 sl p l) := by
  subst ho
  refine congrArg x (funext fun y => Fin.ext ?_)
  match y with
  | ⟨0, _⟩ => simp [Rect.emb, Rect.unit, ix3]
  | ⟨1, _⟩ => simp [Rect.emb, Rect.unit, ix3, hp]
  | ⟨2, _⟩ => simp [Rect.emb, Rect.unit, ix3]

theorem ld_gate (x : Vec Ideal S1x9x1024 .f32) (l : Fin 1024) :
    View.ld x (Rect.unit (s := S1x9x1024) ![0, 8, 0] ![1, 1, 1024] inb_S1x9x1024_S1x1x1024_0_8_0) (ix3 0 0 l) = x (ix3 0 8 l) := by
  refine congrArg x (funext fun y => Fin.ext ?_)
  match y with
  | ⟨0, _⟩ => simp [Rect.emb, Rect.unit, ix3]
  | ⟨1, _⟩ => simp [Rect.emb, Rect.unit, ix3]
  | ⟨2, _⟩ => simp [Rect.emb, Rect.unit, ix3]

theorem ld_row (x : Vec Ideal S1x1024 .f32) (l : Fin 1024) :
    View.ld x (Rect.unit (s := S1x1024) ![0, 0] ![1, 1024] inb_S1x1024_S1x1024_0_0) (ix2 0 l) = x (ix2 0 l) := by
  refine congrArg x (funext fun y => Fin.ext ?_)
  match y with
  | ⟨0, _⟩ => simp [Rect.emb, Rect.unit, ix2]
  | ⟨1, _⟩ => simp [Rect.emb, Rect.unit, ix2]

theorem lnorm_congr {x y u u' g g' b b' : Fin 1024 → EReal} (hu : ∀ x, u x = u' x) (hg : ∀ x, g x = g' x) (hb : ∀ x, b x = b' x) (l : Fin 1024) :
    lnorm (resid x u y) g b l = lnorm (resid x u' y) g' b' l := by
  rw [funext hu, funext hg, funext hb]

section
variable (i : grid0.Coords)
  (a3 : Memref sig .tc .vmem S1x9x1024 .f32) (h3 : a3.IsWhole) (a5 : Memref sig .tc .vmem S1x9x1024 .f32) (h5 : a5.IsWhole) (a8 : Memref sig .tc .vmem S1x1024 .f32) (h8 : a8.IsWhole) (a9 : Memref sig .tc .vmem S1x1024 .f32) (h9 : a9.IsWhole) (a12 : Memref sig .tc .vmem S2x768x1024 .f32) (h12 : a12.IsWhole) (a13 : Memref sig .tc .vmem S2x768x1024 .f32) (h13 : a13.IsWhole)
  (x3 x5 : Vec Ideal S1x9x1024 .f32) (x8 x9 : Vec Ideal S1x1024 .f32) (x12 x13 : Vec Ideal S2x768x1024 .f32)

theorem finAt_read (off : Fin 12 → Fin 3 → ℕ) (inb : ∀ k a, off k a + S1x32x1024.size a ≤ S2x768x1024.size a) (sl : Fin 2) (B : ℕ)
    (ho : ∀ k : Fin 12, off k = ![sl.val, B + 32 * k.val, 0]) (k : Fin 12) (a : Fin 32) (p : Fin 768) (hp : p.val = B + 32 * k.val + a.val) (l : Fin 1024) :
    finAt i a3 h3 a5 h5 a8 h8 a9 h9 a12 h12 a13 h13 x3 x5 x8 x9 x12 x13 off inb k (ix2 a l)
      = lnorm (resid (fun x => x13 (ix3 sl p x))
          (fun x => Scalar.select (ctxBit (Scalar.addi (tileBase (Scalar.subi (Scalar.addi (BitVec.ofNat 32 (i 0).val) 3#32) 1#32)) (Scalar.addi (Scalar.muli (BitVec.ofNat 32 (i 1).val) 384#32) (BitVec.ofNat 32 (32 * k.val)))) a.val)
            (x3 (ix3 0 8 x)) (x5 (ix3 0 8 x))) (fun x => x12 (ix3 sl p x)))
        (fun x => x8 (ix2 0 x)) (fun x => x9 (ix2 0 x)) l := by
  unfold finAt
  simp only [View.readAt_eq_ld, h3.read_unread, h5.read_unread, h8.read_unread, h9.read_unread, h12.read_unread, h13.read_unread]
  rw [finBlk_read]
  simp only [fun x => row_ld x13 (inb k) sl (B + 32 * k.val) a p hp x (ho k), fun x => row_ld x12 (inb k) sl (B + 32 * k.val) a p hp x (ho k)]
  exact lnorm_congr (fun x => congrArg₂ (Scalar.select _) (ld_gate x3 x) (ld_gate x5 x)) (ld_row x8) (ld_row x9) l

end

theorem all12 : ∀ k : Fin 12, k ∈ ([11, 10, 9, 8, 7, 6, 5, 4, 3, 2, 1, 0] : List (Fin 12)) := by decide

variable (m : (ℓ : Loc nD τ sig) → Buf (Elt Ideal) ℓ)

/-- The finished row, from a state whose previous tile is accumulated and kept. -/
theorem fin_row (c : Dev nD) (t : Fin cfg0.N) (h1 : 1 ≤ t.val / 2) (s : St Ideal) (hI : Inv (arrs m c) t.val s) (k : Fin 12) (a : Fin 32) (p : Fin 768)
    (hp : p.val = 384 * (t.val % 2) + 32 * k.val + a.val) (R : Fin 73728) (hR : R.val = 768 * (t.val / 2 - 1) + p.val) (l : Fin 1024) :
    lnorm (resid (fun x => s.xk (ix3 ⟨(t.val / 2 + 1) % 2, Nat.mod_lt _ (by decide)⟩ p x))
          (fun x => Scalar.select (ctxBit (Scalar.addi (tileBase (Scalar.subi (Scalar.addi (BitVec.ofNat 32 (grid0.coords t 0).val) 3#32) 1#32)) (Scalar.addi (Scalar.muli (BitVec.ofNat 32 (grid0.coords t 1).val) 384#32) (BitVec.ofNat 32 (32 * k.val)))) a.val)
            ((iblk m c 1 t : Vec Ideal S1x9x1024 .f32) (ix3 0 8 x)) ((iblk m c 3 t : Vec Ideal S1x9x1024 .f32) (ix3 0 8 x))) (fun x => s.acc (ix3 ⟨(t.val / 2 + 1) % 2, Nat.mod_lt _ (by decide)⟩ p x)))
        (fun x => (iblk m c 6 t : Vec Ideal S1x1024 .f32) (ix2 0 x)) (fun x => (iblk m c 7 t : Vec Ideal S1x1024 .f32) (ix2 0 x)) l
      = outv (arrs m c) R l := by
  have ht : t.val < 194 := t.isLt
  have hv := fun x => hI.1 (t.val / 2 - 1) (by omega) (by omega) ⟨(t.val / 2 + 1) % 2, Nat.mod_lt _ (by decide)⟩ (by show (t.val / 2 + 1) % 2 = _; omega) p x R hR
  have hb : ∀ x, Scalar.select (ctxBit (Scalar.addi (tileBase (Scalar.subi (Scalar.addi (BitVec.ofNat 32 (grid0.coords t 0).val) 3#32) 1#32)) (Scalar.addi (Scalar.muli (BitVec.ofNat 32 (grid0.coords t 1).val) 384#32) (BitVec.ofNat 32 (32 * k.val)))) a.val)
            ((iblk m c 1 t : Vec Ideal S1x9x1024 .f32) (ix3 0 8 x)) ((iblk m c 3 t : Vec Ideal S1x9x1024 .f32) (ix3 0 8 x)) = modv (arrs m c) R 8 x := fun x => by
    rw [base_prev t k, ctxBit_ofNat _ _ (by omega), blk1, blk3 m c t 8 x ⟨R.val / 2304, by omega⟩ (by show R.val / 2304 = _; omega)]
    have e : R.val % 2304 = 768 * ((t.val / 2 + 2) % 3) + (384 * (t.val % 2) + 32 * k.val) + a.val := by omega
    unfold modv
    rw [← e]
    by_cases hx : R.val % 2304 < 256
    · simp only [if_pos hx, select_one]
    · simp only [if_neg hx, select_zero]
  unfold outv
  simp only [hb, blk6, blk7, fun x => (hv x).1, fun x => (hv x).2]

theorem out_hit1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (h1 : 1 ≤ t.val / 2) (hI : Inv (arrs m c) t.val s) (p : Fin 768)
    (hp : 384 * (t.val % 2) ≤ p.val ∧ p.val < 384 * (t.val % 2) + 384) (R : Fin 73728) (hR : R.val = 768 * (t.val / 2 - 1) + p.val) (l : Fin 1024) :
    outp1 m c t Y s hc1 hc2 hc3 hc4 hc5 (ix2 p l) = outv (arrs m c) R l := by
  have hp' : p.val = 384 * (t.val % 2) + 32 * ((p.val - 384 * (t.val % 2)) / 32) + (p.val - 384 * (t.val % 2)) % 32 := by omega
  rw [outp1_eq, fin_list1]
  refine (rows_hit (ms8 t).view _ _ (k0_off2_inb (grid0.coords t) hc1) _ (384 * (t.val % 2)) (off2_at t) _
    ⟨(p.val - 384 * (t.val % 2)) / 32, by omega⟩ (all12 _) p ⟨(p.val - 384 * (t.val % 2)) % 32, by omega⟩ l hp').trans ?_
  rw [finAt_read _ _ _ _ _ _ _ _ _ _ _ _ _ _ _ _ _ _ _ _ _ ⟨(t.val / 2 + 1) % 2, Nat.mod_lt _ (by decide)⟩ (384 * (t.val % 2)) (off1_at t) _ _ p hp' l]
  exact fin_row m c t h1 s hI _ _ p hp' R hR l

theorem out_miss1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (p : Fin 768)
    (hp : p.val < 384 * (t.val % 2) ∨ 384 * (t.val % 2) + 384 ≤ p.val) (l : Fin 1024) :
    outp1 m c t Y s hc1 hc2 hc3 hc4 hc5 (ix2 p l) = Y (ix2 p l) := by
  rw [outp1_eq, fin_list1]
  refine (rows_miss (ms8 t).view _ _ (k0_off2_inb (grid0.coords t) hc1) _ (384 * (t.val % 2)) (off2_at t) _ p l fun k _ => by omega).trans ?_
  exact congrFun ((hs8 t).read_unread Y) _

theorem out_hit3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (h1 : 1 ≤ t.val / 2) (hI : Inv (arrs m c) t.val s) (p : Fin 768)
    (hp : 384 * (t.val % 2) ≤ p.val ∧ p.val < 384 * (t.val % 2) + 384) (R : Fin 73728) (hR : R.val = 768 * (t.val / 2 - 1) + p.val) (l : Fin 1024) :
    outp3 m c t Y s hc1 hc2 hc3 hc4 hc5 (ix2 p l) = outv (arrs m c) R l := by
  have hp' : p.val = 384 * (t.val % 2) + 32 * ((p.val - 384 * (t.val % 2)) / 32) + (p.val - 384 * (t.val % 2)) % 32 := by omega
  rw [outp3_eq, fin_list3]
  refine (rows_hit (ms8 t).view _ _ (k0_off6_inb (grid0.coords t) hc3) _ (384 * (t.val % 2)) (off6_at t) _
    ⟨(p.val - 384 * (t.val % 2)) / 32, by omega⟩ (all12 _) p ⟨(p.val - 384 * (t.val % 2)) % 32, by omega⟩ l hp').trans ?_
  rw [finAt_read _ _ _ _ _ _ _ _ _ _ _ _ _ _ _ _ _ _ _ _ _ ⟨(t.val / 2 + 1) % 2, Nat.mod_lt _ (by decide)⟩ (384 * (t.val % 2)) (off5_at t) _ _ p hp' l]
  exact fin_row m c t h1 s hI _ _ p hp' R hR l

theorem out_miss3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (p : Fin 768)
    (hp : p.val < 384 * (t.val % 2) ∨ 384 * (t.val % 2) + 384 ≤ p.val) (l : Fin 1024) :
    outp3 m c t Y s hc1 hc2 hc3 hc4 hc5 (ix2 p l) = Y (ix2 p l) := by
  rw [outp3_eq, fin_list3]
  refine (rows_miss (ms8 t).view _ _ (k0_off6_inb (grid0.coords t) hc3) _ (384 * (t.val % 2)) (off6_at t) _ p l fun k _ => by omega).trans ?_
  exact congrFun ((hs8 t).read_unread Y) _

theorem out_hit5 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) (h1 : 1 ≤ t.val / 2) (hI : Inv (arrs m c) t.val s) (p : Fin 768)
    (hp : 384 * (t.val % 2) ≤ p.val ∧ p.val < 384 * (t.val % 2) + 384) (R : Fin 73728) (hR : R.val = 768 * (t.val / 2 - 1) + p.val) (l : Fin 1024) :
    outp5 m c t Y s hc1 hc2 hc3 hc4 hc5 (ix2 p l) = outv (arrs m c) R l := by
  have hp' : p.val = 384 * (t.val % 2) + 32 * ((p.val - 384 * (t.val % 2)) / 32) + (p.val - 384 * (t.val % 2)) % 32 := by omega
  rw [outp5_eq, fin_list5]
  refine (rows_hit (ms8 t).view _ _ (k0_off10_inb (grid0.coords t) hc5) _ (384 * (t.val % 2)) (off10_at t) _
    ⟨(p.val - 384 * (t.val % 2)) / 32, by omega⟩ (all12 _) p ⟨(p.val - 384 * (t.val % 2)) % 32, by omega⟩ l hp').trans ?_
  rw [finAt_read _ _ _ _ _ _ _ _ _ _ _ _ _ _ _ _ _ _ _ _ _ ⟨(t.val / 2 + 1) % 2, Nat.mod_lt _ (by decide)⟩ (384 * (t.val % 2)) (off9_at t) _ _ p hp' l]
  exact fin_row m c t h1 s hI _ _ p hp' R hR l

theorem out_miss5 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) (p : Fin 768)
    (hp : p.val < 384 * (t.val % 2) ∨ 384 * (t.val % 2) + 384 ≤ p.val) (l : Fin 1024) :
    outp5 m c t Y s hc1 hc2 hc3 hc4 hc5 (ix2 p l) = Y (ix2 p l) := by
  rw [outp5_eq, fin_list5]
  refine (rows_miss (ms8 t).view _ _ (k0_off10_inb (grid0.coords t) hc5) _ (384 * (t.val % 2)) (off10_at t) _ p l fun k _ => by omega).trans ?_
  exact congrFun ((hs8 t).read_unread Y) _

/-- A point of a later tile finishes half of the previous tile's rows and leaves the others. -/
theorem out_row (c : Dev nD) (t : Fin cfg0.N) (h1 : 1 ≤ t.val / 2) (s s' : St Ideal) (Y X : Vec Ideal S768x1024 .f32) (hI : Inv (arrs m c) t.val s)
    (hT : Trans m c t s s' Y X) (p : Fin 768) (l : Fin 1024) :
    (384 * (t.val % 2) ≤ p.val ∧ p.val < 384 * (t.val % 2) + 384 → ∀ R : Fin 73728, R.val = 768 * (t.val / 2 - 1) + p.val → X (ix2 p l) = outv (arrs m c) R l)
      ∧ (p.val < 384 * (t.val % 2) ∨ 384 * (t.val % 2) + 384 ≤ p.val → X (ix2 p l) = Y (ix2 p l)) := by
  rcases hT with ⟨hc1, hc2, hc3, hc4, hc5, e, -⟩ | ⟨hc1, hc2, hc3, hc4, hc5, -, -⟩ | ⟨hc1, hc2, hc3, hc4, hc5, e, -⟩ | ⟨hc1, hc2, hc3, hc4, hc5, -, -⟩ | ⟨hc1, hc2, hc3, hc4, hc5, e, -⟩
  · subst e
    exact ⟨fun hp R hR => out_hit1 m c t Y s hc1 hc2 hc3 hc4 hc5 h1 hI p hp R hR l, fun hp => out_miss1 m c t Y s hc1 hc2 hc3 hc4 hc5 p hp l⟩
  · have := cond2_at t hc2; omega
  · subst e
    exact ⟨fun hp R hR => out_hit3 m c t Y s hc1 hc2 hc3 hc4 hc5 h1 hI p hp R hR l, fun hp => out_miss3 m c t Y s hc1 hc2 hc3 hc4 hc5 p hp l⟩
  · have := cond4_at t hc4; omega
  · subst e
    exact ⟨fun hp R hR => out_hit5 m c t Y s hc1 hc2 hc3 hc4 hc5 h1 hI p hp R hR l, fun hp => out_miss5 m c t Y s hc1 hc2 hc3 hc4 hc5 p hp l⟩

/-! ## The array -/

theorem flush8 : ∀ t : Fin cfg0.N, (cfg0.win 8).flush t = true → t.val % 2 = 1 ∧ 1 ≤ t.val / 2 :=
  (by decide +kernel : ∀ t : Fin grid0.N, (cfg0.win 8).flush t = true → t.val % 2 = 1 ∧ 1 ≤ t.val / 2)

/-- What a flushed block holds: the previous tile's rows, finished. -/
theorem leaves8 (c : Dev nD) (t : Fin cfg0.N) (hf : (cfg0.win 8).flush t = true) (X : Vec Ideal S768x1024 .f32) (h : (rdat m c).Leaves 8 t X)
    (p : Fin 768) (l : Fin 1024) (R : Fin 73728) (hR : R.val = 768 * (t.val / 2 - 1) + p.val) : X (ix2 p l) = outv (arrs m c) R l := by
  have ht := flush8 t hf
  obtain ⟨Y, hY, s, s', hr, hT⟩ := h
  have h1 := out_row m c t ht.2 s s' Y X (inv_of_reach m c hr) hT p l
  by_cases hp : 384 ≤ p.val
  · exact h1.1 (by omega) R hR
  · rw [h1.2 (by omega)]
    rw [(rdat m c).finds_of_pos ((cfg0.win 8).fetch_out rfl _) (by omega)] at hY
    rcases hY with hY | ⟨Y', -, s₀, s₁, hr', hT'⟩
    · have := (flush8 _ hY).1
      simp only at this
      omega
    · have h2 := out_row m c _ (by show 1 ≤ (t.val - 1) / 2; omega) s₀ s₁ Y' Y (inv_of_reach m c hr') hT' p l
      refine h2.1 ?_ R ?_
      · show 384 * ((t.val - 1) % 2) ≤ p.val ∧ p.val < 384 * ((t.val - 1) % 2) + 384
        omega
      · show R.val = 768 * ((t.val - 1) / 2 - 1) + p.val
        omega

/-- The result, as one array. -/
def result (A : Arr) (i : S73728x1024.Idx) : EReal := outv A (i 0) (i 1)

theorem emb8 (t : Fin cfg0.N) (ht : 1 ≤ t.val / 2) (p : Fin 768) (l : Fin 1024) :
    (win0_8.blk t).view.emb (ix2 p l : S768x1024.Idx)
      = (ix2 ⟨768 * (t.val / 2 - 1) + p.val, by have : t.val < 194 := t.isLt; omega⟩ l : S73728x1024.Idx) := by
  blk_ext [idx8]

/-- The launch leaves the result in the output array. -/
theorem final {r : PUnit × MemSt nD τ sig (Elt Ideal)} (h : Pipeline.RDat.FramePost cfg0 (rdat m) (V m) r) (c : Dev nD) :
    r.2.mem ((c.tc : Thread nD τ).loc main_v12) = result (arrs m c) := by
  obtain ⟨after, hL, hA⟩ := h.exists_exact c
  refine (hA 8).trans ?_
  refine ((rdat m c).withAfter after).arrAt_eq_of_covers 8 _ (by decide +kernel) fun t hf y => ?_
  obtain ⟨p, l, rfl⟩ : ∃ (p : Fin 768) (l : Fin 1024), y = ix2 p l := ⟨y 0, y 1, eq_ix2 y⟩
  have ht := flush8 t hf
  have he : ((cfg0.win 8).blk t).view.emb (ix2 p l : S768x1024.Idx)
      = (ix2 ⟨768 * (t.val / 2 - 1) + p.val, by have : t.val < 194 := t.isLt; omega⟩ l : S73728x1024.Idx) := emb8 t ht.2 p l
  have hv := leaves8 m c t hf (after 8 t) (hL 8 t hf) p l ⟨768 * (t.val / 2 - 1) + p.val, by have : t.val < 194 := t.isLt; omega⟩ rfl
  blk_simp
  exact Eq.trans hv (congrArg (result (arrs m c)) he).symm

end Cert.Ffn

end
-- ==== Proof.FfnRef.lean ====
/-
  The reference read at an index: a row's modulation, its two hidden rows, the product with the last matrix, and the layer norm.
-/
module

public import proofs.«01_k».proof.Proof.FfnMath
public import proofs.«01_k».proof.Proof.Gen.Reference2Ideal.Read

@[expose] public section

set_option maxRecDepth 16384

noncomputable section

namespace Cert.Ffn

open Cert.Reference2Ideal Cert.Reference2Ideal.Gen Cert.Reference2Ideal.Read Idealize.ShloMosaic

variable (x0 : Vec Ideal S73728x1024 .f32) (x1 : Vec Ideal S40x9x1024 .f32) (x2 x3 : Vec Ideal S1024x2816 .f32) (x4 : Vec Ideal S2816x1024 .f32)
  (x5 x6 : Vec Ideal S1024 .f32)

section
variable (b : Fin 32) (q : Fin 256)

theorem ref_mod_ctx (d : Fin 1024) : val_main_v16 (F := Ideal) x0 x1 (ix3 b q d)
    = modulated (fun d => x0 (ix2 ⟨b.val * 2304 + q.val, by omega⟩ d)) (fun d => x1 (ix3 ⟨32, by decide⟩ 7 d)) (fun d => x1 (ix3 ⟨32, by decide⟩ 6 d)) d := by
  pointwise [val_main_v16, val_main_v5, val_main_v6, val_main_v7, val_main_v8, val_main_v9, val_main_v10, val_main_v11, val_main_v12, val_main_v13, val_main_v14, val_main_v15, val_main_v1, val_main_v0, val_main_cst, modulated]

theorem ref_hidden_ctx (k : Fin 2816) : val_main_v20 (F := Ideal) x0 x1 x2 x3 (ix3 b q k)
    = hiddenRow (fun d => val_main_v16 (F := Ideal) x0 x1 (ix3 b q d)) (fun d k => x2 (ix2 d k)) (fun d k => x3 (ix2 d k)) k := by
  unfold hiddenRow silu
  unfold val_main_v20 val_main_v18
  unfold val_main_call0_v5 val_main_call0_v3 val_main_call0_v1 val_main_call0_v0 val_main_v17 val_main_v19
  generalize val_main_v16 (F := Ideal) x0 x1 = H
  pointwise [val_main_call0_cst, val_main_call0_v2, val_main_call0_cst_0, val_main_call0_v4]

theorem ref_last_ctx (l : Fin 1024) : val_main_v21 (F := Ideal) x0 x1 x2 x3 x4 (ix3 b q l)
    = ∑ k : Fin 2816, val_main_v20 (F := Ideal) x0 x1 x2 x3 (ix3 b q k) * x4 (ix2 k l) := by
  unfold val_main_v21
  generalize val_main_v20 (F := Ideal) x0 x1 x2 x3 = H
  pointwise

theorem ref_resid_ctx (l : Fin 1024) : val_main_v30 (F := Ideal) x0 x1 x2 x3 x4 (ix3 b q l)
    = resid (fun d => x0 (ix2 ⟨b.val * 2304 + q.val, by omega⟩ d)) (fun d => x1 (ix3 ⟨32, by decide⟩ 8 d)) (fun y => val_main_v21 (F := Ideal) x0 x1 x2 x3 x4 (ix3 b q y)) l := by
  unfold resid
  pointwise [val_main_v30, val_main_v22, val_main_v23, val_main_v6, val_main_v5, val_main_v24, val_main_v25, val_main_v26, val_main_v27, val_main_v28, val_main_v29, val_main_v1, val_main_v0, val_main_cst_0, val_main_cst_1]

theorem ref_mean_ctx (l : Fin 1024) : val_main_v35 (F := Ideal) x0 x1 x2 x3 x4 (ix3 b q l)
    = mean fun y => val_main_v30 (F := Ideal) x0 x1 x2 x3 x4 (ix3 b q y) := by
  unfold mean
  pointwise [val_main_v32, val_main_v33, val_main_v34, val_main_v35, val_main_cst_2, val_main_cst_3, val_main_v31]

theorem ref_centred_ctx (l : Fin 1024) : val_main_v36 (F := Ideal) x0 x1 x2 x3 x4 (ix3 b q l)
    = val_main_v30 (F := Ideal) x0 x1 x2 x3 x4 (ix3 b q l) - mean fun y => val_main_v30 (F := Ideal) x0 x1 x2 x3 x4 (ix3 b q y) := by
  rw [val_main_v36_apply, ref_mean_ctx]
  rfl

theorem ref_scale_ctx (l : Fin 1024) : val_main_v45 (F := Ideal) x0 x1 x2 x3 x4 (ix3 b q l)
    = Ideal.rsqrt (mean (fun y => val_main_v36 (F := Ideal) x0 x1 x2 x3 x4 (ix3 b q y) * val_main_v36 (F := Ideal) x0 x1 x2 x3 x4 (ix3 b q y))
        + Ideal.ofBits FTy.f32 897988541#32) := by
  unfold mean
  pointwise [val_main_v45, val_main_v44, val_main_v39, val_main_v40, val_main_v41, val_main_v42, val_main_v43, val_main_cst_4, val_main_cst_5, val_main_cst_6, val_main_v38, val_main_v37]

theorem ref_norm_ctx (l : Fin 1024) : val_main_v52 (F := Ideal) x0 x1 x2 x3 x4 x5 x6 (ix3 b q l)
    = lnorm (fun y => val_main_v30 (F := Ideal) x0 x1 x2 x3 x4 (ix3 b q y)) (fun y => x5 (ix1 y)) (fun y => x6 (ix1 y)) l := by
  have e : val_main_v52 (F := Ideal) x0 x1 x2 x3 x4 x5 x6 (ix3 b q l)
      = (val_main_v36 (F := Ideal) x0 x1 x2 x3 x4 (ix3 b q l) * val_main_v45 (F := Ideal) x0 x1 x2 x3 x4 (ix3 b q l)) * x5 (ix1 l) + x6 (ix1 l) := by
    pointwise [val_main_v52, val_main_v46, val_main_v47, val_main_v48, val_main_v49, val_main_v50, val_main_v51]
  rw [e, ref_scale_ctx]
  simp only [ref_centred_ctx]
  rfl

theorem ref_ctx (l : Fin 1024) : val_main_v52 (F := Ideal) x0 x1 x2 x3 x4 x5 x6 (ix3 b q l)
    = layer (fun d => x0 (ix2 ⟨b.val * 2304 + q.val, by omega⟩ d)) (fun d => x1 (ix3 ⟨32, by decide⟩ 7 d)) (fun d => x1 (ix3 ⟨32, by decide⟩ 6 d)) (fun d => x1 (ix3 ⟨32, by decide⟩ 8 d))
        (fun d k => x2 (ix2 d k)) (fun d k => x3 (ix2 d k)) (fun k y => x4 (ix2 k y)) (fun y => x5 (ix1 y)) (fun y => x6 (ix1 y)) l := by
  rw [ref_norm_ctx]
  simp only [ref_resid_ctx, ref_last_ctx, ref_hidden_ctx, ref_mod_ctx]
  rfl

end

section
variable (b : Fin 32) (q : Fin 2048)

theorem ref_mod_lat (d : Fin 1024) : val_main_v62 (F := Ideal) x0 x1 (ix3 b q d)
    = modulated (fun d => x0 (ix2 ⟨b.val * 2304 + (256 + q.val), by omega⟩ d)) (fun d => x1 (ix3 ⟨b.val, by omega⟩ 7 d)) (fun d => x1 (ix3 ⟨b.val, by omega⟩ 6 d)) d := by
  pointwise [val_main_v62, val_main_v3, val_main_v4, val_main_v53, val_main_v54, val_main_v55, val_main_v56, val_main_v57, val_main_v58, val_main_v59, val_main_v60, val_main_v61, val_main_v2, val_main_v0, val_main_cst_7, modulated]

theorem ref_hidden_lat (k : Fin 2816) : val_main_v66 (F := Ideal) x0 x1 x2 x3 (ix3 b q k)
    = hiddenRow (fun d => val_main_v62 (F := Ideal) x0 x1 (ix3 b q d)) (fun d k => x2 (ix2 d k)) (fun d k => x3 (ix2 d k)) k := by
  unfold hiddenRow silu
  unfold val_main_v66 val_main_v64
  unfold val_main_call1_v5 val_main_call1_v3 val_main_call1_v1 val_main_call1_v0 val_main_v63 val_main_v65
  generalize val_main_v62 (F := Ideal) x0 x1 = H
  pointwise [val_main_call1_cst, val_main_call1_v2, val_main_call1_cst_0, val_main_call1_v4]

theorem ref_last_lat (l : Fin 1024) : val_main_v67 (F := Ideal) x0 x1 x2 x3 x4 (ix3 b q l)
    = ∑ k : Fin 2816, val_main_v66 (F := Ideal) x0 x1 x2 x3 (ix3 b q k) * x4 (ix2 k l) := by
  unfold val_main_v67
  generalize val_main_v66 (F := Ideal) x0 x1 x2 x3 = H
  pointwise

theorem ref_resid_lat (l : Fin 1024) : val_main_v76 (F := Ideal) x0 x1 x2 x3 x4 (ix3 b q l)
    = resid (fun d => x0 (ix2 ⟨b.val * 2304 + (256 + q.val), by omega⟩ d)) (fun d => x1 (ix3 ⟨b.val, by omega⟩ 8 d)) (fun y => val_main_v67 (F := Ideal) x0 x1 x2 x3 x4 (ix3 b q y)) l := by
  unfold resid
  pointwise [val_main_v76, val_main_v68, val_main_v69, val_main_v4, val_main_v3, val_main_v70, val_main_v71, val_main_v72, val_main_v73, val_main_v74, val_main_v75, val_main_v2, val_main_v0, val_main_cst_8, val_main_cst_9]

theorem ref_mean_lat (l : Fin 1024) : val_main_v81 (F := Ideal) x0 x1 x2 x3 x4 (ix3 b q l)
    = mean fun y => val_main_v76 (F := Ideal) x0 x1 x2 x3 x4 (ix3 b q y) := by
  unfold mean
  pointwise [val_main_v78, val_main_v79, val_main_v80, val_main_v81, val_main_cst_10, val_main_cst_11, val_main_v77]

theorem ref_centred_lat (l : Fin 1024) : val_main_v82 (F := Ideal) x0 x1 x2 x3 x4 (ix3 b q l)
    = val_main_v76 (F := Ideal) x0 x1 x2 x3 x4 (ix3 b q l) - mean fun y => val_main_v76 (F := Ideal) x0 x1 x2 x3 x4 (ix3 b q y) := by
  rw [val_main_v82_apply, ref_mean_lat]
  rfl

theorem ref_scale_lat (l : Fin 1024) : val_main_v91 (F := Ideal) x0 x1 x2 x3 x4 (ix3 b q l)
    = Ideal.rsqrt (mean (fun y => val_main_v82 (F := Ideal) x0 x1 x2 x3 x4 (ix3 b q y) * val_main_v82 (F := Ideal) x0 x1 x2 x3 x4 (ix3 b q y))
        + Ideal.ofBits FTy.f32 897988541#32) := by
  unfold mean
  pointwise [val_main_v91, val_main_v90, val_main_v85, val_main_v86, val_main_v87, val_main_v88, val_main_v89, val_main_cst_12, val_main_cst_13, val_main_cst_14, val_main_v84, val_main_v83]

theorem ref_norm_lat (l : Fin 1024) : val_main_v98 (F := Ideal) x0 x1 x2 x3 x4 x5 x6 (ix3 b q l)
    = lnorm (fun y => val_main_v76 (F := Ideal) x0 x1 x2 x3 x4 (ix3 b q y)) (fun y => x5 (ix1 y)) (fun y => x6 (ix1 y)) l := by
  have e : val_main_v98 (F := Ideal) x0 x1 x2 x3 x4 x5 x6 (ix3 b q l)
      = (val_main_v82 (F := Ideal) x0 x1 x2 x3 x4 (ix3 b q l) * val_main_v91 (F := Ideal) x0 x1 x2 x3 x4 (ix3 b q l)) * x5 (ix1 l) + x6 (ix1 l) := by
    pointwise [val_main_v98, val_main_v92, val_main_v93, val_main_v94, val_main_v95, val_main_v96, val_main_v97]
  rw [e, ref_scale_lat]
  simp only [ref_centred_lat]
  rfl

theorem ref_lat (l : Fin 1024) : val_main_v98 (F := Ideal) x0 x1 x2 x3 x4 x5 x6 (ix3 b q l)
    = layer (fun d => x0 (ix2 ⟨b.val * 2304 + (256 + q.val), by omega⟩ d)) (fun d => x1 (ix3 ⟨b.val, by omega⟩ 7 d)) (fun d => x1 (ix3 ⟨b.val, by omega⟩ 6 d)) (fun d => x1 (ix3 ⟨b.val, by omega⟩ 8 d))
        (fun d k => x2 (ix2 d k)) (fun d k => x3 (ix2 d k)) (fun k y => x4 (ix2 k y)) (fun y => x5 (ix1 y)) (fun y => x6 (ix1 y)) l := by
  rw [ref_norm_lat]
  simp only [ref_resid_lat, ref_last_lat, ref_hidden_lat, ref_mod_lat]
  rfl

end

/-- The two kinds of rows side by side. -/
theorem ref_join (A : Vec Ideal S32x256x1024 .f32) (B : Vec Ideal S32x2048x1024 .f32) (hA : val_main_v52 (F := Ideal) x0 x1 x2 x3 x4 x5 x6 = A)
    (hB : val_main_v98 (F := Ideal) x0 x1 x2 x3 x4 x5 x6 = B) (R : Fin 73728) (l : Fin 1024) :
    val_main_v100 (F := Ideal) x0 x1 x2 x3 x4 x5 x6 (ix2 R l)
      = if h : R.val % 2304 < 256 then A (ix3 ⟨R.val / 2304, by omega⟩ ⟨R.val % 2304, h⟩ l)
        else B (ix3 ⟨R.val / 2304, by omega⟩ ⟨R.val % 2304 - 256, by omega⟩ l) := by
  unfold val_main_v100 val_main_v99
  rw [hA, hB]
  pointwise

end Cert.Ffn

end
-- ==== Proof.FfnAlg.lean ====
/-
  The launch's result is the reference's, for arguments of real numbers where the silu's argument is made of them.
-/
module

public import proofs.«01_k».proof.Proof.FfnHost
public import proofs.«01_k».proof.Proof.FfnOut
public import proofs.«01_k».proof.Proof.FfnRef

@[expose] public section

set_option maxRecDepth 16384

noncomputable section

namespace Cert.Ffn

open Cert.Kernel2Ideal Cert.Kernel2Ideal.Gen Cert.Att Idealize.ShloMosaic Idealize.ShloMosaic.TcCoe

/-- One chunk of 256 hidden columns. -/
theorem chunk_hidden (A : Arr) (x2 x3 : Vec Ideal S1024x2816 .f32) (x4 : Vec Ideal S2816x1024 .f32) (h13 : A.w13 = packed13 x2 x3) (h2 : A.w2 = packed2 x4)
    (R : Fin 73728) (l : Fin 1024) (hr : ∀ d, Real' (hmv A R d)) (hw : ∀ i, Real' (x2 i)) (q : Fin 12) (hq : q.val < 11) :
    chunkv A R l q = ∑ j : Fin 256, (fun k : Fin 2816 => hiddenRow (hmv A R) (fun d k => x2 (ix2 d k)) (fun d k => x3 (ix2 d k)) k * x4 (ix2 k l))
      ⟨256 * q.val + j.val, by omega⟩ := by
  unfold chunkv part
  refine Finset.sum_congr rfl fun j _ => ?_
  rw [h13, h2]
  simp only [fun d => packed13_left x2 x3 q hq d j, fun d => packed13_right x2 x3 q hq d j, packed2_read x4 q hq j l]
  rw [ksilu_eq _ (Real'.sum _ _ fun d _ => (hr d).mul (hw _))]
  rfl

/-- What the accumulator ends with. -/
theorem accv_hidden (A : Arr) (x2 x3 : Vec Ideal S1024x2816 .f32) (x4 : Vec Ideal S2816x1024 .f32) (h13 : A.w13 = packed13 x2 x3) (h2 : A.w2 = packed2 x4)
    (R : Fin 73728) (l : Fin 1024) (hr : ∀ d, Real' (hmv A R d)) (hw : ∀ i, Real' (x2 i)) :
    accv A R l = ∑ k, hiddenRow (hmv A R) (fun d k => x2 (ix2 d k)) (fun d k => x3 (ix2 d k)) k * x4 (ix2 k l) :=
  sum_chunks _ (chunkv A R l) fun q hq => chunk_hidden A x2 x3 x4 h13 h2 R l hr hw q hq

variable (x0 : Vec Ideal S73728x1024 .f32) (x1 : Vec Ideal S40x9x1024 .f32) (x2 x3 : Vec Ideal S1024x2816 .f32) (x4 : Vec Ideal S2816x1024 .f32)
  (x5 x6 : Vec Ideal S1024 .f32)

/-- The arrays the launch finds, from the arguments. -/
def arrOf : Arr where
  xa := x0
  md := x1
  w13 := packed13 x2 x3
  w2 := packed2 x4
  g := broadcastInDim S1x1024 ![1] bcast_S1024_S1x1024_1 x5
  b := broadcastInDim S1x1024 ![1] bcast_S1024_S1x1024_1 x6

theorem row_read (x : Vec Ideal S1024 .f32) (l : Fin 1024) : broadcastInDim S1x1024 ![1] bcast_S1024_S1x1024_1 x (ix2 0 l) = x (ix1 l) := by
  pointwise

/-- A row of the launch's result. -/
theorem outv_layer (h0 : ∀ i, Real' (x0 i)) (h1 : ∀ i, Real' (x1 i)) (h2 : ∀ i, Real' (x2 i)) (R : Fin 73728) (l : Fin 1024) (k : Fin 40)
    (hk : k = if R.val % 2304 < 256 then 32 else ⟨R.val / 2304, by omega⟩) :
    outv (arrOf x0 x1 x2 x3 x4 x5 x6) R l
      = layer (fun d => x0 (ix2 R d)) (fun d => x1 (ix3 k 7 d)) (fun d => x1 (ix3 k 6 d)) (fun d => x1 (ix3 k 8 d))
          (fun d k => x2 (ix2 d k)) (fun d k => x3 (ix2 d k)) (fun k y => x4 (ix2 k y)) (fun y => x5 (ix1 y)) (fun y => x6 (ix1 y)) l := by
  subst hk
  have hr : ∀ d, Real' (hmv (arrOf x0 x1 x2 x3 x4 x5 x6) R d) := fun d => by
    refine ((h0 _).mul (Real'.add ⟨1, ofBits_one⟩ (h1 _))).add (h1 _)
  have ha := funext fun y => accv_hidden (arrOf x0 x1 x2 x3 x4 x5 x6) x2 x3 x4 rfl rfl R y hr h2
  have hg := funext fun y => row_read x5 y
  have hb := funext fun y => row_read x6 y
  unfold outv
  rw [ha, show (fun x => (arrOf x0 x1 x2 x3 x4 x5 x6).g (ix2 0 x)) = fun y => x5 (ix1 y) from hg,
    show (fun x => (arrOf x0 x1 x2 x3 x4 x5 x6).b (ix2 0 x)) = fun y => x6 (ix1 y) from hb]
  rfl

/-- The reference's result is the launch's. -/
theorem ref_result (h0 : ∀ i, Real' (x0 i)) (h1 : ∀ i, Real' (x1 i)) (h2 : ∀ i, Real' (x2 i)) :
    Cert.Reference2Ideal.Read.val_main_v100 (F := Ideal) x0 x1 x2 x3 x4 x5 x6 = result (arrOf x0 x1 x2 x3 x4 x5 x6) := by
  funext i
  obtain ⟨R, l, rfl⟩ : ∃ (R : Fin 73728) (l : Fin 1024), i = ix2 R l := ⟨i 0, i 1, eq_ix2 i⟩
  show _ = outv _ R l
  rw [ref_join x0 x1 x2 x3 x4 x5 x6 _ _ rfl rfl]
  by_cases h : R.val % 2304 < 256
  · rw [dif_pos h, ref_ctx, outv_layer x0 x1 x2 x3 x4 x5 x6 h0 h1 h2 R l 32 (if_pos h).symm]
    have e : (⟨R.val / 2304 * 2304 + R.val % 2304, by omega⟩ : Fin 73728) = R := Fin.ext (by show R.val / 2304 * 2304 + R.val % 2304 = R.val; omega)
    simp only [e]
    rfl
  · rw [dif_neg h, ref_lat, outv_layer x0 x1 x2 x3 x4 x5 x6 h0 h1 h2 R l ⟨R.val / 2304, by omega⟩ (if_neg h).symm]
    have e : (⟨R.val / 2304 * 2304 + (256 + (R.val % 2304 - 256)), by omega⟩ : Fin 73728) = R :=
      Fin.ext (by show R.val / 2304 * 2304 + (256 + (R.val % 2304 - 256)) = R.val; omega)
    simp only [e]

/-- The arrays the launch finds. -/
theorem arrs_eq (m : (ℓ : Loc nD τ sig) → Buf (Elt Ideal) ℓ) (c : Dev nD) :
    arrs m c = arrOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  unfold arrs arrOf
  rw [V6, V9, V10, V11]

end Cert.Ffn

end
-- ==== Proof.FfnFinite.lean ====
/-
  The feed-forward's precondition says that the tokens, the modulation and the first matrix are real numbers.
-/
module

public import proofs.«01_k».proof.Proof.AttFinite
public import proofs.«01_k».proof.Proof.Gen.Pre_finite_ffn

@[expose] public section

noncomputable section

namespace Cert.Ffn

open Idealize.ShloMosaic Cert.Att

theorem finite_of_pre [Cert.Pre_finite_ffn.Facts] (x0 : FVec Ideal Cert.Pre_finite_ffn.S73728x1024 .f32) (x1 : FVec Ideal Cert.Pre_finite_ffn.S40x9x1024 .f32)
    (x2 x3 : FVec Ideal Cert.Pre_finite_ffn.S1024x2816 .f32) (x4 : FVec Ideal Cert.Pre_finite_ffn.S2816x1024 .f32)
    (x5 x6 : FVec Ideal Cert.Pre_finite_ffn.S1024 .f32) (h : Cert.Pre_finite_ffn.fn (F := Ideal) x0 x1 x2 x3 x4 x5 x6 = fun _ => 1#1) :
    (∀ i, Real' (x0 i)) ∧ (∀ i, Real' (x1 i)) ∧ (∀ i, Real' (x2 i)) := by
  have e := congrFun h (fun a => a.elim0)
  dsimp only [Cert.Pre_finite_ffn.fn] at e
  obtain ⟨e01, e2⟩ := IntOp.andi_eq_one.1 e
  obtain ⟨e0, e1⟩ := IntOp.andi_eq_one.1 e01
  haveI : Subsingleton Cert.Pre_finite_ffn.S_.Idx := ⟨fun a b => funext fun x => x.elim0⟩
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i)⟩

end Cert.Ffn

end
-- ==== Proof.FirstRun1.lean ====
/-
  The body's run in one of its five cases: what its stores leave in the output block and in the three scratch buffers.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first step: the first half of the previous tile is finished, the tile is modulated and its first chunks are accumulated. -/
def run1 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : k0_cond1 i = 1#1) (hc2 : ¬k0_cond2 i = 1#1) (hc3 : ¬k0_cond3 i = 1#1) (hc4 : ¬k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .f32) × List (View.Piece (Elt F) S768x1024 .bf16) × List (View.Piece (Elt F) S2x768x1024 .f32) × List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} arg10.view.writes (Elt F) (harg10.unread x10) L.1) ∗ (arg11.view.loc (c : Thread nD τ) ↦[arg11.view.set]{fullShare} arg11.view.writes (Elt F) (harg11.unread x11) L.2.1) ∗ (arg12.view.loc (c : Thread nD τ) ↦[arg12.view.set]{fullShare} arg12.view.writes (Elt F) (harg12.unread x12) L.2.2.1) ∗ (arg13.view.loc (c : Thread nD τ) ↦[arg13.view.set]{fullShare} arg13.view.writes (Elt F) (harg13.unread x13) L.2.2.2)) -∗ K ⟨⟩))
          ⊢ wp frame (wpE (defs₀ (F := F)) Variants.none c none) E (cc0_ffn0 i arg2 harg2 arg3 harg3 arg4 harg4 arg5 harg5 arg6 harg6 arg7 harg7 arg8 harg8 arg9 harg9 arg10 harg10 arg11 harg11 arg12 harg12 arg13 harg13) K } := by
  refine ⟨(?_, ?_, ?_, ?_), fun E K => ?run⟩
  case run =>
    simp only [cc0_ffn0_eq_skeleton]; unfold cc0_ffn0_skel
    simp only [k0_part82_eq_skeleton, k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexact H10
    isplitl [H11]
    · iexact H11
    isplitl [H12]
    · iexact H12
    iexact H13

end Cert.First

end
-- ==== Proof.FirstRun2.lean ====
/-
  The body's run in one of its five cases: what its stores leave in the output block and in the three scratch buffers.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first step of the first tile: the tile is modulated and its first chunks are accumulated. -/
def run2 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : k0_cond2 i = 1#1) (hc3 : ¬k0_cond3 i = 1#1) (hc4 : ¬k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .bf16) × List (View.Piece (Elt F) S2x768x1024 .f32) × List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L.1) ∗ (arg12.view.loc (c : Thread nD τ) ↦[arg12.view.set]{fullShare} arg12.view.writes (Elt F) (harg12.unread x12) L.2.1) ∗ (arg13.view.loc (c : Thread nD τ) ↦[arg13.view.set]{fullShare} arg13.view.writes (Elt F) (harg13.unread x13) L.2.2)) -∗ K ⟨⟩))
          ⊢ wp frame (wpE (defs₀ (F := F)) Variants.none c none) E (cc0_ffn0 i arg2 harg2 arg3 harg3 arg4 harg4 arg5 harg5 arg6 harg6 arg7 harg7 arg8 harg8 arg9 harg9 arg10 harg10 arg11 harg11 arg12 harg12 arg13 harg13) K } := by
  refine ⟨(?_, ?_, ?_), fun E K => ?run⟩
  case run =>
    simp only [cc0_ffn0_eq_skeleton]; unfold cc0_ffn0_skel
    simp only [k0_part82_eq_skeleton, k0_part28_eq_skeleton, k0_part29_eq_skeleton, k0_part30_eq_skeleton, k0_part31_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexact H12
    iexact H13

end Cert.First

end
-- ==== Proof.FirstRun3.lean ====
/-
  The body's run in one of its five cases: what its stores leave in the output block and in the three scratch buffers.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a second step: the second half of the previous tile is finished and the remaining chunks are accumulated. -/
def run3 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : ¬k0_cond2 i = 1#1) (hc3 : k0_cond3 i = 1#1) (hc4 : ¬k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .f32) × List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg13 fullShare x13 ∗ (arg10.view.loc (c : Thread nD τ) ↦[arg10.view.set]{fullShare} arg10.view.writes (Elt F) (harg10.unread x10) L.1) ∗ (arg12.view.loc (c : Thread nD τ) ↦[arg12.view.set]{fullShare} arg12.view.writes (Elt F) (harg12.unread x12) L.2)) -∗ K ⟨⟩))
          ⊢ wp frame (wpE (defs₀ (F := F)) Variants.none c none) E (cc0_ffn0 i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc0_ffn0_eq_skeleton]; unfold cc0_ffn0_skel
    simp only [k0_part82_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    isplitl [H13]
    · iexists _; isplitr; · ipureintro; exact harg13.read_unread _
      iexact H13
    isplitl [H10]
    · iexact H10
    iexact H12

end Cert.First

end
-- ==== Proof.FirstRun4.lean ====
/-
  The body's run in one of its five cases: what its stores leave in the output block and in the three scratch buffers.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the second step of the first tile: the remaining chunks are accumulated. -/
def run4 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : ¬k0_cond2 i = 1#1) (hc3 : ¬k0_cond3 i = 1#1) (hc4 : k0_cond4 i = 1#1) (hc5 : ¬k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S2x768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare x13 ∗ (arg12.view.loc (c : Thread nD τ) ↦[arg12.view.set]{fullShare} arg12.view.writes (Elt F) (harg12.unread x12) L)) -∗ K ⟨⟩))
          ⊢ wp frame (wpE (defs₀ (F := F)) Variants.none c none) E (cc0_ffn0 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn0_eq_skeleton]; unfold cc0_ffn0_skel
    simp only [k0_part82_eq_skeleton, k0_part57_eq_skeleton, k0_part58_eq_skeleton, k0_part59_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; isplitr; · ipureintro; exact harg13.read_unread _
      iexact H13
    iexact H12

end Cert.First

end
-- ==== Proof.FirstRun5.lean ====
/-
  The body's run in one of its five cases: what its stores leave in the output block and in the three scratch buffers.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the last tile row: the previous tile is finished, and nothing is accumulated. -/
def run5 (c : Dev nD) (i : grid0.Coords) (arg2 : Memref sig .tc .vmem S768x1024 .f32) (harg2 : arg2.IsWhole) (arg3 : Memref sig .tc .vmem S1x9x1024 .f32) (harg3 : arg3.IsWhole) (arg4 : Memref sig .tc .vmem S1x9x1024 .f32) (harg4 : arg4.IsWhole) (arg5 : Memref sig .tc .vmem S1x9x1024 .f32) (harg5 : arg5.IsWhole) (arg6 : Memref sig .tc .vmem S6x1024x512 .bf16) (harg6 : arg6.IsWhole) (arg7 : Memref sig .tc .vmem S6x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .bf16) (harg11 : arg11.IsWhole) (arg12 : Memref sig .tc .vmem S2x768x1024 .f32) (harg12 : arg12.IsWhole) (arg13 : Memref sig .tc .vmem S2x768x1024 .f32) (harg13 : arg13.IsWhole)
    (hc1 : ¬k0_cond1 i = 1#1) (hc2 : ¬k0_cond2 i = 1#1) (hc3 : ¬k0_cond3 i = 1#1) (hc4 : ¬k0_cond4 i = 1#1) (hc5 : k0_cond5 i = 1#1)
    (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32) :
    { L : List (View.Piece (Elt F) S768x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13 ∗ (arg10.view.loc (c : Thread nD τ) ↦[arg10.view.set]{fullShare} arg10.view.writes (Elt F) (harg10.unread x10) L)) -∗ K ⟨⟩))
          ⊢ wp frame (wpE (defs₀ (F := F)) Variants.none c none) E (cc0_ffn0 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn0_eq_skeleton]; unfold cc0_ffn0_skel
    simp only [k0_part82_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexact H10

end Cert.First

end
-- ==== Proof.FirstData.lean ====
/-
  The first feed-forward kernel's frame, over any float values: what each grid point does to the three scratch buffers and
  to the output block (`Trans`), the states the scratch buffers can be in before a point (`Reach`), and the run of the
  whole launch with every array, scratch buffer and counter accounted for.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic
public import proofs.«01_k».proof.Proof.FirstRun1
public import proofs.«01_k».proof.Proof.FirstRun2
public import proofs.«01_k».proof.Proof.FirstRun3
public import proofs.«01_k».proof.Proof.FirstRun4
public import proofs.«01_k».proof.Proof.FirstRun5

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs at a point -/

abbrev ms0 (t : Fin cfg0.N) : Memref sig .tc .vmem S768x1024 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S1x9x1024 .f32 := win0_1.stage (cfg0.slots t 1)
theorem hs1 (t : Fin cfg0.N) : (ms1 t).IsWhole := hstage0_1 ((cfg0.slots t 1).cast nbuf0_1)
abbrev ms2 (t : Fin cfg0.N) : Memref sig .tc .vmem S1x9x1024 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S1x9x1024 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S6x1024x512 .bf16 := win0_4.stage (cfg0.slots t 4)
theorem hs4 (t : Fin cfg0.N) : (ms4 t).IsWhole := hstage0_4 ((cfg0.slots t 4).cast nbuf0_4)
abbrev ms5 (t : Fin cfg0.N) : Memref sig .tc .vmem S6x256x1024 .bf16 := win0_5.stage (cfg0.slots t 5)
theorem hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S768x1024 .f32 := win0_8.stage (cfg0.slots t 8)
theorem hs8 (t : Fin cfg0.N) : (ms8 t).IsWhole := hstage0_8 ((cfg0.slots t 8).cast nbuf0_8)

/-- The three scratch buffers: the modulated tile, the two accumulators, the two kept tiles. -/
abbrev sc0 : Memref sig .tc .vmem S768x1024 .bf16 := Memref.whole cc0_scratch0
abbrev sc1 : Memref sig .tc .vmem S2x768x1024 .f32 := Memref.whole cc0_scratch1
abbrev sc2 : Memref sig .tc .vmem S2x768x1024 .f32 := Memref.whole cc0_scratch2

/-- What a memref reads once the pieces `L` have been written over `x`. -/
abbrev over {S : Shape} {e : EltTy} (M : Memref sig .tc .vmem S e) (h : M.IsWhole) (c : Dev nD) (x : Vec F S e) (L : List (View.Piece (Elt F) S e)) : Vec F S e :=
  M.view.read (Elt F) (M.view.writes (Elt F) (h.unread x) L)

theorem owns_over {S : Shape} {e : EltTy} (M : Memref sig .tc .vmem S e) (h : M.IsWhole) (c : Dev nD) (x : Vec F S e) (L : List (View.Piece (Elt F) S e)) :
    (M.view.loc (c : Thread nD τ) ↦[M.view.set]{fullShare} M.view.writes (Elt F) (h.unread x) L : sProp 𝕄)
      ⊢ owns (c : Thread nD τ) M fullShare (over M h c x L) := by
  iintro H
  unfold owns
  iexists _
  isplitr
  · ipureintro; rfl
  · iexact H

/-- The scratch buffers' contents. -/
structure St (F : FTy → Type) [FloatOps F] where
  hm : Vec F S768x1024 .bf16
  acc : Vec F S2x768x1024 .f32
  xk : Vec F S2x768x1024 .f32

/-! ## What a point does -/

/-- The state after The body at a first step: the first half of the previous tile is finished, the tile is modulated and its first chunks are accumulated. -/
def next1 (m : (ℓ : Loc nD τ sig) → Buf (Elt F) ℓ) (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) : St F :=
  (⟨(over (sc0) (Memref.isWhole_whole _) c s.hm (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1), (over (sc1) (Memref.isWhole_whole _) c s.acc (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.1), (over (sc2) (Memref.isWhole_whole _) c s.xk (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.2)⟩ : St F)

/-- The output block after it. -/
def outp1 (m : (ℓ : Loc nD τ sig) → Buf (Elt F) ℓ) (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) : Vec F S768x1024 .f32 :=
  (over (ms8 t) (hs8 t) c Y (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1)
/-- The body at a first step: the first half of the previous tile is finished, the tile is modulated and its first chunks are accumulated. -/
def Case1 (c : Dev nD) (t : Fin cfg0.N) (s s' : St F) (Y X : Vec F S768x1024 .f32) : Prop :=
  ∃ (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1), X = outp1 m c t Y s hc1 hc2 hc3 hc4 hc5 ∧ s' = next1 m c t Y s hc1 hc2 hc3 hc4 hc5

/-- The state after The body at the first step of the first tile: the tile is modulated and its first chunks are accumulated. -/
def next2 (m : (ℓ : Loc nD τ sig) → Buf (Elt F) ℓ) (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) : St F :=
  (⟨(over (sc0) (Memref.isWhole_whole _) c s.hm (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1), (over (sc1) (Memref.isWhole_whole _) c s.acc (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1), (over (sc2) (Memref.isWhole_whole _) c s.xk (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2)⟩ : St F)

/-- The output block after it. -/
def outp2 (m : (ℓ : Loc nD τ sig) → Buf (Elt F) ℓ) (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) : Vec F S768x1024 .f32 :=
  Y
/-- The body at the first step of the first tile: the tile is modulated and its first chunks are accumulated. -/
def Case2 (c : Dev nD) (t : Fin cfg0.N) (s s' : St F) (Y X : Vec F S768x1024 .f32) : Prop :=
  ∃ (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1), X = outp2 m c t Y s hc1 hc2 hc3 hc4 hc5 ∧ s' = next2 m c t Y s hc1 hc2 hc3 hc4 hc5

/-- The state after The body at a second step: the second half of the previous tile is finished and the remaining chunks are accumulated. -/
def next3 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) : St F :=
  (⟨s.hm, (over (sc1) (Memref.isWhole_whole _) c s.acc (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2), s.xk⟩ : St F)

/-- The output block after it. -/
def outp3 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) : Vec F S768x1024 .f32 :=
  (over (ms8 t) (hs8 t) c Y (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1)
/-- The body at a second step: the second half of the previous tile is finished and the remaining chunks are accumulated. -/
def Case3 (c : Dev nD) (t : Fin cfg0.N) (s s' : St F) (Y X : Vec F S768x1024 .f32) : Prop :=
  ∃ (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1), X = outp3 m c t Y s hc1 hc2 hc3 hc4 hc5 ∧ s' = next3 m c t Y s hc1 hc2 hc3 hc4 hc5

/-- The state after The body at the second step of the first tile: the remaining chunks are accumulated. -/
def next4 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) : St F :=
  (⟨s.hm, (over (sc1) (Memref.isWhole_whole _) c s.acc (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1), s.xk⟩ : St F)

/-- The output block after it. -/
def outp4 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) : Vec F S768x1024 .f32 :=
  Y
/-- The body at the second step of the first tile: the remaining chunks are accumulated. -/
def Case4 (c : Dev nD) (t : Fin cfg0.N) (s s' : St F) (Y X : Vec F S768x1024 .f32) : Prop :=
  ∃ (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1), X = outp4 m c t Y s hc1 hc2 hc3 hc4 hc5 ∧ s' = next4 m c t Y s hc1 hc2 hc3 hc4 hc5

/-- The state after The body at a point of the last tile row: the previous tile is finished, and nothing is accumulated. -/
def next5 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) : St F :=
  (⟨s.hm, s.acc, s.xk⟩ : St F)

/-- The output block after it. -/
def outp5 (m : (ℓ : Loc nD τ sig) → Buf (Elt F) ℓ) (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) : Vec F S768x1024 .f32 :=
  (over (ms8 t) (hs8 t) c Y (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1)
/-- The body at a point of the last tile row: the previous tile is finished, and nothing is accumulated. -/
def Case5 (c : Dev nD) (t : Fin cfg0.N) (s s' : St F) (Y X : Vec F S768x1024 .f32) : Prop :=
  ∃ (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1), X = outp5 m c t Y s hc1 hc2 hc3 hc4 hc5 ∧ s' = next5 m c t Y s hc1 hc2 hc3 hc4 hc5

/-- A point takes the scratch from `s` to `s'` and the output block from `Y` to `X`. -/
def Trans (c : Dev nD) (t : Fin cfg0.N) (s s' : St F) (Y X : Vec F S768x1024 .f32) : Prop :=
  Case1 m c t s s' Y X ∨ Case2 m c t s s' Y X ∨ Case3 m c t s s' Y X ∨ Case4 m c t s s' Y X ∨ Case5 m c t s s' Y X

/-- The states the scratch can be in before point `n`. -/
inductive Reach (c : Dev nD) : ℕ → St F → Prop
  | start (s : St F) : Reach c 0 s
  | step (t : Fin cfg0.N) (s s' : St F) (Y X : Vec F S768x1024 .f32) : Reach c t.val s → Trans m c t s s' Y X → Reach c (t.val + 1) s'

/-- Every point is in exactly one of the five cases. -/
theorem cases_at : ∀ t : Fin cfg0.N,
    (k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1) ∨ (¬k0_cond1 (grid0.coords t) = 1#1 ∧ k0_cond2 (grid0.coords t) = 1#1 ∧ ¬k0_cond3 (grid0.coords t) = 1#1 ∧ ¬k0_cond4 (grid0.coords t) = 1#1 ∧ ¬k0_cond5 (grid0.coords t) = 1#1) ∨ (¬k0_cond1 (grid0.coords t) = 1#1 ∧ ¬k0_cond2 (grid0.coords t) = 1#1 ∧ k0_cond3 (grid0.coords t) = 1#1 ∧ ¬k0_cond4 (grid0.coords t) = 1#1 ∧ ¬k0_cond5 (grid0.coords t) = 1#1) ∨ (¬k0_cond1 (grid0.coords t) = 1#1 ∧ ¬k0_cond2 (grid0.coords t) = 1#1 ∧ ¬k0_cond3 (grid0.coords t) = 1#1 ∧ k0_cond4 (grid0.coords t) = 1#1 ∧ ¬k0_cond5 (grid0.coords t) = 1#1) ∨ (¬k0_cond1 (grid0.coords t) = 1#1 ∧ ¬k0_cond2 (grid0.coords t) = 1#1 ∧ ¬k0_cond3 (grid0.coords t) = 1#1 ∧ ¬k0_cond4 (grid0.coords t) = 1#1 ∧ k0_cond5 (grid0.coords t) = 1#1) := by
  decide +kernel

/-! ## The pipeline's data -/

/-- The scratch buffers at some state reachable before point `n`. -/
def scratch (c : Dev nD) (n : ℕ) : sProp 𝕄 :=
  iprop(∃ s : St F, ⌜Reach m c n s⌝ ∗ owns (c : Thread nD τ) sc0 fullShare s.hm ∗ owns (c : Thread nD τ) sc1 fullShare s.acc ∗ owns (c : Thread nD τ) sc2 fullShare s.xk)

/-- The launch's data: the inputs' blocks stay as found, the output block changes as some reachable state has it. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => ∃ s s' : St F, Reach m c t.val s ∧ Trans m c t s s' Y X
  Φ t := iprop(scratch m c t.val ∗ (∃ r, prngReg c r))
  q w := Pipeline.shareOf spec0 w
  owed _ := 0

theorem A_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = iblk m c 0 t := by
  obtain ⟨d, e⟩ := (rdat m c).finds_in_eq_fetched 0 rfl (fun _ _ _ => rfl) (fun _ _ _ h => h) t Y h
  rw [e]; unfold Pipeline.RDat.fetched Pipeline.RDat.blockOf iblk; rw [A_eq]; rfl
theorem finds1 (c : Dev nD) (t : Fin cfg0.N) (Y) (h : (rdat m c).Finds 1 t Y) : Y = iblk m c 1 t := by
  obtain ⟨d, e⟩ := (rdat m c).finds_in_eq_fetched 1 rfl (fun _ _ _ => rfl) (fun _ _ _ h => h) t Y h
  rw [e]; unfold Pipeline.RDat.fetched Pipeline.RDat.blockOf iblk; rw [A_eq]; rfl
theorem finds2 (c : Dev nD) (t : Fin cfg0.N) (Y) (h : (rdat m c).Finds 2 t Y) : Y = iblk m c 2 t := by
  obtain ⟨d, e⟩ := (rdat m c).finds_in_eq_fetched 2 rfl (fun _ _ _ => rfl) (fun _ _ _ h => h) t Y h
  rw [e]; unfold Pipeline.RDat.fetched Pipeline.RDat.blockOf iblk; rw [A_eq]; rfl
theorem finds3 (c : Dev nD) (t : Fin cfg0.N) (Y) (h : (rdat m c).Finds 3 t Y) : Y = iblk m c 3 t := by
  obtain ⟨d, e⟩ := (rdat m c).finds_in_eq_fetched 3 rfl (fun _ _ _ => rfl) (fun _ _ _ h => h) t Y h
  rw [e]; unfold Pipeline.RDat.fetched Pipeline.RDat.blockOf iblk; rw [A_eq]; rfl
theorem finds4 (c : Dev nD) (t : Fin cfg0.N) (Y) (h : (rdat m c).Finds 4 t Y) : Y = iblk m c 4 t := by
  obtain ⟨d, e⟩ := (rdat m c).finds_in_eq_fetched 4 rfl (fun _ _ _ => rfl) (fun _ _ _ h => h) t Y h
  rw [e]; unfold Pipeline.RDat.fetched Pipeline.RDat.blockOf iblk; rw [A_eq]; rfl
theorem finds5 (c : Dev nD) (t : Fin cfg0.N) (Y) (h : (rdat m c).Finds 5 t Y) : Y = iblk m c 5 t := by
  obtain ⟨d, e⟩ := (rdat m c).finds_in_eq_fetched 5 rfl (fun _ _ _ => rfl) (fun _ _ _ h => h) t Y h
  rw [e]; unfold Pipeline.RDat.fetched Pipeline.RDat.blockOf iblk; rw [A_eq]; rfl
theorem finds6 (c : Dev nD) (t : Fin cfg0.N) (Y) (h : (rdat m c).Finds 6 t Y) : Y = iblk m c 6 t := by
  obtain ⟨d, e⟩ := (rdat m c).finds_in_eq_fetched 6 rfl (fun _ _ _ => rfl) (fun _ _ _ h => h) t Y h
  rw [e]; unfold Pipeline.RDat.fetched Pipeline.RDat.blockOf iblk; rw [A_eq]; rfl
theorem finds7 (c : Dev nD) (t : Fin cfg0.N) (Y) (h : (rdat m c).Finds 7 t Y) : Y = iblk m c 7 t := by
  obtain ⟨d, e⟩ := (rdat m c).finds_in_eq_fetched 7 rfl (fun _ _ _ => rfl) (fun _ _ _ h => h) t Y h
  rw [e]; unfold Pipeline.RDat.fetched Pipeline.RDat.blockOf iblk; rw [A_eq]; rfl
end Cert.First

end
-- ==== Proof.FirstFrame.lean ====
/-
  The run of the first feed-forward launch, over any float values: every array, scratch buffer and counter is accounted for.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic
public import proofs.«01_k».proof.Proof.FirstData

@[expose] public section

set_option maxRecDepth 16384

noncomputable section

namespace Cert.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

theorem trans1 (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    Trans m c t s (next1 m c t Y s hc1 hc2 hc3 hc4 hc5) Y (outp1 m c t Y s hc1 hc2 hc3 hc4 hc5) :=
  Or.inl ⟨hc1, hc2, hc3, hc4, hc5, rfl, rfl⟩

set_option maxHeartbeats 1000000 in
theorem sound1 (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next1 m c t Y s hc1 hc2 hc3 hc4 hc5).hm ∗ owns (c : Thread nD τ) sc1 fullShare (next1 m c t Y s hc1 hc2 hc3 hc4 hc5).acc ∗ owns (c : Thread nD τ) sc2 fullShare (next1 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp1 m c t Y s hc1 hc2 hc3 hc4 hc5))) := by
  have hrun := (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next1, outp1]
  generalize (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S1, S2⟩
  isplitl [S0 S1 S2]
  · isplitl [S0]; · iapply owns_over; iexact S0
    isplitl [S1]; · iapply owns_over; iexact S1
    iapply owns_over; iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply owns_over; iexact H8

theorem trans2 (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    Trans m c t s (next2 m c t Y s hc1 hc2 hc3 hc4 hc5) Y (outp2 m c t Y s hc1 hc2 hc3 hc4 hc5) :=
  Or.inr (Or.inl ⟨hc1, hc2, hc3, hc4, hc5, rfl, rfl⟩)

set_option maxHeartbeats 1000000 in
theorem sound2 (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next2 m c t Y s hc1 hc2 hc3 hc4 hc5).hm ∗ owns (c : Thread nD τ) sc1 fullShare (next2 m c t Y s hc1 hc2 hc3 hc4 hc5).acc ∗ owns (c : Thread nD τ) sc2 fullShare (next2 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp2 m c t Y s hc1 hc2 hc3 hc4 hc5))) := by
  have hrun := (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next2, outp2]
  generalize (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S1, S2⟩
  isplitl [S0 S1 S2]
  · isplitl [S0]; · iapply owns_over; iexact S0
    isplitl [S1]; · iapply owns_over; iexact S1
    iapply owns_over; iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem trans3 (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) :
    Trans m c t s (next3 m c t Y s hc1 hc2 hc3 hc4 hc5) Y (outp3 m c t Y s hc1 hc2 hc3 hc4 hc5) :=
  Or.inr (Or.inr (Or.inl ⟨hc1, hc2, hc3, hc4, hc5, rfl, rfl⟩))

set_option maxHeartbeats 1000000 in
theorem sound3 (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next3 m c t Y s hc1 hc2 hc3 hc4 hc5).hm ∗ owns (c : Thread nD τ) sc1 fullShare (next3 m c t Y s hc1 hc2 hc3 hc4 hc5).acc ∗ owns (c : Thread nD τ) sc2 fullShare (next3 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp3 m c t Y s hc1 hc2 hc3 hc4 hc5))) := by
  have hrun := (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next3, outp3]
  generalize (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, S0, S2, H8, S1⟩
  isplitl [S0 S1 S2]
  · isplitl [S0]; · iexact S0
    isplitl [S1]; · iapply owns_over; iexact S1
    iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply owns_over; iexact H8

theorem trans4 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) :
    Trans m c t s (next4 m c t Y s hc1 hc2 hc3 hc4 hc5) Y (outp4 m c t Y s hc1 hc2 hc3 hc4 hc5) :=
  Or.inr (Or.inr (Or.inr (Or.inl ⟨hc1, hc2, hc3, hc4, hc5, rfl, rfl⟩)))

set_option maxHeartbeats 1000000 in
theorem sound4 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next4 m c t Y s hc1 hc2 hc3 hc4 hc5).hm ∗ owns (c : Thread nD τ) sc1 fullShare (next4 m c t Y s hc1 hc2 hc3 hc4 hc5).acc ∗ owns (c : Thread nD τ) sc2 fullShare (next4 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp4 m c t Y s hc1 hc2 hc3 hc4 hc5))) := by
  have hrun := (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next4, outp4]
  generalize (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S2, S1⟩
  isplitl [S0 S1 S2]
  · isplitl [S0]; · iexact S0
    isplitl [S1]; · iapply owns_over; iexact S1
    iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem trans5 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) :
    Trans m c t s (next5 m c t Y s hc1 hc2 hc3 hc4 hc5) Y (outp5 m c t Y s hc1 hc2 hc3 hc4 hc5) :=
  Or.inr (Or.inr (Or.inr (Or.inr ⟨hc1, hc2, hc3, hc4, hc5, rfl, rfl⟩)))

set_option maxHeartbeats 1000000 in
theorem sound5 (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) (R O : sProp 𝕄) :
    iprop((owns (c : Thread nD τ) sc0 fullShare s.hm ∗ owns (c : Thread nD τ) sc1 fullShare s.acc ∗ owns (c : Thread nD τ) sc2 fullShare s.xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((owns (c : Thread nD τ) sc0 fullShare (next5 m c t Y s hc1 hc2 hc3 hc4 hc5).hm ∗ owns (c : Thread nD τ) sc1 fullShare (next5 m c t Y s hc1 hc2 hc3 hc4 hc5).acc ∗ owns (c : Thread nD τ) sc2 fullShare (next5 m c t Y s hc1 hc2 hc3 hc4 hc5).xk) ∗ R ∗ O
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (outp5 m c t Y s hc1 hc2 hc3 hc4 hc5))) := by
  have hrun := (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).2 Set.univ
  unfold bodyAt0
  dsimp only [next5, outp5]
  generalize (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1 = L at hrun ⊢
  iintro ⟨⟨S0, S1, S2⟩, HR, Ho, H0, H1, H2, H3, H4, H5, H6, H7, H8⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, S0, S1, S2, H8⟩
  isplitl [S0 S1 S2]
  · isplitl [S0]; · iexact S0
    isplitl [S1]; · iexact S1
    iexact S2
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply owns_over; iexact H8

/-- A state and an output block that the point can lead to are what the data ask for. -/
theorem close (c : Dev nD) (t : Fin cfg0.N) (Y X : Vec F S768x1024 .f32) (s s' : St F) (hR : Reach m c t.val s) (hT : Trans m c t s s' Y X) :
    iprop((owns (c : Thread nD τ) sc0 fullShare s'.hm ∗ owns (c : Thread nD τ) sc1 fullShare s'.acc ∗ owns (c : Thread nD τ) sc2 fullShare s'.xk) ∗ (∃ r, prngReg c r) ∗ (rdat m c).owesAt () t.castSucc
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare X)
    ⊢ iprop((rdat m c).Φ t.succ ∗ (rdat m c).owesAt () t.succ
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜∃ s s' : St F, Reach m c t.val s ∧ Trans m c t s s' Y X⌝ ∗ owns (c : Thread nD τ) (ms8 t) fullShare X)) := by
  rw [show (rdat m c).owesAt () t.succ = (rdat m c).owesAt () t.castSucc from rfl,
    show (rdat m c).Φ t.succ = iprop(scratch m c (t.val + 1) ∗ (∃ r, prngReg c r)) from rfl]
  unfold scratch
  iintro ⟨S, Hg, Ho, H0, H1, H2, H3, H4, H5, H6, H7, H8⟩
  isplitl [S Hg]
  · isplitl [S]
    · iexists s'
      isplitr; · ipureintro; exact Reach.step t s s' Y X hR hT
      iexact S
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists X; isplitr; · ipureintro; exact ⟨s, s', hR, hT⟩
  iexact H8

/-- The body at any point, from any reachable state and any output block. -/
theorem sound_body (c : Dev nD) (t : Fin cfg0.N) (Y : Vec F S768x1024 .f32) :
    iprop((rdat m c).Φ t.castSucc ∗ (rdat m c).owesAt () t.castSucc
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare Y)
    ⊢ wp frame (wpE (defs₀ (F := F)) Variants.none c none) Set.univ (bodyAt0 t) (fun _ =>
      iprop((rdat m c).Φ t.succ ∗ (rdat m c).owesAt () t.succ
      ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜∃ s s' : St F, Reach m c t.val s ∧ Trans m c t s s' Y X⌝ ∗ owns (c : Thread nD τ) (ms8 t) fullShare X))) := by
  rw [show (rdat m c).Φ t.castSucc = iprop(scratch m c t.val ∗ (∃ r, prngReg c r)) from rfl]
  unfold scratch
  iintro ⟨⟨⟨%s, %hR, S⟩, Hg⟩, Ho, H⟩
  rcases cases_at t with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
  · iapply (triple_restated (sound1 m c t Y s hc1 hc2 hc3 hc4 hc5 iprop(∃ r, prngReg c r) ((rdat m c).owesAt () t.castSucc)) rfl .rfl fun _ => close m c t Y _ s _ hR (trans1 m c t Y s hc1 hc2 hc3 hc4 hc5))
    isplitl [S]; · iexact S
    isplitl [Hg]; · iexact Hg
    isplitl [Ho]; · iexact Ho
    iexact H
  · iapply (triple_restated (sound2 m c t Y s hc1 hc2 hc3 hc4 hc5 iprop(∃ r, prngReg c r) ((rdat m c).owesAt () t.castSucc)) rfl .rfl fun _ => close m c t Y _ s _ hR (trans2 m c t Y s hc1 hc2 hc3 hc4 hc5))
    isplitl [S]; · iexact S
    isplitl [Hg]; · iexact Hg
    isplitl [Ho]; · iexact Ho
    iexact H
  · iapply (triple_restated (sound3 m c t Y s hc1 hc2 hc3 hc4 hc5 iprop(∃ r, prngReg c r) ((rdat m c).owesAt () t.castSucc)) rfl .rfl fun _ => close m c t Y _ s _ hR (trans3 m c t Y s hc1 hc2 hc3 hc4 hc5))
    isplitl [S]; · iexact S
    isplitl [Hg]; · iexact Hg
    isplitl [Ho]; · iexact Ho
    iexact H
  · iapply (triple_restated (sound4 m c t Y s hc1 hc2 hc3 hc4 hc5 iprop(∃ r, prngReg c r) ((rdat m c).owesAt () t.castSucc)) rfl .rfl fun _ => close m c t Y _ s _ hR (trans4 m c t Y s hc1 hc2 hc3 hc4 hc5))
    isplitl [S]; · iexact S
    isplitl [Hg]; · iexact Hg
    isplitl [Ho]; · iexact Ho
    iexact H
  · iapply (triple_restated (sound5 m c t Y s hc1 hc2 hc3 hc4 hc5 iprop(∃ r, prngReg c r) ((rdat m c).owesAt () t.castSucc)) rfl .rfl fun _ => close m c t Y _ s _ hR (trans5 m c t Y s hc1 hc2 hc3 hc4 hc5))
    isplitl [S]; · iexact S
    isplitl [Hg]; · iexact Hg
    isplitl [Ho]; · iexact Ho
    iexact H

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : (rdat m c).BodyObligation (defs₀ (F := F)) Variants.none () Set.univ := by
  intro t Y hY
  rw [bigSep_W0, bigSep_W0, defs₀_row]
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  refine triple_restated (sound_body m c t (Y 8)) rfl ?_ fun _ => ?_
  · rw [e0, e1, e2, e3, e4, e5, e6, e7]
  · iintro ⟨HΦ, Ho, H0, H1, H2, H3, H4, H5, H6, H7, ⟨%X, %hX, H8⟩⟩
    isplitl [HΦ]; · iexact HΦ
    isplitl [Ho]; · iexact Ho
    isplitl [H0]
    · iexists (iblk m c 0 t)
      isplitr
      · ipureintro; exact e0.symm
      · iexact H0
    isplitl [H1]
    · iexists (iblk m c 1 t)
      isplitr
      · ipureintro; exact e1.symm
      · iexact H1
    isplitl [H2]
    · iexists (iblk m c 2 t)
      isplitr
      · ipureintro; exact e2.symm
      · iexact H2
    isplitl [H3]
    · iexists (iblk m c 3 t)
      isplitr
      · ipureintro; exact e3.symm
      · iexact H3
    isplitl [H4]
    · iexists (iblk m c 4 t)
      isplitr
      · ipureintro; exact e4.symm
      · iexact H4
    isplitl [H5]
    · iexists (iblk m c 5 t)
      isplitr
      · ipureintro; exact e5.symm
      · iexact H5
    isplitl [H6]
    · iexists (iblk m c 6 t)
      isplitr
      · ipureintro; exact e6.symm
      · iexact H6
    isplitl [H7]
    · iexists (iblk m c 7 t)
      isplitr
      · ipureintro; exact e7.symm
      · iexact H7
    iexists X; isplitr; · ipureintro; exact hX
    iexact H8

/-! ## The launch -/

theorem enter (c : Dev nD) : Pipeline.ΦA spec0 c ⊢ (rdat m c).Φ 0 := by
  rw [show (rdat m c).Φ 0 = iprop(scratch m c 0 ∗ (∃ r, prngReg c r)) from rfl]
  unfold Pipeline.ΦA scratch
  rw [scopedRest0_eq]
  iintro ⟨⟨⟨%f0, H0⟩, ⟨%f1, H1⟩, ⟨%f2, H2⟩⟩, Hg⟩
  isplitr [Hg]
  · iexists ⟨f0, f1, f2⟩
    isplitr; · ipureintro; exact Reach.start _
    simp only [owns_whole]
    isplitl [H0]; · iexact H0
    isplitl [H1]; · iexact H1
    iexact H2
  · iexact Hg

theorem leave (c : Dev nD) : (rdat m c).Φ (Fin.last cfg0.N) ⊢ Pipeline.ΦA spec0 c := by
  rw [show (rdat m c).Φ (Fin.last cfg0.N) = iprop(scratch m c cfg0.N ∗ (∃ r, prngReg c r)) from rfl]
  unfold Pipeline.ΦA scratch
  rw [scopedRest0_eq]
  iintro ⟨⟨%s, %hR, H0, H1, H2⟩, Hg⟩
  simp only [owns_whole]
  isplitr [Hg]
  · isplitl [H0]; · iexists _; iexact H0
    isplitl [H1]; · iexists _; iexact H1
    iexists _; iexact H2
  · iexact Hg

set_option backward.isDefEq.respectTransparency.types false in
/-- The whole launch: it ends, with every array as the data relate it and every counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := A_eq m) (hin := enter m) (hout := leave m)

variable {m} in
/-- An input array of the launch ends as it was. -/
theorem arr_kept {r : PUnit × MemSt nD τ sig (Elt F)} (h : Pipeline.RDat.FramePost cfg0 (rdat m) (V m) r) (c : Dev nD) (w : Fin cfg0.W)
    (hw : (cfg0.win w).isOut = false) : r.2.mem ((cfg0.spec w).arr.view.loc (c.tc : Thread nD τ)) = V m c (Pipeline.arrRef spec0 w) :=
  (Pipeline.RDat.FramePost.arr_in h c w hw).trans (A_eq m c w)

/-- The seven arguments end as launched. -/
theorem args_kept {r : PUnit × MemSt nD τ sig (Elt F)} (h : Pipeline.RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(arr_kept h c 0 rfl).trans (V_main_arg0 m c),
      (arr_kept h c 3 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩

/-- The frame: the seven arguments end as launched, every counter at zero. -/
theorem frame_first : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main m ρ)

end Cert.First

end
-- ==== Proof.FirstTwin.lean ====
/-
  The bit-exact first feed-forward program is the idealized one's text: the body tables and the main functions agree over any
  float values.
-/
module

public import proofs.«01_k».proof.Proof.Gen.Kernel3
public import proofs.«01_k».proof.Proof.Gen.Kernel3Ideal

@[expose] public section

namespace Cert.First
open Idealize Idealize.ShloMosaic

variable {F : FTy → Type} [FloatOps F]

theorem body_twin : @Cert.Kernel3.cc0_ffn0 F _ Cert.Kernel3.Gen.facts = @Cert.Kernel3Ideal.cc0_ffn0 F _ Cert.Kernel3Ideal.Gen.facts := rfl

theorem table_twin : Cert.Kernel3.defs₀ (F := F) = Cert.Kernel3Ideal.defs₀ (F := F) := by
  refine congrArg Defs.onTc (funext fun l => funext fun a => ?_)
  match l, a with
  | 0, (t, s) =>
    show Cert.Kernel3.cc0_ffn0 (F := F) _ _ _ _ _ _ _ _ _ _ _ _ _ _ _ _ _ _ _ _ _ _ _ _ _
      = Cert.Kernel3Ideal.cc0_ffn0 (F := F) _ _ _ _ _ _ _ _ _ _ _ _ _ _ _ _ _ _ _ _ _ _ _ _ _
    rw [body_twin]; rfl

/-- The two programs' body tables agree. -/
theorem defs_twin : Cert.Kernel3.defs (F := F) = Cert.Kernel3Ideal.defs (F := F) := congrArg (Pipeline.defs _) table_twin
/-- The two programs' main functions agree. -/
theorem main_twin : Cert.Kernel3.main (F := F) = Cert.Kernel3Ideal.main (F := F) := rfl

end Cert.First

end
-- ==== Proof.FirstFin.lean ====
/-
  The blocks of 32 rows that finish the previous tile, at the first step, at the second step and after the last tile: the
  three compute the same block, which is read here at an index.
-/
module

public import proofs.«01_k».proof.Proof.FirstRun1
public import proofs.«01_k».proof.Proof.FirstRun3
public import proofs.«01_k».proof.Proof.FirstRun5
public import Idealize.ShloMosaic.Lib.Pipeline.ValueKit
public import Idealize.ShloMosaic.Lib.WritesUnit

@[expose] public section

set_option maxRecDepth 16384

noncomputable section

namespace Cert.First

open Cert.Kernel3Ideal Cert.Kernel3Ideal.Gen Idealize.ShloMosaic Idealize.ShloMosaic.TcCoe Idealize.SL.Sem

section
variable {F : FTy → Type} [FloatOps F]

/-- One block of 32 rows, the tile's rows from `o` on: the kept rows, the gate's two candidates and the accumulated rows
make the sum that the layer norm normalizes. -/
def finBlk (i0 i1 o : BitVec 32) (mc mp : Vec F S1x1x1024 .f32) (xk ac : Vec F S1x32x1024 .f32) (g b : Vec F S1x1024 .f32) : FVec F S32x1024 .f32 :=
  k0_pay153 (k0_pay151 xk) (k0_pay152 (Scalar.addi (Scalar.muli i1 384#32) o) (Scalar.subi (Scalar.addi i0 3#32) 1#32) 3#32 mc mp) ac g b

/-- The twelve stores of a step, newest first. -/
def stores (off : Fin 12 → Fin 2 → ℕ) (inb : ∀ k a, off k a + S32x1024.size a ≤ S768x1024.size a) (w : Fin 12 → FVec F S32x1024 .f32) :
    Fin 12 → View.Piece (Elt F) S768x1024 .f32 := fun k => ⟨Rect.unit (s := S768x1024) (off k) S32x1024.size (inb k), w k⟩

end

section
variable {F : FTy → Type} [FloatOps F]
variable (c : Dev nD) (i : grid0.Coords)
  (a2 : Memref sig .tc .vmem S768x1024 .f32) (h2 : a2.IsWhole) (a3 : Memref sig .tc .vmem S1x9x1024 .f32) (h3 : a3.IsWhole) (a4 : Memref sig .tc .vmem S1x9x1024 .f32) (h4 : a4.IsWhole) (a5 : Memref sig .tc .vmem S1x9x1024 .f32) (h5 : a5.IsWhole) (a6 : Memref sig .tc .vmem S6x1024x512 .bf16) (h6 : a6.IsWhole) (a7 : Memref sig .tc .vmem S6x256x1024 .bf16) (h7 : a7.IsWhole) (a8 : Memref sig .tc .vmem S1x1024 .f32) (h8 : a8.IsWhole) (a9 : Memref sig .tc .vmem S1x1024 .f32) (h9 : a9.IsWhole) (a10 : Memref sig .tc .vmem S768x1024 .f32) (h10 : a10.IsWhole) (a11 : Memref sig .tc .vmem S768x1024 .bf16) (h11 : a11.IsWhole) (a12 : Memref sig .tc .vmem S2x768x1024 .f32) (h12 : a12.IsWhole) (a13 : Memref sig .tc .vmem S2x768x1024 .f32) (h13 : a13.IsWhole)
  (x2 : Vec F S768x1024 .f32) (x3 : Vec F S1x9x1024 .f32) (x4 : Vec F S1x9x1024 .f32) (x5 : Vec F S1x9x1024 .f32) (x6 : Vec F S6x1024x512 .bf16) (x7 : Vec F S6x256x1024 .bf16) (x8 : Vec F S1x1024 .f32) (x9 : Vec F S1x1024 .f32) (x10 : Vec F S768x1024 .f32) (x11 : Vec F S768x1024 .bf16) (x12 : Vec F S2x768x1024 .f32) (x13 : Vec F S2x768x1024 .f32)

/-- The block `k` from the whole buffers, the kept and accumulated rows at the offsets `off`. -/
def finAt (off : Fin 12 → Fin 3 → ℕ) (inb : ∀ k a, off k a + S1x32x1024.size a ≤ S2x768x1024.size a) (k : Fin 12) : FVec F S32x1024 .f32 :=
  finBlk (BitVec.ofNat 32 (i 0).val) (BitVec.ofNat 32 (i 1).val) (BitVec.ofNat 32 (32 * k.val))
    (View.readAt (Elt F) a3.view (Rect.unit (s := S1x9x1024) ![0, 2, 0] S1x1x1024.size inb_S1x9x1024_S1x1x1024_0_2_0).toLoadRect (h3.unread x3))
    (View.readAt (Elt F) a5.view (Rect.unit (s := S1x9x1024) ![0, 2, 0] S1x1x1024.size inb_S1x9x1024_S1x1x1024_0_2_0).toLoadRect (h5.unread x5))
    (View.readAt (Elt F) a13.view (Rect.unit (s := S2x768x1024) (off k) S1x32x1024.size (inb k)).toLoadRect (h13.unread x13))
    (View.readAt (Elt F) a12.view (Rect.unit (s := S2x768x1024) (off k) S1x32x1024.size (inb k)).toLoadRect (h12.unread x12))
    (View.readAt (Elt F) a8.view (Rect.unit (s := S1x1024) ![0, 0] S1x1024.size inb_S1x1024_S1x1024_0_0).toLoadRect (h8.unread x8))
    (View.readAt (Elt F) a9.view (Rect.unit (s := S1x1024) ![0, 0] S1x1024.size inb_S1x1024_S1x1024_0_0).toLoadRect (h9.unread x9))

set_option maxHeartbeats 2000000 in
theorem fin_list5 (hc1 : ¬k0_cond1 i = 1#1) (hc2 : ¬k0_cond2 i = 1#1) (hc3 : ¬k0_cond3 i = 1#1) (hc4 : ¬k0_cond4 i = 1#1) (hc5 : k0_cond5 i = 1#1) :
    (run5 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1
      = ([11, 10, 9, 8, 7, 6, 5, 4, 3, 2, 1, 0] : List (Fin 12)).map (stores (fun k => k0_off10 i (BitVec.ofNat 32 (32 * k.val))) (k0_off10_inb i hc5)
          (finAt i a3 h3 a5 h5 a8 h8 a9 h9 a12 h12 a13 h13 x3 x5 x8 x9 x12 x13 (fun k => k0_off9 i (BitVec.ofNat 32 (32 * k.val))) (k0_off9_inb i hc5))) := by
  rfl

set_option maxHeartbeats 2000000 in
theorem fin_list1 (hc1 : k0_cond1 i = 1#1) (hc2 : ¬k0_cond2 i = 1#1) (hc3 : ¬k0_cond3 i = 1#1) (hc4 : ¬k0_cond4 i = 1#1) (hc5 : ¬k0_cond5 i = 1#1) :
    (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.1
      = ([11, 10, 9, 8, 7, 6, 5, 4, 3, 2, 1, 0] : List (Fin 12)).map (stores (fun k => k0_off2 i (BitVec.ofNat 32 (32 * k.val))) (k0_off2_inb i hc1)
          (finAt i a3 h3 a5 h5 a8 h8 a9 h9 a12 h12 a13 h13 x3 x5 x8 x9 x12 x13 (fun k => k0_off1 i (BitVec.ofNat 32 (32 * k.val))) (k0_off1_inb i hc1))) := by
  rfl

set_option maxHeartbeats 2000000 in
theorem fin_list3 (hc1 : ¬k0_cond1 i = 1#1) (hc2 : ¬k0_cond2 i = 1#1) (hc3 : k0_cond3 i = 1#1) (hc4 : ¬k0_cond4 i = 1#1) (hc5 : ¬k0_cond5 i = 1#1) :
    (run3 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.1
      = ([11, 10, 9, 8, 7, 6, 5, 4, 3, 2, 1, 0] : List (Fin 12)).map (stores (fun k => k0_off6 i (BitVec.ofNat 32 (32 * k.val))) (k0_off6_inb i hc3)
          (finAt i a3 h3 a5 h5 a8 h8 a9 h9 a12 h12 a13 h13 x3 x5 x8 x9 x12 x13 (fun k => k0_off5 i (BitVec.ofNat 32 (32 * k.val))) (k0_off5_inb i hc3))) := by
  rfl

end

end Cert.First

end
-- ==== Proof.FirstAcc.lean ====
/-
  What the chunks of hidden columns add to the accumulator, and what the first step leaves in the other two scratch
  buffers, read at an index.
-/
module

public import proofs.«01_k».proof.Proof.FfnMath
public import proofs.«01_k».proof.Proof.FirstRun1
public import proofs.«01_k».proof.Proof.FirstRun2
public import proofs.«01_k».proof.Proof.FirstRun3
public import proofs.«01_k».proof.Proof.FirstRun4
public import Idealize.ShloMosaic.Lib.Pipeline.ValueKit
public import Idealize.ShloMosaic.Lib.WritesUnit

@[expose] public section

set_option maxRecDepth 16384

noncomputable section

namespace Cert.First

open Cert.Ffn Cert.Kernel3Ideal Cert.Kernel3Ideal.Gen Idealize.ShloMosaic Idealize.ShloMosaic.TcCoe Idealize.SL.Sem

/-! ## One chunk -/

theorem chunk (hm : Vec Ideal S768x1024 .bf16) (w : Vec Ideal S1x1024x512 .bf16) (u : Vec Ideal S1x256x1024 .bf16)
    (a : Vec Ideal S1x768x1024 .f32) (r : Fin 768) (l : Fin 1024) :
    k0_pay1 (F := Ideal) hm w u a (ix3 0 r l)
      = a (ix3 0 r l) + part (fun d => hm (ix2 r d)) (fun d j => w (ix3 0 d j)) (fun j => u (ix3 0 j l)) := by
  pointwise [k0_pay1, part, ksilu]

theorem chunk_first (hm : Vec Ideal S768x1024 .bf16) (w : Vec Ideal S1x1024x512 .bf16) (u : Vec Ideal S1x256x1024 .bf16)
    (r : Fin 768) (l : Fin 1024) :
    k0_pay60 (F := Ideal) hm w u (ix3 0 r l)
      = part (fun d => hm (ix2 r d)) (fun d j => w (ix3 0 d j)) (fun j => u (ix3 0 j l)) := by
  pointwise [k0_pay60, part, ksilu]

section
variable {F : FTy → Type} [FloatOps F] (hm : Vec F S768x1024 .bf16) (w : Vec F S1x1024x512 .bf16) (u : Vec F S1x256x1024 .bf16)
    (a : Vec F S1x768x1024 .f32)
theorem chunk_eq1 : k0_pay62 (k0_pay61 hm w u a) = k0_pay1 hm w u a := rfl
theorem chunk_eq2 : k0_pay63 hm w u a = k0_pay1 hm w u a := rfl
theorem chunk_eq3 : k0_pay65 (k0_pay64 hm w) u a = k0_pay1 hm w u a := rfl
theorem chunk_eq4 : k0_pay66 hm w u a = k0_pay1 hm w u a := rfl
theorem chunk_eq5 : k0_pay67 hm w u a = k0_pay1 hm w u a := rfl
theorem chunk_eq6 : k0_pay72 (k0_pay71 hm w u a) = k0_pay1 hm w u a := rfl
theorem chunk_eq7 : k0_pay73 hm w u a = k0_pay1 hm w u a := rfl
theorem chunk_eq8 : k0_pay75 (k0_pay74 hm w) u a = k0_pay1 hm w u a := rfl
theorem chunk_eq9 : k0_pay76 hm w u a = k0_pay1 hm w u a := rfl
theorem chunk_eq10 : k0_pay131 hm w u a = k0_pay1 hm w u a := rfl
theorem chunk_eq11 : k0_pay133 (k0_pay132 hm w) u a = k0_pay1 hm w u a := rfl
theorem chunk_eq12 : k0_pay134 hm w u a = k0_pay1 hm w u a := rfl
theorem chunk_eq13 : k0_pay136 hm (k0_pay135 w) (constant S768x512 FTy.f32 0#32) u a = k0_pay1 hm w u a := rfl
theorem chunk_eq14 : k0_pay2 (k0_pay137 hm w u) (k0_pay138 a) = k0_pay1 hm w u a := rfl
theorem chunk_eq15 : k0_pay139 hm w u a = k0_pay1 hm w u a := rfl
theorem chunk_eq16 : k0_pay141 (k0_pay140 hm w) u a = k0_pay1 hm w u a := rfl
theorem chunk_eq17 : k0_pay142 hm w u a = k0_pay1 hm w u a := rfl
theorem chunk_eq18 : k0_pay144 hm (k0_pay143 w) (constant S768x512 FTy.f32 0#32) u a = k0_pay1 hm w u a := rfl
theorem chunk_eq19 : k0_pay3 (k0_pay145 hm w u) (k0_pay146 a) = k0_pay1 hm w u a := rfl
theorem chunk_first_eq : k0_pay70 hm w u = k0_pay60 hm w u := rfl

end

/-! ## A slot of a buffer of two slots -/

section
variable {F : FTy → Type} {e : EltTy} (v : View sig .tc .vmem S2x768x1024 e) (f : v.ty.Contents (Elt F))

theorem slot_hit {off : Fin 3 → ℕ} (inb : ∀ a, off a + S1x768x1024.size a ≤ S2x768x1024.size a)
    (w : S1x768x1024.Idx → Elt F e) (L : List (View.Piece (Elt F) S2x768x1024 e)) (s : Fin 2) (r : Fin 768) (l : Fin 1024) (ho : off = ![s.val, 0, 0]) :
    v.read (Elt F) (v.writes (Elt F) f ((⟨Rect.unit off S1x768x1024.size inb, w⟩ : View.Piece (Elt F) S2x768x1024 e) :: L)) (ix3 s r l) = w (ix3 0 r l) :=
  View.read_writes_cons_unit_of_mem v f inb w L _ (ix3 0 r l) ho fun a => match a with
    | ⟨0, _⟩ => by simp [ix3]
    | ⟨1, _⟩ => by simp [ix3]
    | ⟨2, _⟩ => by simp [ix3]

theorem slot_miss {off : Fin 3 → ℕ} (inb : ∀ a, off a + S1x768x1024.size a ≤ S2x768x1024.size a)
    (w : S1x768x1024.Idx → Elt F e) (L : List (View.Piece (Elt F) S2x768x1024 e)) (s s' : Fin 2) (r : Fin 768) (l : Fin 1024) (ho : off = ![s.val, 0, 0]) (hs : s' ≠ s) :
    v.read (Elt F) (v.writes (Elt F) f ((⟨Rect.unit off S1x768x1024.size inb, w⟩ : View.Piece (Elt F) S2x768x1024 e) :: L)) (ix3 s' r l)
      = v.read (Elt F) (v.writes (Elt F) f L) (ix3 s' r l) :=
  View.read_writes_cons_unit_of_not_mem v f inb w L _ ho 0 (by
    have h1 : s'.val ≠ s.val := fun h => hs (Fin.ext h)
    have h2 := s.isLt
    have h3 := s'.isLt
    show s'.val < s.val ∨ s.val + 1 ≤ s'.val
    omega)

theorem slot_ld (x : S2x768x1024.Idx → Elt F e) {off : Fin 3 → ℕ} (inb : ∀ a, off a + S1x768x1024.size a ≤ S2x768x1024.size a) (s : Fin 2) (r : Fin 768) (l : Fin 1024)
    (ho : off = ![s.val, 0, 0]) : View.ld x (Rect.unit (s := S2x768x1024) off S1x768x1024.size inb) (ix3 0 r l) = x (ix3 s r l) := by
  subst ho
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]

end

/-! ## The accumulator after each step -/

section
variable (c : Dev nD) (i : grid0.Coords)
  (a2 : Memref sig .tc .vmem S768x1024 .f32) (h2 : a2.IsWhole) (a3 : Memref sig .tc .vmem S1x9x1024 .f32) (h3 : a3.IsWhole) (a4 : Memref sig .tc .vmem S1x9x1024 .f32) (h4 : a4.IsWhole) (a5 : Memref sig .tc .vmem S1x9x1024 .f32) (h5 : a5.IsWhole) (a6 : Memref sig .tc .vmem S6x1024x512 .bf16) (h6 : a6.IsWhole) (a7 : Memref sig .tc .vmem S6x256x1024 .bf16) (h7 : a7.IsWhole) (a8 : Memref sig .tc .vmem S1x1024 .f32) (h8 : a8.IsWhole) (a9 : Memref sig .tc .vmem S1x1024 .f32) (h9 : a9.IsWhole) (a10 : Memref sig .tc .vmem S768x1024 .f32) (h10 : a10.IsWhole) (a11 : Memref sig .tc .vmem S768x1024 .bf16) (h11 : a11.IsWhole) (a12 : Memref sig .tc .vmem S2x768x1024 .f32) (h12 : a12.IsWhole) (a13 : Memref sig .tc .vmem S2x768x1024 .f32) (h13 : a13.IsWhole)
  (x2 : Vec Ideal S768x1024 .f32) (x3 : Vec Ideal S1x9x1024 .f32) (x4 : Vec Ideal S1x9x1024 .f32) (x5 : Vec Ideal S1x9x1024 .f32) (x6 : Vec Ideal S6x1024x512 .bf16) (x7 : Vec Ideal S6x256x1024 .bf16) (x8 : Vec Ideal S1x1024 .f32) (x9 : Vec Ideal S1x1024 .f32) (x10 : Vec Ideal S768x1024 .f32) (x11 : Vec Ideal S768x1024 .bf16) (x12 : Vec Ideal S2x768x1024 .f32) (x13 : Vec Ideal S2x768x1024 .f32)

/-- Row `r` of the tile, modulated: the scale and the shift are the context's where the row is a context row. -/
def modRow (r : Fin 768) (d : Fin 1024) : EReal :=
  x2 (ix2 r d) * (Ideal.ofBits FTy.f32 1065353216#32 + Scalar.select (k0_pay201 i (ix2 r 0)) (x3 (ix3 0 1 d)) (x4 (ix3 0 1 d)))
    + Scalar.select (k0_pay201 i (ix2 r 0)) (x3 (ix3 0 0 d)) (x4 (ix3 0 0 d))

theorem pay69_read (r : Fin 768) (d : Fin 1024) :
    k0_pay69 (F := Ideal) (k0_pay201 i) (View.ld x2 (Rect.unit ![0, 0] S768x1024.size inb_S768x1024_S768x1024_0_0))
      (View.ld x3 (Rect.unit ![0, 1, 0] S1x1x1024.size inb_S1x9x1024_S1x1x1024_0_1_0))
      (View.ld x4 (Rect.unit ![0, 1, 0] S1x1x1024.size inb_S1x9x1024_S1x1x1024_0_1_0))
      (View.ld x3 (Rect.unit ![0, 0, 0] S1x1x1024.size inb_S1x9x1024_S1x1x1024_0_0_0))
      (View.ld x4 (Rect.unit ![0, 0, 0] S1x1x1024.size inb_S1x9x1024_S1x1x1024_0_0_0)) (ix2 r d) = modRow i x2 x3 x4 r d := by
  pointwise [k0_pay69, modRow]

theorem pay59_eq {F : FTy → Type} [FloatOps F] (m : IVec S768x1 1) (x : Vec F S768x1024 .f32) (p q p' q' : Vec F S1x1x1024 .f32) :
    k0_pay59 m x p q p' q' = k0_pay69 m x p q p' q' := rfl

/-- What chunk `q` of a step adds to row `r`, column `l`. -/
def add (hm : Fin 1024 → EReal) (q : Fin 6) (l : Fin 1024) : EReal :=
  part hm (fun d j => x6 (ix3 q d j)) (fun j => x7 (ix3 q j l))

set_option maxHeartbeats 2000000 in
theorem acc4 (hc1 : ¬k0_cond1 i = 1#1) (hc2 : ¬k0_cond2 i = 1#1) (hc3 : ¬k0_cond3 i = 1#1) (hc4 : k0_cond4 i = 1#1) (hc5 : ¬k0_cond5 i = 1#1) (s : Fin 2) (ho : k0_off8 i = ![s.val, 0, 0]) (r : Fin 768) (l : Fin 1024) :
    a12.view.read (Elt Ideal) (a12.view.writes (Elt Ideal) (h12.unread x12) (run4 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1) (ix3 s r l)
      = x12 (ix3 s r l) + add x6 x7 (fun d => x11 (ix2 r d)) 0 l + add x6 x7 (fun d => x11 (ix2 r d)) 1 l + add x6 x7 (fun d => x11 (ix2 r d)) 2 l + add x6 x7 (fun d => x11 (ix2 r d)) 3 l + add x6 x7 (fun d => x11 (ix2 r d)) 4 l := by
  unfold run4
  dsimp only
  refine (slot_hit _ _ _ _ _ s r l ho).trans ?_
  simp only [run4.sl.H12_1, run4.sl.H12_2, run4.sl.H12_3, run4.sl.H12_4, run4.sl.cst_57, run4.sl.r, run4.sl.r_1, run4.sl.r_2, run4.sl.r_3, run4.sl.r_4, run4.sl.v115, run4.sl.v138, run4.sl.v161, run4.sl.v92, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  rw [slot_ld x12 _ s r l ho]
  pointwise [add]

set_option maxHeartbeats 2000000 in
theorem acc3 (hc1 : ¬k0_cond1 i = 1#1) (hc2 : ¬k0_cond2 i = 1#1) (hc3 : k0_cond3 i = 1#1) (hc4 : ¬k0_cond4 i = 1#1) (hc5 : ¬k0_cond5 i = 1#1) (s : Fin 2) (ho : k0_off7 i = ![s.val, 0, 0]) (r : Fin 768) (l : Fin 1024) :
    a12.view.read (Elt Ideal) (a12.view.writes (Elt Ideal) (h12.unread x12) (run3 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2) (ix3 s r l)
      = x12 (ix3 s r l) + add x6 x7 (fun d => x11 (ix2 r d)) 0 l + add x6 x7 (fun d => x11 (ix2 r d)) 1 l + add x6 x7 (fun d => x11 (ix2 r d)) 2 l + add x6 x7 (fun d => x11 (ix2 r d)) 3 l + add x6 x7 (fun d => x11 (ix2 r d)) 4 l := by
  unfold run3
  dsimp only
  refine (slot_hit _ _ _ _ _ s r l ho).trans ?_
  simp only [run3.sl.H12_1, run3.sl.H12_2, run3.sl.H12_3, run3.sl.H12_4, run3.sl.cst_455, run3.sl.r_43, run3.sl.r_44, run3.sl.r_45, run3.sl.r_46, run3.sl.r_47, run3.sl.v1015, run3.sl.v1038, run3.sl.v1061, run3.sl.v992, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  rw [slot_ld x12 _ s r l ho]
  pointwise [add]

set_option maxHeartbeats 2000000 in
theorem acc2 (hc1 : ¬k0_cond1 i = 1#1) (hc2 : k0_cond2 i = 1#1) (hc3 : ¬k0_cond3 i = 1#1) (hc4 : ¬k0_cond4 i = 1#1) (hc5 : ¬k0_cond5 i = 1#1) (s : Fin 2) (ho : k0_off4 i = ![s.val, 0, 0]) (r : Fin 768) (l : Fin 1024) :
    a12.view.read (Elt Ideal) (a12.view.writes (Elt Ideal) (h12.unread x12) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.1) (ix3 s r l)
      = add x6 x7 (modRow i x2 x3 x4 r) 0 l + add x6 x7 (modRow i x2 x3 x4 r) 1 l + add x6 x7 (modRow i x2 x3 x4 r) 2 l + add x6 x7 (modRow i x2 x3 x4 r) 3 l + add x6 x7 (modRow i x2 x3 x4 r) 4 l + add x6 x7 (modRow i x2 x3 x4 r) 5 l := by
  unfold run2
  dsimp only
  refine (slot_hit _ _ _ _ _ s r l ho).trans ?_
  simp only [run2.sl.H11_1, run2.sl.H12_1, run2.sl.H12_2, run2.sl.H12_3, run2.sl.H12_4, run2.sl.H12_5, run2.sl.r, run2.sl.r_1, run2.sl.v123, run2.sl.v146, run2.sl.v169, run2.sl.v192, run2.sl.v215, run2.sl.v87, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  simp only [pay59_eq, pay69_read]
  pointwise [add]

set_option maxHeartbeats 2000000 in
theorem acc1 (hc1 : k0_cond1 i = 1#1) (hc2 : ¬k0_cond2 i = 1#1) (hc3 : ¬k0_cond3 i = 1#1) (hc4 : ¬k0_cond4 i = 1#1) (hc5 : ¬k0_cond5 i = 1#1) (s : Fin 2) (ho : k0_off3 i = ![s.val, 0, 0]) (r : Fin 768) (l : Fin 1024) :
    a12.view.read (Elt Ideal) (a12.view.writes (Elt Ideal) (h12.unread x12) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.1) (ix3 s r l)
      = add x6 x7 (modRow i x2 x3 x4 r) 0 l + add x6 x7 (modRow i x2 x3 x4 r) 1 l + add x6 x7 (modRow i x2 x3 x4 r) 2 l + add x6 x7 (modRow i x2 x3 x4 r) 3 l + add x6 x7 (modRow i x2 x3 x4 r) 4 l + add x6 x7 (modRow i x2 x3 x4 r) 5 l := by
  unfold run1
  dsimp only
  refine (slot_hit _ _ _ _ _ s r l ho).trans ?_
  simp only [run1.sl.H11_1, run1.sl.H12_1, run1.sl.H12_2, run1.sl.H12_3, run1.sl.H12_4, run1.sl.H12_5, run1.sl.r_43, run1.sl.r_44, run1.sl.r_45, run1.sl.v1023, run1.sl.v1046, run1.sl.v1069, run1.sl.v1092, run1.sl.v1115, run1.sl.v987, chunk_eq1, chunk_eq2, chunk_eq3, chunk_eq4, chunk_eq5, chunk_eq6, chunk_eq7, chunk_eq8, chunk_eq9, chunk_eq10, chunk_eq11, chunk_eq12, chunk_eq13, chunk_eq14, chunk_eq15, chunk_eq16, chunk_eq17, chunk_eq18, chunk_eq19, chunk_first_eq, View.readCov_cons_toLoadRect, View.readAt_eq_ld, h2.read_unread, h3.read_unread, h4.read_unread, h6.read_unread, h7.read_unread, h11.read_unread, h12.read_unread]
  simp only [chunk, chunk_first]
  simp only [pay59_eq, pay69_read]
  pointwise [add]

theorem other4 (hc1 : ¬k0_cond1 i = 1#1) (hc2 : ¬k0_cond2 i = 1#1) (hc3 : ¬k0_cond3 i = 1#1) (hc4 : k0_cond4 i = 1#1) (hc5 : ¬k0_cond5 i = 1#1) (s s' : Fin 2) (ho : k0_off8 i = ![s.val, 0, 0]) (hs : s' ≠ s) (r : Fin 768) (l : Fin 1024) :
    a12.view.read (Elt Ideal) (a12.view.writes (Elt Ideal) (h12.unread x12) (run4 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1) (ix3 s' r l)
      = x12 (ix3 s' r l) := by
  unfold run4
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem other3 (hc1 : ¬k0_cond1 i = 1#1) (hc2 : ¬k0_cond2 i = 1#1) (hc3 : k0_cond3 i = 1#1) (hc4 : ¬k0_cond4 i = 1#1) (hc5 : ¬k0_cond5 i = 1#1) (s s' : Fin 2) (ho : k0_off7 i = ![s.val, 0, 0]) (hs : s' ≠ s) (r : Fin 768) (l : Fin 1024) :
    a12.view.read (Elt Ideal) (a12.view.writes (Elt Ideal) (h12.unread x12) (run3 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2) (ix3 s' r l)
      = x12 (ix3 s' r l) := by
  unfold run3
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem other2 (hc1 : ¬k0_cond1 i = 1#1) (hc2 : k0_cond2 i = 1#1) (hc3 : ¬k0_cond3 i = 1#1) (hc4 : ¬k0_cond4 i = 1#1) (hc5 : ¬k0_cond5 i = 1#1) (s s' : Fin 2) (ho : k0_off4 i = ![s.val, 0, 0]) (hs : s' ≠ s) (r : Fin 768) (l : Fin 1024) :
    a12.view.read (Elt Ideal) (a12.view.writes (Elt Ideal) (h12.unread x12) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.1) (ix3 s' r l)
      = x12 (ix3 s' r l) := by
  unfold run2
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem other1 (hc1 : k0_cond1 i = 1#1) (hc2 : ¬k0_cond2 i = 1#1) (hc3 : ¬k0_cond3 i = 1#1) (hc4 : ¬k0_cond4 i = 1#1) (hc5 : ¬k0_cond5 i = 1#1) (s s' : Fin 2) (ho : k0_off3 i = ![s.val, 0, 0]) (hs : s' ≠ s) (r : Fin 768) (l : Fin 1024) :
    a12.view.read (Elt Ideal) (a12.view.writes (Elt Ideal) (h12.unread x12) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.1) (ix3 s' r l)
      = x12 (ix3 s' r l) := by
  unfold run1
  dsimp only
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  refine (slot_miss _ _ _ _ _ s s' r l ho hs).trans ?_
  exact congrFun (h12.read_unread x12) _

theorem hm2 (hc1 : ¬k0_cond1 i = 1#1) (hc2 : k0_cond2 i = 1#1) (hc3 : ¬k0_cond3 i = 1#1) (hc4 : ¬k0_cond4 i = 1#1) (hc5 : ¬k0_cond5 i = 1#1) (r : Fin 768) (d : Fin 1024) :
    a11.view.read (Elt Ideal) (a11.view.writes (Elt Ideal) (h11.unread x11) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.1) (ix2 r d)
      = modRow i x2 x3 x4 r d := by
  unfold run2
  dsimp only
  refine (View.read_writes_cons_unit_of_mem a11.view _ _ _ _ _ (ix2 r d) rfl fun a => match a with
    | ⟨0, _⟩ => by simp [ix2]
    | ⟨1, _⟩ => by simp [ix2]).trans ?_
  simp only [View.readAt_eq_ld, h2.read_unread, h3.read_unread, h4.read_unread]
  simp only [pay59_eq, pay69_read]

theorem xk2 (hc1 : ¬k0_cond1 i = 1#1) (hc2 : k0_cond2 i = 1#1) (hc3 : ¬k0_cond3 i = 1#1) (hc4 : ¬k0_cond4 i = 1#1) (hc5 : ¬k0_cond5 i = 1#1) (s : Fin 2) (ho : k0_off4 i = ![s.val, 0, 0]) (r : Fin 768) (l : Fin 1024) :
    a13.view.read (Elt Ideal) (a13.view.writes (Elt Ideal) (h13.unread x13) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2) (ix3 s r l)
      = x2 (ix2 r l) := by
  unfold run2
  dsimp only
  refine (slot_hit _ _ _ _ _ s r l ho).trans ?_
  simp only [View.readAt_eq_ld, h2.read_unread]
  pointwise [k0_pay58, k0_pay68]

theorem xk_other2 (hc1 : ¬k0_cond1 i = 1#1) (hc2 : k0_cond2 i = 1#1) (hc3 : ¬k0_cond3 i = 1#1) (hc4 : ¬k0_cond4 i = 1#1) (hc5 : ¬k0_cond5 i = 1#1) (s s' : Fin 2) (ho : k0_off4 i = ![s.val, 0, 0]) (hs : s' ≠ s) (r : Fin 768) (l : Fin 1024) :
    a13.view.read (Elt Ideal) (a13.view.writes (Elt Ideal) (h13.unread x13) (run2 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2) (ix3 s' r l)
      = x13 (ix3 s' r l) := by
  unfold run2
  dsimp only
  refine (slot_miss _ _ _ _ _ s s' r l ho hs).trans ?_
  exact congrFun (h13.read_unread x13) _

theorem hm1 (hc1 : k0_cond1 i = 1#1) (hc2 : ¬k0_cond2 i = 1#1) (hc3 : ¬k0_cond3 i = 1#1) (hc4 : ¬k0_cond4 i = 1#1) (hc5 : ¬k0_cond5 i = 1#1) (r : Fin 768) (d : Fin 1024) :
    a11.view.read (Elt Ideal) (a11.view.writes (Elt Ideal) (h11.unread x11) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.1) (ix2 r d)
      = modRow i x2 x3 x4 r d := by
  unfold run1
  dsimp only
  refine (View.read_writes_cons_unit_of_mem a11.view _ _ _ _ _ (ix2 r d) rfl fun a => match a with
    | ⟨0, _⟩ => by simp [ix2]
    | ⟨1, _⟩ => by simp [ix2]).trans ?_
  simp only [View.readAt_eq_ld, h2.read_unread, h3.read_unread, h4.read_unread]
  simp only [pay59_eq, pay69_read]

theorem xk1 (hc1 : k0_cond1 i = 1#1) (hc2 : ¬k0_cond2 i = 1#1) (hc3 : ¬k0_cond3 i = 1#1) (hc4 : ¬k0_cond4 i = 1#1) (hc5 : ¬k0_cond5 i = 1#1) (s : Fin 2) (ho : k0_off3 i = ![s.val, 0, 0]) (r : Fin 768) (l : Fin 1024) :
    a13.view.read (Elt Ideal) (a13.view.writes (Elt Ideal) (h13.unread x13) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.2) (ix3 s r l)
      = x2 (ix2 r l) := by
  unfold run1
  dsimp only
  refine (slot_hit _ _ _ _ _ s r l ho).trans ?_
  simp only [View.readAt_eq_ld, h2.read_unread]
  pointwise [k0_pay58, k0_pay68]

theorem xk_other1 (hc1 : k0_cond1 i = 1#1) (hc2 : ¬k0_cond2 i = 1#1) (hc3 : ¬k0_cond3 i = 1#1) (hc4 : ¬k0_cond4 i = 1#1) (hc5 : ¬k0_cond5 i = 1#1) (s s' : Fin 2) (ho : k0_off3 i = ![s.val, 0, 0]) (hs : s' ≠ s) (r : Fin 768) (l : Fin 1024) :
    a13.view.read (Elt Ideal) (a13.view.writes (Elt Ideal) (h13.unread x13) (run1 c i a2 h2 a3 h3 a4 h4 a5 h5 a6 h6 a7 h7 a8 h8 a9 h9 a10 h10 a11 h11 a12 h12 a13 h13 hc1 hc2 hc3 hc4 hc5 x2 x3 x4 x5 x6 x7 x8 x9 x10 x11 x12 x13).1.2.2.2) (ix3 s' r l)
      = x13 (ix3 s' r l) := by
  unfold run1
  dsimp only
  refine (slot_miss _ _ _ _ _ s s' r l ho hs).trans ?_
  exact congrFun (h13.read_unread x13) _

end

end Cert.First

end
-- ==== Proof.FirstRow.lean ====
/-
  Which rows of a tile are context rows, the layer norm of a row, and the output block after a step that finishes half of the
  previous tile.
-/
module

public import proofs.«01_k».proof.Proof.FirstFin
public import proofs.«01_k».proof.Proof.FirstAcc

@[expose] public section

set_option maxRecDepth 16384

noncomputable section

namespace Cert.First

open Cert.Ffn Cert.Kernel3Ideal Cert.Kernel3Ideal.Gen Idealize.ShloMosaic Idealize.ShloMosaic.TcCoe Idealize.SL.Sem

/-! ## Context rows -/

theorem pay201_read (i : grid0.Coords) (r : Fin 768) :
    k0_pay201 i (ix2 r 0) = ctxBit (tileBase (BitVec.ofNat 32 (i 0).val)) r.val := by
  pointwise [k0_pay201, ctxBit, tileBase, three]

/-! ## The layer norm -/

theorem finBlk_read (i0 i1 o : BitVec 32) (mc mp : Vec Ideal S1x1x1024 .f32) (xk ac : Vec Ideal S1x32x1024 .f32) (g b : Vec Ideal S1x1024 .f32)
    (r : Fin 32) (l : Fin 1024) :
    finBlk (F := Ideal) i0 i1 o mc mp xk ac g b (ix2 r l)
      = lnorm (resid (fun x => xk (ix3 0 r x))
          (fun x => Scalar.select (ctxBit (Scalar.addi (tileBase (Scalar.subi (Scalar.addi i0 3#32) 1#32)) (Scalar.addi (Scalar.muli i1 384#32) o)) r.val)
            (mc (ix3 0 0 x)) (mp (ix3 0 0 x))) (fun x => ac (ix3 0 r x)))
        (fun x => g (ix2 0 x)) (fun x => b (ix2 0 x)) l := by
  pointwise [finBlk, k0_pay151, k0_pay152, k0_pay153, lnorm, mean, resid, ctxBit, tileBase, three]

/-! ## Rows of the output block -/

section
variable {F : FTy → Type} [FloatOps F] (v : View sig .tc .vmem S768x1024 .f32) (f : v.ty.Contents (Elt F))
  (off : Fin 12 → Fin 2 → ℕ) (inb : ∀ k a, off k a + S32x1024.size a ≤ S768x1024.size a) (w : Fin 12 → FVec F S32x1024 .f32)
  (B : ℕ) (ho : ∀ k : Fin 12, off k = ![B + 32 * k.val, 0])
include ho

theorem rows_miss (L : List (Fin 12)) (R : Fin 768) (l : Fin 1024) (h : ∀ k ∈ L, R.val < B + 32 * k.val ∨ B + 32 * k.val + 32 ≤ R.val) :
    v.read (Elt F) (v.writes (Elt F) f (L.map (stores off inb w))) (ix2 R l) = v.read (Elt F) f (ix2 R l) := by
  induction L with
  | nil => rfl
  | cons k L ih =>
    rw [List.map_cons]
    refine (View.read_writes_cons_unit_of_not_mem v f (inb k) (w k) _ _ (ho k) 0 ?_).trans (ih fun k' hk' => h k' (List.mem_cons_of_mem _ hk'))
    exact h k List.mem_cons_self

theorem rows_hit (L : List (Fin 12)) (k : Fin 12) (hk : k ∈ L) (R : Fin 768) (a : Fin 32) (l : Fin 1024) (hR : R.val = B + 32 * k.val + a.val) :
    v.read (Elt F) (v.writes (Elt F) f (L.map (stores off inb w))) (ix2 R l) = w k (ix2 a l) := by
  induction L with
  | nil => exact absurd hk (List.not_mem_nil)
  | cons k' L ih =>
    rw [List.map_cons]
    by_cases e : k' = k
    · subst e
      refine View.read_writes_cons_unit_of_mem v f (inb k') (w k') _ _ (ix2 a l) (ho k') fun x => ?_
      match x with
      | ⟨0, _⟩ => simp [ix2, hR]
      | ⟨1, _⟩ => simp [ix2]
    · refine (View.read_writes_cons_unit_of_not_mem v f (inb k') (w k') _ _ (ho k') 0 ?_).trans
        (ih ((List.mem_cons.mp hk).resolve_left fun h => e h.symm))
      have h1 : k'.val ≠ k.val := fun h => e (Fin.ext h)
      show R.val < B + 32 * k'.val ∨ B + 32 * k'.val + 32 ≤ R.val
      omega

end

end Cert.First

end
-- ==== Proof.FirstBlk.lean ====
/-
  The first feed-forward kernel's mathematics row by row, the blocks that a grid point reads, and the scalars that it computes.
-/
module

public import proofs.«01_k».proof.Proof.FirstRow
public import proofs.«01_k».proof.Proof.FirstData

@[expose] public section

set_option maxRecDepth 16384

noncomputable section

namespace Cert.First

open Cert.Ffn Cert.Kernel3Ideal Cert.Kernel3Ideal.Gen Idealize.ShloMosaic Idealize.ShloMosaic.TcCoe Idealize.SL.Sem

/-! ## The mathematics -/

/-- The arrays that the launch reads. -/
structure Arr where
  xa : S73728x1024.Idx → EReal
  md : S40x9x1024.Idx → EReal
  w13 : S12x1024x512.Idx → EReal
  w2 : S12x256x1024.Idx → EReal
  g : S1x1024.Idx → EReal
  b : S1x1024.Idx → EReal

/-- Row `R`'s modulation `k`: the context's for the first 256 rows of a batch, the batch's own for the others. -/
def modv (A : Arr) (R : Fin 73728) (k : Fin 9) (d : Fin 1024) : EReal :=
  A.md (ix3 (if R.val % 2304 < 256 then 32 else ⟨R.val / 2304, by omega⟩) k d)

/-- Row `R`, modulated. -/
def hmv (A : Arr) (R : Fin 73728) (d : Fin 1024) : EReal :=
  A.xa (ix2 R d) * (Ideal.ofBits FTy.f32 1065353216#32 + modv A R 1 d) + modv A R 0 d

/-- What chunk `q` of the hidden columns adds. -/
def chunkv (A : Arr) (R : Fin 73728) (l : Fin 1024) (q : Fin 12) : EReal :=
  part (hmv A R) (fun d j => A.w13 (ix3 q d j)) (fun j => A.w2 (ix3 q j l))

/-- The first six chunks. -/
def firstv (A : Arr) (R : Fin 73728) (l : Fin 1024) : EReal :=
  chunkv A R l 0 + chunkv A R l 1 + chunkv A R l 2 + chunkv A R l 3 + chunkv A R l 4 + chunkv A R l 5

/-- All eleven. -/
def accv (A : Arr) (R : Fin 73728) (l : Fin 1024) : EReal :=
  firstv A R l + chunkv A R l 6 + chunkv A R l 7 + chunkv A R l 8 + chunkv A R l 9 + chunkv A R l 10

/-- Row `R` of the result. -/
def outv (A : Arr) (R : Fin 73728) (l : Fin 1024) : EReal :=
  lnorm (resid (fun x => A.xa (ix2 R x)) (modv A R 2) (accv A R)) (fun x => A.g (ix2 0 x)) (fun x => A.b (ix2 0 x)) l

/-! ## The blocks -/

variable (m : (ℓ : Loc nD τ sig) → Buf (Elt Ideal) ℓ)

/-- The arrays that the launch finds. -/
def arrs (c : Dev nD) : Arr where
  xa := m ((c : Thread nD τ).loc main_arg0)
  md := m ((c : Thread nD τ).loc main_arg1)
  w13 := V m c main_v6
  w2 := V m c main_v9
  g := V m c main_v10
  b := V m c main_v11

theorem idx0 : ∀ t : Fin cfg0.N, win0_0.index t = ![min (t.val / 2 + t.val % 2) 95, 0] :=
  (by decide +kernel : ∀ t : Fin grid0.N, win0_0.index t = ![min (t.val / 2 + t.val % 2) 95, 0])
theorem idx1 : ∀ t : Fin cfg0.N, win0_1.index t = ![32, 0, 0] :=
  (by decide +kernel : ∀ t : Fin grid0.N, win0_1.index t = ![32, 0, 0])
theorem idx2 : ∀ t : Fin cfg0.N, win0_2.index t = ![min (t.val / 2) 95 / 3, 0, 0] :=
  (by decide +kernel : ∀ t : Fin grid0.N, win0_2.index t = ![min (t.val / 2) 95 / 3, 0, 0])
theorem idx3 : ∀ t : Fin cfg0.N, win0_3.index t = ![(t.val / 2 - 1) / 3, 0, 0] :=
  (by decide +kernel : ∀ t : Fin grid0.N, win0_3.index t = ![(t.val / 2 - 1) / 3, 0, 0])
theorem idx4 : ∀ t : Fin cfg0.N, win0_4.index t = ![t.val % 2, 0, 0] :=
  (by decide +kernel : ∀ t : Fin grid0.N, win0_4.index t = ![t.val % 2, 0, 0])
theorem idx5 : ∀ t : Fin cfg0.N, win0_5.index t = ![t.val % 2, 0, 0] :=
  (by decide +kernel : ∀ t : Fin grid0.N, win0_5.index t = ![t.val % 2, 0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val / 2 - 1, 0] :=
  (by decide +kernel : ∀ t : Fin grid0.N, win0_8.index t = ![t.val / 2 - 1, 0])

theorem blk0 (c : Dev nD) (t : Fin cfg0.N) (h : t.val % 2 = 0) (h' : t.val / 2 < 96) (r : Fin 768) (d : Fin 1024) (R : Fin 73728)
    (hR : R.val = 768 * (t.val / 2) + r.val) : (iblk m c 0 t : Vec Ideal S768x1024 .f32) (ix2 r d) = (arrs m c).xa (ix2 R d) := by
  blk_simp [iblk]
  refine congrArg (m ((c : Thread nD τ).loc main_arg0)) ?_
  blk_ext [idx0]

theorem blk1 (c : Dev nD) (t : Fin cfg0.N) (k : Fin 9) (d : Fin 1024) :
    (iblk m c 1 t : Vec Ideal S1x9x1024 .f32) (ix3 0 k d) = (arrs m c).md (ix3 32 k d) := by
  blk_simp [iblk]
  refine congrArg (m ((c : Thread nD τ).loc main_arg1)) ?_
  blk_ext [idx1]

theorem blk2 (c : Dev nD) (t : Fin cfg0.N) (h' : t.val / 2 < 96) (k : Fin 9) (d : Fin 1024) (e : Fin 40) (he : e.val = t.val / 2 / 3) :
    (iblk m c 2 t : Vec Ideal S1x9x1024 .f32) (ix3 0 k d) = (arrs m c).md (ix3 e k d) := by
  blk_simp [iblk]
  refine congrArg (m ((c : Thread nD τ).loc main_arg1)) ?_
  blk_ext [idx2]

theorem blk3 (c : Dev nD) (t : Fin cfg0.N) (k : Fin 9) (d : Fin 1024) (e : Fin 40) (he : e.val = (t.val / 2 - 1) / 3) :
    (iblk m c 3 t : Vec Ideal S1x9x1024 .f32) (ix3 0 k d) = (arrs m c).md (ix3 e k d) := by
  blk_simp [iblk]
  refine congrArg (m ((c : Thread nD τ).loc main_arg1)) ?_
  blk_ext [idx3]

theorem blk4 (c : Dev nD) (t : Fin cfg0.N) (q : Fin 6) (d : Fin 1024) (j : Fin 512) (q' : Fin 12) (hq : q'.val = 6 * (t.val % 2) + q.val) :
    (iblk m c 4 t : Vec Ideal S6x1024x512 .bf16) (ix3 q d j) = (arrs m c).w13 (ix3 q' d j) := by
  blk_simp [iblk]
  refine congrArg (V m c main_v6) ?_
  blk_ext [idx4]

theorem blk5 (c : Dev nD) (t : Fin cfg0.N) (q : Fin 6) (j : Fin 256) (l : Fin 1024) (q' : Fin 12) (hq : q'.val = 6 * (t.val % 2) + q.val) :
    (iblk m c 5 t : Vec Ideal S6x256x1024 .bf16) (ix3 q j l) = (arrs m c).w2 (ix3 q' j l) := by
  blk_simp [iblk]
  refine congrArg (V m c main_v9) ?_
  blk_ext [idx5]

theorem blk6 (c : Dev nD) (t : Fin cfg0.N) (l : Fin 1024) : (iblk m c 6 t : Vec Ideal S1x1024 .f32) (ix2 0 l) = (arrs m c).g (ix2 0 l) := by
  blk_simp [iblk]
  refine congrArg (V m c main_v10) ?_
  blk_ext [idx6]

theorem blk7 (c : Dev nD) (t : Fin cfg0.N) (l : Fin 1024) : (iblk m c 7 t : Vec Ideal S1x1024 .f32) (ix2 0 l) = (arrs m c).b (ix2 0 l) := by
  blk_simp [iblk]
  refine congrArg (V m c main_v11) ?_
  blk_ext [idx7]

/-! ## The points' scalars -/

theorem base_cur : ∀ t : Fin cfg0.N, tileBase (BitVec.ofNat 32 (grid0.coords t 0).val) = BitVec.ofNat 32 (768 * (t.val / 2 % 3)) :=
  (by decide +kernel : ∀ t : Fin grid0.N, tileBase (BitVec.ofNat 32 (grid0.coords t 0).val) = BitVec.ofNat 32 (768 * (t.val / 2 % 3)))

theorem base_prev : ∀ t : Fin cfg0.N, ∀ k : Fin 12, Scalar.addi (tileBase (Scalar.subi (Scalar.addi (BitVec.ofNat 32 (grid0.coords t 0).val) 3#32) 1#32))
      (Scalar.addi (Scalar.muli (BitVec.ofNat 32 (grid0.coords t 1).val) 384#32) (BitVec.ofNat 32 (32 * k.val)))
    = BitVec.ofNat 32 (768 * ((t.val / 2 + 2) % 3) + (384 * (t.val % 2) + 32 * k.val)) :=
  (by decide +kernel : ∀ t : Fin grid0.N, ∀ k : Fin 12, Scalar.addi (tileBase (Scalar.subi (Scalar.addi (BitVec.ofNat 32 (grid0.coords t 0).val) 3#32) 1#32))
      (Scalar.addi (Scalar.muli (BitVec.ofNat 32 (grid0.coords t 1).val) 384#32) (BitVec.ofNat 32 (32 * k.val)))
    = BitVec.ofNat 32 (768 * ((t.val / 2 + 2) % 3) + (384 * (t.val % 2) + 32 * k.val)))

theorem off3_at : ∀ t : Fin cfg0.N, k0_off3 (grid0.coords t) = ![t.val / 2 % 2, 0, 0] :=
  (by decide +kernel : ∀ t : Fin grid0.N, k0_off3 (grid0.coords t) = ![t.val / 2 % 2, 0, 0])
theorem off4_at : ∀ t : Fin cfg0.N, k0_off4 (grid0.coords t) = ![t.val / 2 % 2, 0, 0] :=
  (by decide +kernel : ∀ t : Fin grid0.N, k0_off4 (grid0.coords t) = ![t.val / 2 % 2, 0, 0])
theorem off7_at : ∀ t : Fin cfg0.N, k0_off7 (grid0.coords t) = ![t.val / 2 % 2, 0, 0] :=
  (by decide +kernel : ∀ t : Fin grid0.N, k0_off7 (grid0.coords t) = ![t.val / 2 % 2, 0, 0])
theorem off8_at : ∀ t : Fin cfg0.N, k0_off8 (grid0.coords t) = ![t.val / 2 % 2, 0, 0] :=
  (by decide +kernel : ∀ t : Fin grid0.N, k0_off8 (grid0.coords t) = ![t.val / 2 % 2, 0, 0])
theorem off1_at : ∀ t : Fin cfg0.N, ∀ k : Fin 12, k0_off1 (grid0.coords t) (BitVec.ofNat 32 (32 * k.val)) = ![(t.val / 2 + 1) % 2, 384 * (t.val % 2) + 32 * k.val, 0] :=
  (by decide +kernel : ∀ t : Fin grid0.N, ∀ k : Fin 12, k0_off1 (grid0.coords t) (BitVec.ofNat 32 (32 * k.val)) = ![(t.val / 2 + 1) % 2, 384 * (t.val % 2) + 32 * k.val, 0])
theorem off5_at : ∀ t : Fin cfg0.N, ∀ k : Fin 12, k0_off5 (grid0.coords t) (BitVec.ofNat 32 (32 * k.val)) = ![(t.val / 2 + 1) % 2, 384 * (t.val % 2) + 32 * k.val, 0] :=
  (by decide +kernel : ∀ t : Fin grid0.N, ∀ k : Fin 12, k0_off5 (grid0.coords t) (BitVec.ofNat 32 (32 * k.val)) = ![(t.val / 2 + 1) % 2, 384 * (t.val % 2) + 32 * k.val, 0])
theorem off9_at : ∀ t : Fin cfg0.N, ∀ k : Fin 12, k0_off9 (grid0.coords t) (BitVec.ofNat 32 (32 * k.val)) = ![(t.val / 2 + 1) % 2, 384 * (t.val % 2) + 32 * k.val, 0] :=
  (by decide +kernel : ∀ t : Fin grid0.N, ∀ k : Fin 12, k0_off9 (grid0.coords t) (BitVec.ofNat 32 (32 * k.val)) = ![(t.val / 2 + 1) % 2, 384 * (t.val % 2) + 32 * k.val, 0])
theorem off2_at : ∀ t : Fin cfg0.N, ∀ k : Fin 12, k0_off2 (grid0.coords t) (BitVec.ofNat 32 (32 * k.val)) = ![384 * (t.val % 2) + 32 * k.val, 0] :=
  (by decide +kernel : ∀ t : Fin grid0.N, ∀ k : Fin 12, k0_off2 (grid0.coords t) (BitVec.ofNat 32 (32 * k.val)) = ![384 * (t.val % 2) + 32 * k.val, 0])
theorem off6_at : ∀ t : Fin cfg0.N, ∀ k : Fin 12, k0_off6 (grid0.coords t) (BitVec.ofNat 32 (32 * k.val)) = ![384 * (t.val % 2) + 32 * k.val, 0] :=
  (by decide +kernel : ∀ t : Fin grid0.N, ∀ k : Fin 12, k0_off6 (grid0.coords t) (BitVec.ofNat 32 (32 * k.val)) = ![384 * (t.val % 2) + 32 * k.val, 0])
theorem off10_at : ∀ t : Fin cfg0.N, ∀ k : Fin 12, k0_off10 (grid0.coords t) (BitVec.ofNat 32 (32 * k.val)) = ![384 * (t.val % 2) + 32 * k.val, 0] :=
  (by decide +kernel : ∀ t : Fin grid0.N, ∀ k : Fin 12, k0_off10 (grid0.coords t) (BitVec.ofNat 32 (32 * k.val)) = ![384 * (t.val % 2) + 32 * k.val, 0])
theorem cond1_at : ∀ t : Fin cfg0.N, k0_cond1 (grid0.coords t) = 1#1 → t.val % 2 = 0 ∧ 1 ≤ t.val / 2 ∧ t.val / 2 < 96 :=
  (by decide +kernel : ∀ t : Fin grid0.N, k0_cond1 (grid0.coords t) = 1#1 → t.val % 2 = 0 ∧ 1 ≤ t.val / 2 ∧ t.val / 2 < 96)
theorem cond2_at : ∀ t : Fin cfg0.N, k0_cond2 (grid0.coords t) = 1#1 → t.val = 0 :=
  (by decide +kernel : ∀ t : Fin grid0.N, k0_cond2 (grid0.coords t) = 1#1 → t.val = 0)
theorem cond3_at : ∀ t : Fin cfg0.N, k0_cond3 (grid0.coords t) = 1#1 → t.val % 2 = 1 ∧ 1 ≤ t.val / 2 ∧ t.val / 2 < 96 :=
  (by decide +kernel : ∀ t : Fin grid0.N, k0_cond3 (grid0.coords t) = 1#1 → t.val % 2 = 1 ∧ 1 ≤ t.val / 2 ∧ t.val / 2 < 96)
theorem cond4_at : ∀ t : Fin cfg0.N, k0_cond4 (grid0.coords t) = 1#1 → t.val = 1 :=
  (by decide +kernel : ∀ t : Fin grid0.N, k0_cond4 (grid0.coords t) = 1#1 → t.val = 1)
theorem cond5_at : ∀ t : Fin cfg0.N, k0_cond5 (grid0.coords t) = 1#1 → t.val / 2 = 96 :=
  (by decide +kernel : ∀ t : Fin grid0.N, k0_cond5 (grid0.coords t) = 1#1 → t.val / 2 = 96)

/-! ## A tile's row -/

theorem select_one {α : Type} (a b : α) : Scalar.select (1#1) a b = a := rfl
theorem select_zero {α : Type} (a b : α) : Scalar.select (0#1) a b = b := rfl

theorem ctx_cur (t : Fin cfg0.N) (r : Fin 768) (R : Fin 73728) (hR : R.val = 768 * (t.val / 2) + r.val) :
    k0_pay201 (grid0.coords t) (ix2 r 0) = if R.val % 2304 < 256 then 1#1 else 0#1 := by
  rw [pay201_read, base_cur, ctxBit_ofNat _ _ (by omega)]
  have e : R.val % 2304 = 768 * (t.val / 2 % 3) + r.val := by omega
  rw [e]

theorem modRow_eq (c : Dev nD) (t : Fin cfg0.N) (h : t.val % 2 = 0) (h' : t.val / 2 < 96) (r : Fin 768) (d : Fin 1024) (R : Fin 73728)
    (hR : R.val = 768 * (t.val / 2) + r.val) :
    modRow (grid0.coords t) (iblk m c 0 t) (iblk m c 1 t) (iblk m c 2 t) r d = hmv (arrs m c) R d := by
  unfold modRow hmv modv
  rw [blk0 m c t h h' r d R hR, ctx_cur t r R hR, blk1, blk1, blk2 m c t h' 1 d ⟨R.val / 2304, by omega⟩ (by show R.val / 2304 = _; omega),
    blk2 m c t h' 0 d ⟨R.val / 2304, by omega⟩ (by show R.val / 2304 = _; omega)]
  by_cases hx : R.val % 2304 < 256
  · simp only [if_pos hx, select_one]
  · simp only [if_neg hx, select_zero]

theorem add_eq (c : Dev nD) (t : Fin cfg0.N) (R : Fin 73728) (l : Fin 1024) (q : Fin 6) (q' : Fin 12) (hq : q'.val = 6 * (t.val % 2) + q.val) :
    add (iblk m c 4 t) (iblk m c 5 t) (hmv (arrs m c) R) q l = chunkv (arrs m c) R l q' := by
  unfold add chunkv
  congr 1
  · funext d j; exact blk4 m c t q d j q' hq
  · funext j; exact blk5 m c t q j l q' hq

end Cert.First

end
-- ==== Proof.FirstHost.lean ====
/-
  The weights as the launch finds them: chunk by chunk, the two first matrices side by side, and the layer norm's two rows.
-/
module

public import proofs.«01_k».proof.Proof.FirstBlk
public import Idealize.ShloMosaic.Lib.Pointwise

@[expose] public section

set_option maxRecDepth 16384

noncomputable section

namespace Cert.First

open Cert.Ffn Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

/-- Two stacks of chunks side by side. -/
def side (a b : Vec Ideal S1024x11x256 .bf16) : Vec Ideal S1024x11x512 .bf16 :=
  concatenate S1024x11x512 2 [⟨S1024x11x256, a⟩, ⟨S1024x11x256, b⟩] concatenates_S1024x11x256_S1024x11x256_S1024x11x512_d2

/-- The host operations that pack the two first matrices. -/
abbrev packOps : List (HloOp τ sig (Elt Ideal)) :=
  [ StableHlo.unary main_arg2 main_v0 ((truncf (F := Ideal) .bf16 · bitsLt_bf16_f32) : (⟨S1024x2816, .f32⟩ : BufTy).Contents (Elt Ideal) → (⟨S1024x2816, .bf16⟩ : BufTy).Contents (Elt Ideal)),
    StableHlo.reshape main_v0 main_v1 (rfl : (.bf16 : EltTy) = .bf16) shapeCasts_S1024x2816_S1024x11x256,
    StableHlo.unary main_arg3 main_v2 ((truncf (F := Ideal) .bf16 · bitsLt_bf16_f32) : (⟨S1024x2816, .f32⟩ : BufTy).Contents (Elt Ideal) → (⟨S1024x2816, .bf16⟩ : BufTy).Contents (Elt Ideal)),
    StableHlo.reshape main_v2 main_v3 (rfl : (.bf16 : EltTy) = .bf16) shapeCasts_S1024x2816_S1024x11x256,
    StableHlo.binary main_v1 main_v3 main_v4 side,
    StableHlo.unary main_v4 main_v5 ((transpose S11x1024x512 [1, 0, 2] · transposes_S1024x11x512_S11x1024x512_1_0_2) : (⟨S1024x11x512, .bf16⟩ : BufTy).Contents (Elt Ideal) → (⟨S11x1024x512, .bf16⟩ : BufTy).Contents (Elt Ideal)),
    StableHlo.nullary main_c (constantI S_ 32 0#32) ]

theorem packOps_eq : (hostOps0 : List (HloOp τ sig (Elt Ideal))) = packOps := rfl

/-- The two first matrices, chunk by chunk and side by side. -/
def packed13 (x2 x3 : Vec Ideal S1024x2816 .f32) : Vec Ideal S12x1024x512 .bf16 :=
  pad S12x1024x512 ![0, 0, 0] ![1, 0, 0] ![0, 0, 0]
    (transpose S11x1024x512 [1, 0, 2] (side (shapeCast S1024x11x256 (truncf (F := Ideal) .bf16 x2 bitsLt_bf16_f32) shapeCasts_S1024x2816_S1024x11x256)
      (shapeCast S1024x11x256 (truncf (F := Ideal) .bf16 x3 bitsLt_bf16_f32) shapeCasts_S1024x2816_S1024x11x256)) transposes_S1024x11x512_S11x1024x512_1_0_2)
    (sitofp (F := Ideal) .bf16 (constantI S_ 32 0#32)) pads_S11x1024x512_S12x1024x512_010_000_000 h_S_

/-- The last matrix, chunk by chunk. -/
def packed2 (x4 : Vec Ideal S2816x1024 .f32) : Vec Ideal S12x256x1024 .bf16 :=
  pad S12x256x1024 ![0, 0, 0] ![1, 0, 0] ![0, 0, 0] (shapeCast S11x256x1024 (truncf (F := Ideal) .bf16 x4 bitsLt_bf16_f32) shapeCasts_S2816x1024_S11x256x1024)
    (sitofp (F := Ideal) .bf16 (constantI S_ 32 0#32)) pads_S11x256x1024_S12x256x1024_010_000_000 h_S_

theorem V6 (c : Dev nD) : V m c main_v6 = packed13 (m ((c : Thread nD τ).loc main_arg2)) (m ((c : Thread nD τ).loc main_arg3)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V9 (c : Dev nD) : V m c main_v9 = packed2 (m ((c : Thread nD τ).loc main_arg4)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V10 (c : Dev nD) : V m c main_v10 = broadcastInDim S1x1024 ![1] bcast_S1024_S1x1024_1 (m ((c : Thread nD τ).loc main_arg5)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V11 (c : Dev nD) : V m c main_v11 = broadcastInDim S1x1024 ![1] bcast_S1024_S1x1024_1 (m ((c : Thread nD τ).loc main_arg6)) := by
  rw [V, packOps_eq]
  simp only [packOps, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

variable (x2 x3 : Vec Ideal S1024x2816 .f32) (x4 : Vec Ideal S2816x1024 .f32) (q : Fin 12) (hq : q.val < 11)

theorem packed13_left (d : Fin 1024) (j : Fin 256) :
    packed13 x2 x3 (ix3 q d ⟨j.val, by omega⟩) = x2 (ix2 d ⟨256 * q.val + j.val, by omega⟩) := by
  pointwise [packed13, side]
  exact (dif_pos ⟨hq, by omega⟩).trans (congrArg (fun y => x2 (ix2 d y)) (Fin.ext (by show q.val * 256 + j.val = 256 * q.val + j.val; omega)))

theorem packed13_right (d : Fin 1024) (j : Fin 256) :
    packed13 x2 x3 (ix3 q d ⟨256 + j.val, by omega⟩) = x3 (ix2 d ⟨256 * q.val + j.val, by omega⟩) := by
  pointwise [packed13, side]
  exact (dif_pos ⟨hq, by omega⟩).trans (congrArg (fun y => x3 (ix2 d y)) (Fin.ext (by show q.val * 256 + j.val = 256 * q.val + j.val; omega)))

theorem packed2_read (j : Fin 256) (l : Fin 1024) :
    packed2 x4 (ix3 q j l) = x4 (ix2 ⟨256 * q.val + j.val, by omega⟩ l) := by
  pointwise [packed2]
  exact (dif_pos hq).trans (congrArg (fun y => x4 (ix2 y l)) (Fin.ext (by show q.val * 256 + j.val = 256 * q.val + j.val; omega)))

end Cert.First

end
-- ==== Proof.FirstInv.lean ====
/-
  What the scratch buffers hold before each grid point, and what a point leaves in the output block: before tile `i`'s first
  step the previous tile's accumulator is complete, and between its two steps the tile is modulated and its first six chunks
  are accumulated.
-/
module

public import proofs.«01_k».proof.Proof.FirstBlk

@[expose] public section

set_option maxRecDepth 16384

noncomputable section

namespace Cert.First

open Cert.Ffn Cert.Kernel3Ideal Cert.Kernel3Ideal.Gen Idealize.ShloMosaic Idealize.ShloMosaic.TcCoe Idealize.SL.Sem

section
variable {F : FTy → Type} [FloatOps F] (m : (ℓ : Loc nD τ sig) → Buf (Elt F) ℓ)

theorem next1_acc (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    (next1 m c t Y s hc1 hc2 hc3 hc4 hc5).acc = sc1.view.read (Elt F) (sc1.view.writes (Elt F) ((Memref.isWhole_whole cc0_scratch1).unread s.acc)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.1) := by
  unfold next1
  dsimp only

theorem next2_acc (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    (next2 m c t Y s hc1 hc2 hc3 hc4 hc5).acc = sc1.view.read (Elt F) (sc1.view.writes (Elt F) ((Memref.isWhole_whole cc0_scratch1).unread s.acc)
      (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1) := by
  unfold next2
  dsimp only

theorem next3_acc (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) :
    (next3 m c t Y s hc1 hc2 hc3 hc4 hc5).acc = sc1.view.read (Elt F) (sc1.view.writes (Elt F) ((Memref.isWhole_whole cc0_scratch1).unread s.acc)
      (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2) := by
  unfold next3
  dsimp only

theorem next4_acc (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) :
    (next4 m c t Y s hc1 hc2 hc3 hc4 hc5).acc = sc1.view.read (Elt F) (sc1.view.writes (Elt F) ((Memref.isWhole_whole cc0_scratch1).unread s.acc)
      (run4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1) := by
  unfold next4
  dsimp only

theorem next1_hm (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    (next1 m c t Y s hc1 hc2 hc3 hc4 hc5).hm = sc0.view.read (Elt F) (sc0.view.writes (Elt F) ((Memref.isWhole_whole cc0_scratch0).unread s.hm)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.1) := by
  unfold next1
  dsimp only

theorem next2_hm (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    (next2 m c t Y s hc1 hc2 hc3 hc4 hc5).hm = sc0.view.read (Elt F) (sc0.view.writes (Elt F) ((Memref.isWhole_whole cc0_scratch0).unread s.hm)
      (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1) := by
  unfold next2
  dsimp only

theorem next1_xk (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    (next1 m c t Y s hc1 hc2 hc3 hc4 hc5).xk = sc2.view.read (Elt F) (sc2.view.writes (Elt F) ((Memref.isWhole_whole cc0_scratch2).unread s.xk)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2.2) := by
  unfold next1
  dsimp only

theorem next2_xk (c : Dev nD) (t : Fin cfg0.N) (Y : Vec F S768x1024 .f32) (s : St F) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) :
    (next2 m c t Y s hc1 hc2 hc3 hc4 hc5).xk = sc2.view.read (Elt F) (sc2.view.writes (Elt F) ((Memref.isWhole_whole cc0_scratch2).unread s.xk)
      (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.2.2) := by
  unfold next2
  dsimp only

theorem outp1_eq (c : Dev nD) (t : Fin cfg0.N) (Y : Vec F S768x1024 .f32) (s : St F) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) :
    outp1 m c t Y s hc1 hc2 hc3 hc4 hc5 = (ms8 t).view.read (Elt F) ((ms8 t).view.writes (Elt F) ((hs8 t).unread Y)
      (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1) := by
  unfold outp1
  dsimp only

theorem outp3_eq (c : Dev nD) (t : Fin cfg0.N) (Y : Vec F S768x1024 .f32) (s : St F) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) :
    outp3 m c t Y s hc1 hc2 hc3 hc4 hc5 = (ms8 t).view.read (Elt F) ((ms8 t).view.writes (Elt F) ((hs8 t).unread Y)
      (run3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1.1) := by
  unfold outp3
  dsimp only

theorem outp5_eq (c : Dev nD) (t : Fin cfg0.N) (Y : Vec F S768x1024 .f32) (s : St F) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) :
    outp5 m c t Y s hc1 hc2 hc3 hc4 hc5 = (ms8 t).view.read (Elt F) ((ms8 t).view.writes (Elt F) ((hs8 t).unread Y)
      (run5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) hc1 hc2 hc3 hc4 hc5 (iblk m c 0 t) (iblk m c 1 t) (iblk m c 2 t) (iblk m c 3 t) (iblk m c 4 t) (iblk m c 5 t) (iblk m c 6 t) (iblk m c 7 t) Y s.hm s.acc s.xk).1) := by
  unfold outp5
  dsimp only

end

variable (m : (ℓ : Loc nD τ sig) → Buf (Elt Ideal) ℓ)

theorem v_other1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next1 m c t Y s hc1 hc2 hc3 hc4 hc5).acc (ix3 sl r l) = s.acc (ix3 sl r l) := by
  rw [next1_acc]
  exact other1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off3_at t) hs r l

theorem v_xk_other1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next1 m c t Y s hc1 hc2 hc3 hc4 hc5).xk (ix3 sl r l) = s.xk (ix3 sl r l) := by
  rw [next1_xk]
  exact xk_other1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off3_at t) hs r l

theorem v_acc1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next1 m c t Y s hc1 hc2 hc3 hc4 hc5).acc (ix3 ⟨t.val / 2 % 2, Nat.mod_lt _ (by decide)⟩ r l) = add (iblk m c 4 t) (iblk m c 5 t) (modRow (grid0.coords t) (iblk m c 0 t) (iblk m c 1 t) (iblk m c 2 t) r) 0 l + add (iblk m c 4 t) (iblk m c 5 t) (modRow (grid0.coords t) (iblk m c 0 t) (iblk m c 1 t) (iblk m c 2 t) r) 1 l + add (iblk m c 4 t) (iblk m c 5 t) (modRow (grid0.coords t) (iblk m c 0 t) (iblk m c 1 t) (iblk m c 2 t) r) 2 l + add (iblk m c 4 t) (iblk m c 5 t) (modRow (grid0.coords t) (iblk m c 0 t) (iblk m c 1 t) (iblk m c 2 t) r) 3 l + add (iblk m c 4 t) (iblk m c 5 t) (modRow (grid0.coords t) (iblk m c 0 t) (iblk m c 1 t) (iblk m c 2 t) r) 4 l + add (iblk m c 4 t) (iblk m c 5 t) (modRow (grid0.coords t) (iblk m c 0 t) (iblk m c 1 t) (iblk m c 2 t) r) 5 l := by
  rw [next1_acc]
  exact acc1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off3_at t) r l

theorem v_xk1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next1 m c t Y s hc1 hc2 hc3 hc4 hc5).xk (ix3 ⟨t.val / 2 % 2, Nat.mod_lt _ (by decide)⟩ r l) = (iblk m c 0 t : Vec Ideal S768x1024 .f32) (ix2 r l) := by
  rw [next1_xk]
  exact xk1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off3_at t) r l

theorem v_hm1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next1 m c t Y s hc1 hc2 hc3 hc4 hc5).hm (ix2 r l) = modRow (grid0.coords t) (iblk m c 0 t) (iblk m c 1 t) (iblk m c 2 t) r l := by
  rw [next1_hm]
  exact hm1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5  r l

theorem v_other2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next2 m c t Y s hc1 hc2 hc3 hc4 hc5).acc (ix3 sl r l) = s.acc (ix3 sl r l) := by
  rw [next2_acc]
  exact other2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off4_at t) hs r l

theorem v_xk_other2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (sl : Fin 2) (hs : sl ≠ ⟨t.val / 2 % 2, Nat.mod_lt _ (by decide)⟩) (r : Fin 768) (l : Fin 1024) :
    (next2 m c t Y s hc1 hc2 hc3 hc4 hc5).xk (ix3 sl r l) = s.xk (ix3 sl r l) := by
  rw [next2_xk]
  exact xk_other2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ sl (off4_at t) hs r l

theorem v_acc2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next2 m c t Y s hc1 hc2 hc3 hc4 hc5).acc (ix3 ⟨t.val / 2 % 2, Nat.mod_lt _ (by decide)⟩ r l) = add (iblk m c 4 t) (iblk m c 5 t) (modRow (grid0.coords t) (iblk m c 0 t) (iblk m c 1 t) (iblk m c 2 t) r) 0 l + add (iblk m c 4 t) (iblk m c 5 t) (modRow (grid0.coords t) (iblk m c 0 t) (iblk m c 1 t) (iblk m c 2 t) r) 1 l + add (iblk m c 4 t) (iblk m c 5 t) (modRow (grid0.coords t) (iblk m c 0 t) (iblk m c 1 t) (iblk m c 2 t) r) 2 l + add (iblk m c 4 t) (iblk m c 5 t) (modRow (grid0.coords t) (iblk m c 0 t) (iblk m c 1 t) (iblk m c 2 t) r) 3 l + add (iblk m c 4 t) (iblk m c 5 t) (modRow (grid0.coords t) (iblk m c 0 t) (iblk m c 1 t) (iblk m c 2 t) r) 4 l + add (iblk m c 4 t) (iblk m c 5 t) (modRow (grid0.coords t) (iblk m c 0 t) (iblk m c 1 t) (iblk m c 2 t) r) 5 l := by
  rw [next2_acc]
  exact acc2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off4_at t) r l

theorem v_xk2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next2 m c t Y s hc1 hc2 hc3 hc4 hc5).xk (ix3 ⟨t.val / 2 % 2, Nat.mod_lt _ (by decide)⟩ r l) = (iblk m c 0 t : Vec Ideal S768x1024 .f32) (ix2 r l) := by
  rw [next2_xk]
  exact xk2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off4_at t) r l

theorem v_hm2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (r : Fin 768) (l : Fin 1024) :
    (next2 m c t Y s hc1 hc2 hc3 hc4 hc5).hm (ix2 r l) = modRow (grid0.coords t) (iblk m c 0 t) (iblk m c 1 t) (iblk m c 2 t) r l := by
  rw [next2_hm]
  exact hm2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5  r l

theorem v_acc3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (r : Fin 768) (l : Fin 1024) :
    (next3 m c t Y s hc1 hc2 hc3 hc4 hc5).acc (ix3 ⟨t.val / 2 % 2, Nat.mod_lt _ (by decide)⟩ r l) = s.acc (ix3 ⟨t.val / 2 % 2, Nat.mod_lt _ (by decide)⟩ r l) + add (iblk m c 4 t) (iblk m c 5 t) (fun d => s.hm (ix2 r d)) 0 l + add (iblk m c 4 t) (iblk m c 5 t) (fun d => s.hm (ix2 r d)) 1 l + add (iblk m c 4 t) (iblk m c 5 t) (fun d => s.hm (ix2 r d)) 2 l + add (iblk m c 4 t) (iblk m c 5 t) (fun d => s.hm (ix2 r d)) 3 l + add (iblk m c 4 t) (iblk m c 5 t) (fun d => s.hm (ix2 r d)) 4 l := by
  rw [next3_acc]
  exact acc3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off7_at t) r l

theorem v_keep3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) : (next3 m c t Y s hc1 hc2 hc3 hc4 hc5).xk = s.xk := by
  unfold next3
  rfl

theorem v_acc4 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) (r : Fin 768) (l : Fin 1024) :
    (next4 m c t Y s hc1 hc2 hc3 hc4 hc5).acc (ix3 ⟨t.val / 2 % 2, Nat.mod_lt _ (by decide)⟩ r l) = s.acc (ix3 ⟨t.val / 2 % 2, Nat.mod_lt _ (by decide)⟩ r l) + add (iblk m c 4 t) (iblk m c 5 t) (fun d => s.hm (ix2 r d)) 0 l + add (iblk m c 4 t) (iblk m c 5 t) (fun d => s.hm (ix2 r d)) 1 l + add (iblk m c 4 t) (iblk m c 5 t) (fun d => s.hm (ix2 r d)) 2 l + add (iblk m c 4 t) (iblk m c 5 t) (fun d => s.hm (ix2 r d)) 3 l + add (iblk m c 4 t) (iblk m c 5 t) (fun d => s.hm (ix2 r d)) 4 l := by
  rw [next4_acc]
  exact acc4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) Y s.hm s.acc s.xk hc1 hc2 hc3 hc4 hc5 ⟨t.val / 2 % 2, Nat.mod_lt _ (by decide)⟩ (off8_at t) r l

theorem v_keep4 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1) : (next4 m c t Y s hc1 hc2 hc3 hc4 hc5).xk = s.xk := by
  unfold next4
  rfl

/-! ## The invariant -/

/-- The previous tile is accumulated and kept; between a tile's two steps it is modulated, kept and accumulated by six chunks. -/
def Inv (A : Arr) (n : ℕ) (s : St Ideal) : Prop :=
  (∀ i, i + 1 = n / 2 → i < 96 → ∀ (sl : Fin 2), sl.val = i % 2 → ∀ (r : Fin 768) (l : Fin 1024) (R : Fin 73728), R.val = 768 * i + r.val →
      s.acc (ix3 sl r l) = accv A R l ∧ s.xk (ix3 sl r l) = A.xa (ix2 R l))
    ∧ (n % 2 = 1 → n / 2 < 96 → ∀ (sl : Fin 2), sl.val = n / 2 % 2 → ∀ (r : Fin 768) (l : Fin 1024) (R : Fin 73728), R.val = 768 * (n / 2) + r.val →
      s.hm (ix2 r l) = hmv A R l ∧ s.acc (ix3 sl r l) = firstv A R l ∧ s.xk (ix3 sl r l) = A.xa (ix2 R l))

theorem inv1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1)
    (hI : Inv (arrs m c) t.val s) : Inv (arrs m c) (t.val + 1) (next1 m c t Y s hc1 hc2 hc3 hc4 hc5) := by
  have hc := cond1_at t hc1
  refine ⟨fun i hi hi96 sl hsl r l R hR => ?_, fun _ h96 sl hsl r l R hR => ?_⟩
  · have hs : sl ≠ (⟨t.val / 2 % 2, Nat.mod_lt _ (by decide)⟩ : Fin 2) := fun h => by
      have := congrArg Fin.val h; simp only at this; omega
    rw [v_other1 m c t Y s hc1 hc2 hc3 hc4 hc5 sl hs r l, v_xk_other1 m c t Y s hc1 hc2 hc3 hc4 hc5 sl hs r l]
    exact hI.1 i (by omega) hi96 sl hsl r l R hR
  · have e : sl = (⟨t.val / 2 % 2, Nat.mod_lt _ (by decide)⟩ : Fin 2) := Fin.ext (by show sl.val = t.val / 2 % 2; omega)
    subst e
    have hh : t.val % 2 = 0 := by omega
    have hR' : R.val = 768 * (t.val / 2) + r.val := by omega
    have hm := fun d => modRow_eq m c t hh (by omega) r d R hR'
    have hm' : modRow (grid0.coords t) (iblk m c 0 t) (iblk m c 1 t) (iblk m c 2 t) r = hmv (arrs m c) R := funext hm
    rw [v_hm1 m c t Y s hc1 hc2 hc3 hc4 hc5 r l, v_acc1 m c t Y s hc1 hc2 hc3 hc4 hc5 r l, v_xk1 m c t Y s hc1 hc2 hc3 hc4 hc5 r l]
    refine ⟨hm l, ?_, blk0 m c t hh (by omega) r l R hR'⟩
    rw [hm', add_eq m c t R l 0 0 (by rw [hh]; rfl), add_eq m c t R l 1 1 (by rw [hh]; rfl), add_eq m c t R l 2 2 (by rw [hh]; rfl),
      add_eq m c t R l 3 3 (by rw [hh]; rfl), add_eq m c t R l 4 4 (by rw [hh]; rfl), add_eq m c t R l 5 5 (by rw [hh]; rfl)]
    rfl

theorem inv2 (c : Dev nD) (t : Fin cfg0.N) (Y : Vec Ideal S768x1024 .f32) (s : St Ideal) (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1)
    (hI : Inv (arrs m c) t.val s) : Inv (arrs m c) (t.val + 1) (next2 m c t Y s hc1 hc2 hc3 hc4 hc5) := by
  have hc := cond2_at t hc2
  refine ⟨fun i hi hi96 sl hsl r l R hR => ?_, fun _ h96 sl hsl r l R hR => ?_⟩
  · have hs : sl ≠ (⟨t.val / 2 % 2, Nat.mod_lt _ (by decide)⟩ : Fin 2) := fun h => by
      have := congrArg Fin.val h; simp only at this; omega
    rw [v_other2 m c t Y s hc1 hc2 hc3 hc4 hc5 sl hs r l, v_xk_other2 m c t Y s hc1 hc2 hc3 hc4 hc5 sl hs r l]
    exact hI.1 i (by omega) hi96 sl hsl r l R hR
  · have e : sl = (⟨t.val / 2 % 2, Nat.mod_lt _ (by decide)⟩ : Fin 2) := Fin.ext (by show sl.val = t.val / 2 % 2; omega)
    subst e
    have hh : t.val % 2 = 0 := by omega
    have hR' : R.val = 768 * (t.val / 2) + r.val := by omega
    have hm := fun d => modRow_eq m c t hh (by omega) r d R hR'
    have hm' : modRow (grid0.coords t) (iblk m c 0 t) (iblk m c 1 t) (iblk m c 2 t) r = hmv (arrs m c) R := funext hm
    rw [v_hm2 m c t Y s hc1 hc2 hc3 hc4 hc5 r l, v_acc2 m c t Y s hc1 hc2 hc3 hc4 hc5 r l, v_xk2 m c t Y s hc1 hc2 hc3 hc4 hc5 r l]
    refine ⟨hm l, ?_, blk0 m c t hh (by omega) r l R hR'⟩
    rw [hm', add_eq m c t R l 0 0 (by rw [hh]; rfl), add_eq m c t R l 1 1 (by rw [hh]; rfl), add_eq m c t R l 2 2 (by rw [hh]; rfl),
      add_eq m c t R l 3 3 (by rw [hh]; rfl), add_eq m c t R l 4 4 (by rw [hh]; rfl), add_eq m c t R l 5 5 (by rw [hh]; rfl)]
    rfl

theorem inv3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1)
    (hI : Inv (arrs m c) t.val s) : Inv (arrs m c) (t.val + 1) (next3 m c t Y s hc1 hc2 hc3 hc4 hc5) := by
  have hc := cond3_at t hc3
  refine ⟨fun i hi hi96 sl hsl r l R hR => ?_, fun h1 _ => by omega⟩
  have e : sl = (⟨t.val / 2 % 2, Nat.mod_lt _ (by decide)⟩ : Fin 2) := Fin.ext (by show sl.val = t.val / 2 % 2; omega)
  subst e
  have hh : t.val % 2 = 1 := by omega
  have hR' : R.val = 768 * (t.val / 2) + r.val := by omega
  have h := fun l => hI.2 hh (by omega) ⟨t.val / 2 % 2, Nat.mod_lt _ (by decide)⟩ rfl r l R hR'
  have hm' : (fun d => s.hm (ix2 r d)) = hmv (arrs m c) R := funext fun d => (h d).1
  rw [v_acc3 m c t Y s hc1 hc2 hc3 hc4 hc5 r l, v_keep3 m c t Y s hc1 hc2 hc3 hc4 hc5]
  refine ⟨?_, (h l).2.2⟩
  rw [hm', (h l).2.1, add_eq m c t R l 0 6 (by rw [hh]; rfl), add_eq m c t R l 1 7 (by rw [hh]; rfl), add_eq m c t R l 2 8 (by rw [hh]; rfl),
    add_eq m c t R l 3 9 (by rw [hh]; rfl), add_eq m c t R l 4 10 (by rw [hh]; rfl)]
  rfl

theorem inv4 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : k0_cond4 (grid0.coords t) = 1#1) (hc5 : ¬k0_cond5 (grid0.coords t) = 1#1)
    (hI : Inv (arrs m c) t.val s) : Inv (arrs m c) (t.val + 1) (next4 m c t Y s hc1 hc2 hc3 hc4 hc5) := by
  have hc := cond4_at t hc4
  refine ⟨fun i hi hi96 sl hsl r l R hR => ?_, fun h1 _ => by omega⟩
  have e : sl = (⟨t.val / 2 % 2, Nat.mod_lt _ (by decide)⟩ : Fin 2) := Fin.ext (by show sl.val = t.val / 2 % 2; omega)
  subst e
  have hh : t.val % 2 = 1 := by omega
  have hR' : R.val = 768 * (t.val / 2) + r.val := by omega
  have h := fun l => hI.2 hh (by omega) ⟨t.val / 2 % 2, Nat.mod_lt _ (by decide)⟩ rfl r l R hR'
  have hm' : (fun d => s.hm (ix2 r d)) = hmv (arrs m c) R := funext fun d => (h d).1
  rw [v_acc4 m c t Y s hc1 hc2 hc3 hc4 hc5 r l, v_keep4 m c t Y s hc1 hc2 hc3 hc4 hc5]
  refine ⟨?_, (h l).2.2⟩
  rw [hm', (h l).2.1, add_eq m c t R l 0 6 (by rw [hh]; rfl), add_eq m c t R l 1 7 (by rw [hh]; rfl), add_eq m c t R l 2 8 (by rw [hh]; rfl),
    add_eq m c t R l 3 9 (by rw [hh]; rfl), add_eq m c t R l 4 10 (by rw [hh]; rfl)]
  rfl

/-- The invariant holds of every reachable state. -/
theorem inv_of_reach (c : Dev nD) {n : ℕ} {s : St Ideal} (h : Reach m c n s) : Inv (arrs m c) n s := by
  induction h with
  | start s => exact ⟨fun i hi => by omega, fun h => by omega⟩
  | step t s s' Y X _ hT ih =>
    rcases hT with ⟨hc1, hc2, hc3, hc4, hc5, -, e⟩ | ⟨hc1, hc2, hc3, hc4, hc5, -, e⟩ | ⟨hc1, hc2, hc3, hc4, hc5, -, e⟩ | ⟨hc1, hc2, hc3, hc4, hc5, -, e⟩ | ⟨hc1, hc2, hc3, hc4, hc5, -, e⟩
    · exact e ▸ inv1 m c t Y s hc1 hc2 hc3 hc4 hc5 ih
    · exact e ▸ inv2 m c t Y s hc1 hc2 hc3 hc4 hc5 ih
    · exact e ▸ inv3 m c t Y s hc1 hc2 hc3 hc4 hc5 ih
    · exact e ▸ inv4 m c t Y s hc1 hc2 hc3 hc4 hc5 ih
    · have hc := cond5_at t hc5
      rw [e]
      exact ⟨fun i hi hi96 => ih.1 i (by omega) hi96, fun _ h => by omega⟩

end Cert.First

end
-- ==== Proof.FirstOut.lean ====
/-
  What a step that finishes half of the previous tile leaves in the output block, and the array that the launch leaves.
-/
module

public import proofs.«01_k».proof.Proof.FirstInv
public import proofs.«01_k».proof.Proof.FirstFrame
public import Idealize.ShloMosaic.Lib.Pipeline.ArrRel

@[expose] public section

set_option maxRecDepth 16384

noncomputable section

namespace Cert.First

open Cert.Ffn Cert.Kernel3Ideal Cert.Kernel3Ideal.Gen Idealize.ShloMosaic Idealize.ShloMosaic.TcCoe Idealize.SL.Sem

/-! ## Reading a block of 32 rows -/

theorem row_ld {e : EltTy} (x : S2x768x1024.Idx → Elt Ideal e) {off : Fin 3 → ℕ} (inb : ∀ a, off a + S1x32x1024.size a ≤ S2x768x1024.size a)
    (sl : Fin 2) (B : ℕ) (a : Fin 32) (p : Fin 768) (hp : p.val = B + a.val) (l : Fin 1024) (ho : off = ![sl.val, B, 0]) :
    View.ld x (Rect.unit (s := S2x768x1024) off S1x32x1024.size inb) (ix3 0 a l) = x (ix3 sl p l) := by
  subst ho
  refine congrArg x (funext fun y => Fin.ext ?_)
  match y with
  | ⟨0, _⟩ => simp [Rect.emb, Rect.unit, ix3]
  | ⟨1, _⟩ => simp [Rect.emb, Rect.unit, ix3, hp]
  | ⟨2, _⟩ => simp [Rect.emb, Rect.unit, ix3]

theorem ld_gate (x : Vec Ideal S1x9x1024 .f32) (l : Fin 1024) :
    View.ld x (Rect.unit (s := S1x9x1024) ![0, 2, 0] ![1, 1, 1024] inb_S1x9x1024_S1x1x1024_0_2_0) (ix3 0 0 l) = x (ix3 0 2 l) := by
  refine congrArg x (funext fun y => Fin.ext ?_)
  match y with
  | ⟨0, _⟩ => simp [Rect.emb, Rect.unit, ix3]
  | ⟨1, _⟩ => simp [Rect.emb, Rect.unit, ix3]
  | ⟨2, _⟩ => simp [Rect.emb, Rect.unit, ix3]

theorem ld_row (x : Vec Ideal S1x1024 .f32) (l : Fin 1024) :
    View.ld x (Rect.unit (s := S1x1024) ![0, 0] ![1, 1024] inb_S1x1024_S1x1024_0_0) (ix2 0 l) = x (ix2 0 l) := by
  refine congrArg x (funext fun y => Fin.ext ?_)
  match y with
  | ⟨0, _⟩ => simp [Rect.emb, Rect.unit, ix2]
  | ⟨1, _⟩ => simp [Rect.emb, Rect.unit, ix2]

theorem lnorm_congr {x y u u' g g' b b' : Fin 1024 → EReal} (hu : ∀ x, u x = u' x) (hg : ∀ x, g x = g' x) (hb : ∀ x, b x = b' x) (l : Fin 1024) :
    lnorm (resid x u y) g b l = lnorm (resid x u' y) g' b' l := by
  rw [funext hu, funext hg, funext hb]

section
variable (i : grid0.Coords)
  (a3 : Memref sig .tc .vmem S1x9x1024 .f32) (h3 : a3.IsWhole) (a5 : Memref sig .tc .vmem S1x9x1024 .f32) (h5 : a5.IsWhole) (a8 : Memref sig .tc .vmem S1x1024 .f32) (h8 : a8.IsWhole) (a9 : Memref sig .tc .vmem S1x1024 .f32) (h9 : a9.IsWhole) (a12 : Memref sig .tc .vmem S2x768x1024 .f32) (h12 : a12.IsWhole) (a13 : Memref sig .tc .vmem S2x768x1024 .f32) (h13 : a13.IsWhole)
  (x3 x5 : Vec Ideal S1x9x1024 .f32) (x8 x9 : Vec Ideal S1x1024 .f32) (x12 x13 : Vec Ideal S2x768x1024 .f32)

theorem finAt_read (off : Fin 12 → Fin 3 → ℕ) (inb : ∀ k a, off k a + S1x32x1024.size a ≤ S2x768x1024.size a) (sl : Fin 2) (B : ℕ)
    (ho : ∀ k : Fin 12, off k = ![sl.val, B + 32 * k.val, 0]) (k : Fin 12) (a : Fin 32) (p : Fin 768) (hp : p.val = B + 32 * k.val + a.val) (l : Fin 1024) :
    finAt i a3 h3 a5 h5 a8 h8 a9 h9 a12 h12 a13 h13 x3 x5 x8 x9 x12 x13 off inb k (ix2 a l)
      = lnorm (resid (fun x => x13 (ix3 sl p x))
          (fun x => Scalar.select (ctxBit (Scalar.addi (tileBase (Scalar.subi (Scalar.addi (BitVec.ofNat 32 (i 0).val) 3#32) 1#32)) (Scalar.addi (Scalar.muli (BitVec.ofNat 32 (i 1).val) 384#32) (BitVec.ofNat 32 (32 * k.val)))) a.val)
            (x3 (ix3 0 2 x)) (x5 (ix3 0 2 x))) (fun x => x12 (ix3 sl p x)))
        (fun x => x8 (ix2 0 x)) (fun x => x9 (ix2 0 x)) l := by
  unfold finAt
  simp only [View.readAt_eq_ld, h3.read_unread, h5.read_unread, h8.read_unread, h9.read_unread, h12.read_unread, h13.read_unread]
  rw [finBlk_read]
  simp only [fun x => row_ld x13 (inb k) sl (B + 32 * k.val) a p hp x (ho k), fun x => row_ld x12 (inb k) sl (B + 32 * k.val) a p hp x (ho k)]
  exact lnorm_congr (fun x => congrArg₂ (Scalar.select _) (ld_gate x3 x) (ld_gate x5 x)) (ld_row x8) (ld_row x9) l

end

theorem all12 : ∀ k : Fin 12, k ∈ ([11, 10, 9, 8, 7, 6, 5, 4, 3, 2, 1, 0] : List (Fin 12)) := by decide

variable (m : (ℓ : Loc nD τ sig) → Buf (Elt Ideal) ℓ)

/-- The finished row, from a state whose previous tile is accumulated and kept. -/
theorem fin_row (c : Dev nD) (t : Fin cfg0.N) (h1 : 1 ≤ t.val / 2) (s : St Ideal) (hI : Inv (arrs m c) t.val s) (k : Fin 12) (a : Fin 32) (p : Fin 768)
    (hp : p.val = 384 * (t.val % 2) + 32 * k.val + a.val) (R : Fin 73728) (hR : R.val = 768 * (t.val / 2 - 1) + p.val) (l : Fin 1024) :
    lnorm (resid (fun x => s.xk (ix3 ⟨(t.val / 2 + 1) % 2, Nat.mod_lt _ (by decide)⟩ p x))
          (fun x => Scalar.select (ctxBit (Scalar.addi (tileBase (Scalar.subi (Scalar.addi (BitVec.ofNat 32 (grid0.coords t 0).val) 3#32) 1#32)) (Scalar.addi (Scalar.muli (BitVec.ofNat 32 (grid0.coords t 1).val) 384#32) (BitVec.ofNat 32 (32 * k.val)))) a.val)
            ((iblk m c 1 t : Vec Ideal S1x9x1024 .f32) (ix3 0 2 x)) ((iblk m c 3 t : Vec Ideal S1x9x1024 .f32) (ix3 0 2 x))) (fun x => s.acc (ix3 ⟨(t.val / 2 + 1) % 2, Nat.mod_lt _ (by decide)⟩ p x)))
        (fun x => (iblk m c 6 t : Vec Ideal S1x1024 .f32) (ix2 0 x)) (fun x => (iblk m c 7 t : Vec Ideal S1x1024 .f32) (ix2 0 x)) l
      = outv (arrs m c) R l := by
  have ht : t.val < 194 := t.isLt
  have hv := fun x => hI.1 (t.val / 2 - 1) (by omega) (by omega) ⟨(t.val / 2 + 1) % 2, Nat.mod_lt _ (by decide)⟩ (by show (t.val / 2 + 1) % 2 = _; omega) p x R hR
  have hb : ∀ x, Scalar.select (ctxBit (Scalar.addi (tileBase (Scalar.subi (Scalar.addi (BitVec.ofNat 32 (grid0.coords t 0).val) 3#32) 1#32)) (Scalar.addi (Scalar.muli (BitVec.ofNat 32 (grid0.coords t 1).val) 384#32) (BitVec.ofNat 32 (32 * k.val)))) a.val)
            ((iblk m c 1 t : Vec Ideal S1x9x1024 .f32) (ix3 0 2 x)) ((iblk m c 3 t : Vec Ideal S1x9x1024 .f32) (ix3 0 2 x)) = modv (arrs m c) R 2 x := fun x => by
    rw [base_prev t k, ctxBit_ofNat _ _ (by omega), blk1, blk3 m c t 2 x ⟨R.val / 2304, by omega⟩ (by show R.val / 2304 = _; omega)]
    have e : R.val % 2304 = 768 * ((t.val / 2 + 2) % 3) + (384 * (t.val % 2) + 32 * k.val) + a.val := by omega
    unfold modv
    rw [← e]
    by_cases hx : R.val % 2304 < 256
    · simp only [if_pos hx, select_one]
    · simp only [if_neg hx, select_zero]
  unfold outv
  simp only [hb, blk6, blk7, fun x => (hv x).1, fun x => (hv x).2]

theorem out_hit1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (h1 : 1 ≤ t.val / 2) (hI : Inv (arrs m c) t.val s) (p : Fin 768)
    (hp : 384 * (t.val % 2) ≤ p.val ∧ p.val < 384 * (t.val % 2) + 384) (R : Fin 73728) (hR : R.val = 768 * (t.val / 2 - 1) + p.val) (l : Fin 1024) :
    outp1 m c t Y s hc1 hc2 hc3 hc4 hc5 (ix2 p l) = outv (arrs m c) R l := by
  have hp' : p.val = 384 * (t.val % 2) + 32 * ((p.val - 384 * (t.val % 2)) / 32) + (p.val - 384 * (t.val % 2)) % 32 := by omega
  rw [outp1_eq, fin_list1]
  refine (rows_hit (ms8 t).view _ _ (k0_off2_inb (grid0.coords t) hc1) _ (384 * (t.val % 2)) (off2_at t) _
    ⟨(p.val - 384 * (t.val % 2)) / 32, by omega⟩ (all12 _) p ⟨(p.val - 384 * (t.val % 2)) % 32, by omega⟩ l hp').trans ?_
  rw [finAt_read _ _ _ _ _ _ _ _ _ _ _ _ _ _ _ _ _ _ _ _ _ ⟨(t.val / 2 + 1) % 2, Nat.mod_lt _ (by decide)⟩ (384 * (t.val % 2)) (off1_at t) _ _ p hp' l]
  exact fin_row m c t h1 s hI _ _ p hp' R hR l

theorem out_miss1 (c : Dev nD) (t : Fin cfg0.N) (Y : Vec Ideal S768x1024 .f32) (s : St Ideal) (hc1 : k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (p : Fin 768)
    (hp : p.val < 384 * (t.val % 2) ∨ 384 * (t.val % 2) + 384 ≤ p.val) (l : Fin 1024) :
    outp1 m c t Y s hc1 hc2 hc3 hc4 hc5 (ix2 p l) = Y (ix2 p l) := by
  rw [outp1_eq, fin_list1]
  refine (rows_miss (ms8 t).view _ _ (k0_off2_inb (grid0.coords t) hc1) _ (384 * (t.val % 2)) (off2_at t) _ p l fun k _ => by omega).trans ?_
  exact congrFun ((hs8 t).read_unread Y) _

theorem out_hit3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (h1 : 1 ≤ t.val / 2) (hI : Inv (arrs m c) t.val s) (p : Fin 768)
    (hp : 384 * (t.val % 2) ≤ p.val ∧ p.val < 384 * (t.val % 2) + 384) (R : Fin 73728) (hR : R.val = 768 * (t.val / 2 - 1) + p.val) (l : Fin 1024) :
    outp3 m c t Y s hc1 hc2 hc3 hc4 hc5 (ix2 p l) = outv (arrs m c) R l := by
  have hp' : p.val = 384 * (t.val % 2) + 32 * ((p.val - 384 * (t.val % 2)) / 32) + (p.val - 384 * (t.val % 2)) % 32 := by omega
  rw [outp3_eq, fin_list3]
  refine (rows_hit (ms8 t).view _ _ (k0_off6_inb (grid0.coords t) hc3) _ (384 * (t.val % 2)) (off6_at t) _
    ⟨(p.val - 384 * (t.val % 2)) / 32, by omega⟩ (all12 _) p ⟨(p.val - 384 * (t.val % 2)) % 32, by omega⟩ l hp').trans ?_
  rw [finAt_read _ _ _ _ _ _ _ _ _ _ _ _ _ _ _ _ _ _ _ _ _ ⟨(t.val / 2 + 1) % 2, Nat.mod_lt _ (by decide)⟩ (384 * (t.val % 2)) (off5_at t) _ _ p hp' l]
  exact fin_row m c t h1 s hI _ _ p hp' R hR l

theorem out_miss3 (c : Dev nD) (t : Fin cfg0.N) (Y : Vec Ideal S768x1024 .f32) (s : St Ideal) (hc1 : ¬k0_cond1 (grid0.coords t) = 1#1) (hc2 : ¬k0_cond2 (grid0.coords t) = 1#1) (hc3 : k0_cond3 (grid0.coords t) = 1#1) (hc4 : ¬k0_cond4 (grid0.coords t) = 1#1) (hc5 : ¬k0_cond5 (grid0.coords t) = 1#1) (p : Fin 768)
    (hp : p.val < 384 * (t.val % 2) ∨ 384 * (t.val % 2) + 384 ≤ p.val) (l : Fin 1024) :
    outp3 m c t Y s hc1 hc2 hc3 hc4 hc5 (ix2 p l) = Y (ix2 p l) := by
  rw [outp3_eq, fin_list3]
  refine (rows_miss (ms8 t).view _ _ (k0_off6_inb (grid0.coords t) hc3) _ (384 * (t.val % 2)) (off6_at t) _ p l fun k _ => by omega).trans ?_
  exact congrFun ((hs8 t).read_unread Y) _

theorem out_hit5 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) (h1 : 1 ≤ t.val / 2) (hI : Inv (arrs m c) t.val s) (p : Fin 768)
    (hp : 384 * (t.val % 2) ≤ p.val ∧ p.val < 384 * (t.val % 2) + 384) (R : Fin 73728) (hR : R.val = 768 * (t.val / 2 - 1) + p.val) (l : Fin 1024) :
    outp5 m c t Y s hc1 hc2 hc3 hc4 hc5 (ix2 p l) = outv (arrs m c) R l := by
  have hp' : p.val = 384 * (t.val % 2) + 32 * ((p.val - 384 * (t.val % 2)) / 32) + (p.val - 384 * (t.val % 2)) % 32 := by omega
  rw [outp5_eq, fin_list5]
  refine (rows_hit (ms8 t).view _ _ (k0_off10_inb (grid0.coords t) hc5) _ (384 * (t.val % 2)) (off10_at t) _
    ⟨(p.val - 384 * (t.val % 2)) / 32, by omega⟩ (all12 _) p ⟨(p.val - 384 * (t.val % 2)) % 32, by omega⟩ l hp').trans ?_
  rw [finAt_read _ _ _ _ _ _ _ _ _ _ _ _ _ _ _ _ _ _ _ _ _ ⟨(t.val / 2 + 1) % 2, Nat.mod_lt _ (by decide)⟩ (384 * (t.val % 2)) (off9_at t) _ _ p hp' l]
  exact fin_row m c t h1 s hI _ _ p hp' R hR l

theorem out_miss5 (c : Dev nD) (t : Fin cfg0.N) (Y : Vec Ideal S768x1024 .f32) (s : St Ideal) (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : k0_cond5 (grid0.coords t) = 1#1) (p : Fin 768)
    (hp : p.val < 384 * (t.val % 2) ∨ 384 * (t.val % 2) + 384 ≤ p.val) (l : Fin 1024) :
    outp5 m c t Y s hc1 hc2 hc3 hc4 hc5 (ix2 p l) = Y (ix2 p l) := by
  rw [outp5_eq, fin_list5]
  refine (rows_miss (ms8 t).view _ _ (k0_off10_inb (grid0.coords t) hc5) _ (384 * (t.val % 2)) (off10_at t) _ p l fun k _ => by omega).trans ?_
  exact congrFun ((hs8 t).read_unread Y) _

/-- A point of a later tile finishes half of the previous tile's rows and leaves the others. -/
theorem out_row (c : Dev nD) (t : Fin cfg0.N) (h1 : 1 ≤ t.val / 2) (s s' : St Ideal) (Y X : Vec Ideal S768x1024 .f32) (hI : Inv (arrs m c) t.val s)
    (hT : Trans m c t s s' Y X) (p : Fin 768) (l : Fin 1024) :
    (384 * (t.val % 2) ≤ p.val ∧ p.val < 384 * (t.val % 2) + 384 → ∀ R : Fin 73728, R.val = 768 * (t.val / 2 - 1) + p.val → X (ix2 p l) = outv (arrs m c) R l)
      ∧ (p.val < 384 * (t.val % 2) ∨ 384 * (t.val % 2) + 384 ≤ p.val → X (ix2 p l) = Y (ix2 p l)) := by
  rcases hT with ⟨hc1, hc2, hc3, hc4, hc5, e, -⟩ | ⟨hc1, hc2, hc3, hc4, hc5, -, -⟩ | ⟨hc1, hc2, hc3, hc4, hc5, e, -⟩ | ⟨hc1, hc2, hc3, hc4, hc5, -, -⟩ | ⟨hc1, hc2, hc3, hc4, hc5, e, -⟩
  · subst e
    exact ⟨fun hp R hR => out_hit1 m c t Y s hc1 hc2 hc3 hc4 hc5 h1 hI p hp R hR l, fun hp => out_miss1 m c t Y s hc1 hc2 hc3 hc4 hc5 p hp l⟩
  · have := cond2_at t hc2; omega
  · subst e
    exact ⟨fun hp R hR => out_hit3 m c t Y s hc1 hc2 hc3 hc4 hc5 h1 hI p hp R hR l, fun hp => out_miss3 m c t Y s hc1 hc2 hc3 hc4 hc5 p hp l⟩
  · have := cond4_at t hc4; omega
  · subst e
    exact ⟨fun hp R hR => out_hit5 m c t Y s hc1 hc2 hc3 hc4 hc5 h1 hI p hp R hR l, fun hp => out_miss5 m c t Y s hc1 hc2 hc3 hc4 hc5 p hp l⟩

/-! ## The array -/

theorem flush8 : ∀ t : Fin cfg0.N, (cfg0.win 8).flush t = true → t.val % 2 = 1 ∧ 1 ≤ t.val / 2 :=
  (by decide +kernel : ∀ t : Fin grid0.N, (cfg0.win 8).flush t = true → t.val % 2 = 1 ∧ 1 ≤ t.val / 2)

/-- What a flushed block holds: the previous tile's rows, finished. -/
theorem leaves8 (c : Dev nD) (t : Fin cfg0.N) (hf : (cfg0.win 8).flush t = true) (X : Vec Ideal S768x1024 .f32) (h : (rdat m c).Leaves 8 t X)
    (p : Fin 768) (l : Fin 1024) (R : Fin 73728) (hR : R.val = 768 * (t.val / 2 - 1) + p.val) : X (ix2 p l) = outv (arrs m c) R l := by
  have ht := flush8 t hf
  obtain ⟨Y, hY, s, s', hr, hT⟩ := h
  have h1 := out_row m c t ht.2 s s' Y X (inv_of_reach m c hr) hT p l
  by_cases hp : 384 ≤ p.val
  · exact h1.1 (by omega) R hR
  · rw [h1.2 (by omega)]
    rw [(rdat m c).finds_of_pos ((cfg0.win 8).fetch_out rfl _) (by omega)] at hY
    rcases hY with hY | ⟨Y', -, s₀, s₁, hr', hT'⟩
    · have := (flush8 _ hY).1
      simp only at this
      omega
    · have h2 := out_row m c _ (by show 1 ≤ (t.val - 1) / 2; omega) s₀ s₁ Y' Y (inv_of_reach m c hr') hT' p l
      refine h2.1 ?_ R ?_
      · show 384 * ((t.val - 1) % 2) ≤ p.val ∧ p.val < 384 * ((t.val - 1) % 2) + 384
        omega
      · show R.val = 768 * ((t.val - 1) / 2 - 1) + p.val
        omega

/-- The result, as one array. -/
def result (A : Arr) (i : S73728x1024.Idx) : EReal := outv A (i 0) (i 1)

theorem emb8 (t : Fin cfg0.N) (ht : 1 ≤ t.val / 2) (p : Fin 768) (l : Fin 1024) :
    (win0_8.blk t).view.emb (ix2 p l : S768x1024.Idx)
      = (ix2 ⟨768 * (t.val / 2 - 1) + p.val, by have : t.val < 194 := t.isLt; omega⟩ l : S73728x1024.Idx) := by
  blk_ext [idx8]

/-- The launch leaves the result in the output array. -/
theorem final {r : PUnit × MemSt nD τ sig (Elt Ideal)} (h : Pipeline.RDat.FramePost cfg0 (rdat m) (V m) r) (c : Dev nD) :
    r.2.mem ((c.tc : Thread nD τ).loc main_v12) = result (arrs m c) := by
  obtain ⟨after, hL, hA⟩ := h.exists_exact c
  refine (hA 8).trans ?_
  refine ((rdat m c).withAfter after).arrAt_eq_of_covers 8 _ (by decide +kernel) fun t hf y => ?_
  obtain ⟨p, l, rfl⟩ : ∃ (p : Fin 768) (l : Fin 1024), y = ix2 p l := ⟨y 0, y 1, eq_ix2 y⟩
  have ht := flush8 t hf
  have he : ((cfg0.win 8).blk t).view.emb (ix2 p l : S768x1024.Idx)
      = (ix2 ⟨768 * (t.val / 2 - 1) + p.val, by have : t.val < 194 := t.isLt; omega⟩ l : S73728x1024.Idx) := emb8 t ht.2 p l
  have hv := leaves8 m c t hf (after 8 t) (hL 8 t hf) p l ⟨768 * (t.val / 2 - 1) + p.val, by have : t.val < 194 := t.isLt; omega⟩ rfl
  blk_simp
  exact Eq.trans hv (congrArg (result (arrs m c)) he).symm

end Cert.First

end
-- ==== Proof.FirstRef.lean ====
/-
  The reference read at an index: a row's modulation, its two hidden rows, the product with the last matrix, and the layer norm.
-/
module

public import proofs.«01_k».proof.Proof.FfnMath
public import proofs.«01_k».proof.Proof.Gen.Reference3Ideal.Read

@[expose] public section

set_option maxRecDepth 16384

noncomputable section

namespace Cert.First

open Cert.Ffn Cert.Reference3Ideal Cert.Reference3Ideal.Gen Cert.Reference3Ideal.Read Idealize.ShloMosaic

variable (x0 : Vec Ideal S73728x1024 .f32) (x1 : Vec Ideal S40x9x1024 .f32) (x2 x3 : Vec Ideal S1024x2816 .f32) (x4 : Vec Ideal S2816x1024 .f32)
  (x5 x6 : Vec Ideal S1024 .f32)

section
variable (b : Fin 32) (q : Fin 256)

theorem ref_mod_ctx (d : Fin 1024) : val_main_v16 (F := Ideal) x0 x1 (ix3 b q d)
    = modulated (fun d => x0 (ix2 ⟨b.val * 2304 + q.val, by omega⟩ d)) (fun d => x1 (ix3 ⟨32, by decide⟩ 1 d)) (fun d => x1 (ix3 ⟨32, by decide⟩ 0 d)) d := by
  pointwise [val_main_v16, val_main_v5, val_main_v6, val_main_v7, val_main_v8, val_main_v9, val_main_v10, val_main_v11, val_main_v12, val_main_v13, val_main_v14, val_main_v15, val_main_v1, val_main_v0, val_main_cst, modulated]

theorem ref_hidden_ctx (k : Fin 2816) : val_main_v20 (F := Ideal) x0 x1 x2 x3 (ix3 b q k)
    = hiddenRow (fun d => val_main_v16 (F := Ideal) x0 x1 (ix3 b q d)) (fun d k => x2 (ix2 d k)) (fun d k => x3 (ix2 d k)) k := by
  unfold hiddenRow silu
  unfold val_main_v20 val_main_v18
  unfold val_main_call0_v5 val_main_call0_v3 val_main_call0_v1 val_main_call0_v0 val_main_v17 val_main_v19
  generalize val_main_v16 (F := Ideal) x0 x1 = H
  pointwise [val_main_call0_cst, val_main_call0_v2, val_main_call0_cst_0, val_main_call0_v4]

theorem ref_last_ctx (l : Fin 1024) : val_main_v21 (F := Ideal) x0 x1 x2 x3 x4 (ix3 b q l)
    = ∑ k : Fin 2816, val_main_v20 (F := Ideal) x0 x1 x2 x3 (ix3 b q k) * x4 (ix2 k l) := by
  unfold val_main_v21
  generalize val_main_v20 (F := Ideal) x0 x1 x2 x3 = H
  pointwise

theorem ref_resid_ctx (l : Fin 1024) : val_main_v30 (F := Ideal) x0 x1 x2 x3 x4 (ix3 b q l)
    = resid (fun d => x0 (ix2 ⟨b.val * 2304 + q.val, by omega⟩ d)) (fun d => x1 (ix3 ⟨32, by decide⟩ 2 d)) (fun y => val_main_v21 (F := Ideal) x0 x1 x2 x3 x4 (ix3 b q y)) l := by
  unfold resid
  pointwise [val_main_v30, val_main_v22, val_main_v23, val_main_v6, val_main_v5, val_main_v24, val_main_v25, val_main_v26, val_main_v27, val_main_v28, val_main_v29, val_main_v1, val_main_v0, val_main_cst_0, val_main_cst_1]

theorem ref_mean_ctx (l : Fin 1024) : val_main_v35 (F := Ideal) x0 x1 x2 x3 x4 (ix3 b q l)
    = mean fun y => val_main_v30 (F := Ideal) x0 x1 x2 x3 x4 (ix3 b q y) := by
  unfold mean
  pointwise [val_main_v32, val_main_v33, val_main_v34, val_main_v35, val_main_cst_2, val_main_cst_3, val_main_v31]

theorem ref_centred_ctx (l : Fin 1024) : val_main_v36 (F := Ideal) x0 x1 x2 x3 x4 (ix3 b q l)
    = val_main_v30 (F := Ideal) x0 x1 x2 x3 x4 (ix3 b q l) - mean fun y => val_main_v30 (F := Ideal) x0 x1 x2 x3 x4 (ix3 b q y) := by
  rw [val_main_v36_apply, ref_mean_ctx]
  rfl

theorem ref_scale_ctx (l : Fin 1024) : val_main_v45 (F := Ideal) x0 x1 x2 x3 x4 (ix3 b q l)
    = Ideal.rsqrt (mean (fun y => val_main_v36 (F := Ideal) x0 x1 x2 x3 x4 (ix3 b q y) * val_main_v36 (F := Ideal) x0 x1 x2 x3 x4 (ix3 b q y))
        + Ideal.ofBits FTy.f32 897988541#32) := by
  unfold mean
  pointwise [val_main_v45, val_main_v44, val_main_v39, val_main_v40, val_main_v41, val_main_v42, val_main_v43, val_main_cst_4, val_main_cst_5, val_main_cst_6, val_main_v38, val_main_v37]

theorem ref_norm_ctx (l : Fin 1024) : val_main_v52 (F := Ideal) x0 x1 x2 x3 x4 x5 x6 (ix3 b q l)
    = lnorm (fun y => val_main_v30 (F := Ideal) x0 x1 x2 x3 x4 (ix3 b q y)) (fun y => x5 (ix1 y)) (fun y => x6 (ix1 y)) l := by
  have e : val_main_v52 (F := Ideal) x0 x1 x2 x3 x4 x5 x6 (ix3 b q l)
      = (val_main_v36 (F := Ideal) x0 x1 x2 x3 x4 (ix3 b q l) * val_main_v45 (F := Ideal) x0 x1 x2 x3 x4 (ix3 b q l)) * x5 (ix1 l) + x6 (ix1 l) := by
    pointwise [val_main_v52, val_main_v46, val_main_v47, val_main_v48, val_main_v49, val_main_v50, val_main_v51]
  rw [e, ref_scale_ctx]
  simp only [ref_centred_ctx]
  rfl

theorem ref_ctx (l : Fin 1024) : val_main_v52 (F := Ideal) x0 x1 x2 x3 x4 x5 x6 (ix3 b q l)
    = layer (fun d => x0 (ix2 ⟨b.val * 2304 + q.val, by omega⟩ d)) (fun d => x1 (ix3 ⟨32, by decide⟩ 1 d)) (fun d => x1 (ix3 ⟨32, by decide⟩ 0 d)) (fun d => x1 (ix3 ⟨32, by decide⟩ 2 d))
        (fun d k => x2 (ix2 d k)) (fun d k => x3 (ix2 d k)) (fun k y => x4 (ix2 k y)) (fun y => x5 (ix1 y)) (fun y => x6 (ix1 y)) l := by
  rw [ref_norm_ctx]
  simp only [ref_resid_ctx, ref_last_ctx, ref_hidden_ctx, ref_mod_ctx]
  rfl

end

section
variable (b : Fin 32) (q : Fin 2048)

theorem ref_mod_lat (d : Fin 1024) : val_main_v62 (F := Ideal) x0 x1 (ix3 b q d)
    = modulated (fun d => x0 (ix2 ⟨b.val * 2304 + (256 + q.val), by omega⟩ d)) (fun d => x1 (ix3 ⟨b.val, by omega⟩ 1 d)) (fun d => x1 (ix3 ⟨b.val, by omega⟩ 0 d)) d := by
  pointwise [val_main_v62, val_main_v3, val_main_v4, val_main_v53, val_main_v54, val_main_v55, val_main_v56, val_main_v57, val_main_v58, val_main_v59, val_main_v60, val_main_v61, val_main_v2, val_main_v0, val_main_cst_7, modulated]

theorem ref_hidden_lat (k : Fin 2816) : val_main_v66 (F := Ideal) x0 x1 x2 x3 (ix3 b q k)
    = hiddenRow (fun d => val_main_v62 (F := Ideal) x0 x1 (ix3 b q d)) (fun d k => x2 (ix2 d k)) (fun d k => x3 (ix2 d k)) k := by
  unfold hiddenRow silu
  unfold val_main_v66 val_main_v64
  unfold val_main_call1_v5 val_main_call1_v3 val_main_call1_v1 val_main_call1_v0 val_main_v63 val_main_v65
  generalize val_main_v62 (F := Ideal) x0 x1 = H
  pointwise [val_main_call1_cst, val_main_call1_v2, val_main_call1_cst_0, val_main_call1_v4]

theorem ref_last_lat (l : Fin 1024) : val_main_v67 (F := Ideal) x0 x1 x2 x3 x4 (ix3 b q l)
    = ∑ k : Fin 2816, val_main_v66 (F := Ideal) x0 x1 x2 x3 (ix3 b q k) * x4 (ix2 k l) := by
  unfold val_main_v67
  generalize val_main_v66 (F := Ideal) x0 x1 x2 x3 = H
  pointwise

theorem ref_resid_lat (l : Fin 1024) : val_main_v76 (F := Ideal) x0 x1 x2 x3 x4 (ix3 b q l)
    = resid (fun d => x0 (ix2 ⟨b.val * 2304 + (256 + q.val), by omega⟩ d)) (fun d => x1 (ix3 ⟨b.val, by omega⟩ 2 d)) (fun y => val_main_v67 (F := Ideal) x0 x1 x2 x3 x4 (ix3 b q y)) l := by
  unfold resid
  pointwise [val_main_v76, val_main_v68, val_main_v69, val_main_v4, val_main_v3, val_main_v70, val_main_v71, val_main_v72, val_main_v73, val_main_v74, val_main_v75, val_main_v2, val_main_v0, val_main_cst_8, val_main_cst_9]

theorem ref_mean_lat (l : Fin 1024) : val_main_v81 (F := Ideal) x0 x1 x2 x3 x4 (ix3 b q l)
    = mean fun y => val_main_v76 (F := Ideal) x0 x1 x2 x3 x4 (ix3 b q y) := by
  unfold mean
  pointwise [val_main_v78, val_main_v79, val_main_v80, val_main_v81, val_main_cst_10, val_main_cst_11, val_main_v77]

theorem ref_centred_lat (l : Fin 1024) : val_main_v82 (F := Ideal) x0 x1 x2 x3 x4 (ix3 b q l)
    = val_main_v76 (F := Ideal) x0 x1 x2 x3 x4 (ix3 b q l) - mean fun y => val_main_v76 (F := Ideal) x0 x1 x2 x3 x4 (ix3 b q y) := by
  rw [val_main_v82_apply, ref_mean_lat]
  rfl

theorem ref_scale_lat (l : Fin 1024) : val_main_v91 (F := Ideal) x0 x1 x2 x3 x4 (ix3 b q l)
    = Ideal.rsqrt (mean (fun y => val_main_v82 (F := Ideal) x0 x1 x2 x3 x4 (ix3 b q y) * val_main_v82 (F := Ideal) x0 x1 x2 x3 x4 (ix3 b q y))
        + Ideal.ofBits FTy.f32 897988541#32) := by
  unfold mean
  pointwise [val_main_v91, val_main_v90, val_main_v85, val_main_v86, val_main_v87, val_main_v88, val_main_v89, val_main_cst_12, val_main_cst_13, val_main_cst_14, val_main_v84, val_main_v83]

theorem ref_norm_lat (l : Fin 1024) : val_main_v98 (F := Ideal) x0 x1 x2 x3 x4 x5 x6 (ix3 b q l)
    = lnorm (fun y => val_main_v76 (F := Ideal) x0 x1 x2 x3 x4 (ix3 b q y)) (fun y => x5 (ix1 y)) (fun y => x6 (ix1 y)) l := by
  have e : val_main_v98 (F := Ideal) x0 x1 x2 x3 x4 x5 x6 (ix3 b q l)
      = (val_main_v82 (F := Ideal) x0 x1 x2 x3 x4 (ix3 b q l) * val_main_v91 (F := Ideal) x0 x1 x2 x3 x4 (ix3 b q l)) * x5 (ix1 l) + x6 (ix1 l) := by
    pointwise [val_main_v98, val_main_v92, val_main_v93, val_main_v94, val_main_v95, val_main_v96, val_main_v97]
  rw [e, ref_scale_lat]
  simp only [ref_centred_lat]
  rfl

theorem ref_lat (l : Fin 1024) : val_main_v98 (F := Ideal) x0 x1 x2 x3 x4 x5 x6 (ix3 b q l)
    = layer (fun d => x0 (ix2 ⟨b.val * 2304 + (256 + q.val), by omega⟩ d)) (fun d => x1 (ix3 ⟨b.val, by omega⟩ 1 d)) (fun d => x1 (ix3 ⟨b.val, by omega⟩ 0 d)) (fun d => x1 (ix3 ⟨b.val, by omega⟩ 2 d))
        (fun d k => x2 (ix2 d k)) (fun d k => x3 (ix2 d k)) (fun k y => x4 (ix2 k y)) (fun y => x5 (ix1 y)) (fun y => x6 (ix1 y)) l := by
  rw [ref_norm_lat]
  simp only [ref_resid_lat, ref_last_lat, ref_hidden_lat, ref_mod_lat]
  rfl

end

/-- The two kinds of rows side by side. -/
theorem ref_join (A : Vec Ideal S32x256x1024 .f32) (B : Vec Ideal S32x2048x1024 .f32) (hA : val_main_v52 (F := Ideal) x0 x1 x2 x3 x4 x5 x6 = A)
    (hB : val_main_v98 (F := Ideal) x0 x1 x2 x3 x4 x5 x6 = B) (R : Fin 73728) (l : Fin 1024) :
    val_main_v100 (F := Ideal) x0 x1 x2 x3 x4 x5 x6 (ix2 R l)
      = if h : R.val % 2304 < 256 then A (ix3 ⟨R.val / 2304, by omega⟩ ⟨R.val % 2304, h⟩ l)
        else B (ix3 ⟨R.val / 2304, by omega⟩ ⟨R.val % 2304 - 256, by omega⟩ l) := by
  unfold val_main_v100 val_main_v99
  rw [hA, hB]
  pointwise

end Cert.First

end
-- ==== Proof.FirstAlg.lean ====
/-
  The launch's result is the reference's, for arguments of real numbers where the silu's argument is made of them.
-/
module

public import proofs.«01_k».proof.Proof.FirstHost
public import proofs.«01_k».proof.Proof.FirstOut
public import proofs.«01_k».proof.Proof.FirstRef

@[expose] public section

set_option maxRecDepth 16384

noncomputable section

namespace Cert.First

open Cert.Ffn Cert.Kernel3Ideal Cert.Kernel3Ideal.Gen Cert.Att Idealize.ShloMosaic Idealize.ShloMosaic.TcCoe

/-- One chunk of 256 hidden columns. -/
theorem chunk_hidden (A : Arr) (x2 x3 : Vec Ideal S1024x2816 .f32) (x4 : Vec Ideal S2816x1024 .f32) (h13 : A.w13 = packed13 x2 x3) (h2 : A.w2 = packed2 x4)
    (R : Fin 73728) (l : Fin 1024) (hr : ∀ d, Real' (hmv A R d)) (hw : ∀ i, Real' (x2 i)) (q : Fin 12) (hq : q.val < 11) :
    chunkv A R l q = ∑ j : Fin 256, (fun k : Fin 2816 => hiddenRow (hmv A R) (fun d k => x2 (ix2 d k)) (fun d k => x3 (ix2 d k)) k * x4 (ix2 k l))
      ⟨256 * q.val + j.val, by omega⟩ := by
  unfold chunkv part
  refine Finset.sum_congr rfl fun j _ => ?_
  rw [h13, h2]
  simp only [fun d => packed13_left x2 x3 q hq d j, fun d => packed13_right x2 x3 q hq d j, packed2_read x4 q hq j l]
  rw [ksilu_eq _ (Real'.sum _ _ fun d _ => (hr d).mul (hw _))]
  rfl

/-- What the accumulator ends with. -/
theorem accv_hidden (A : Arr) (x2 x3 : Vec Ideal S1024x2816 .f32) (x4 : Vec Ideal S2816x1024 .f32) (h13 : A.w13 = packed13 x2 x3) (h2 : A.w2 = packed2 x4)
    (R : Fin 73728) (l : Fin 1024) (hr : ∀ d, Real' (hmv A R d)) (hw : ∀ i, Real' (x2 i)) :
    accv A R l = ∑ k, hiddenRow (hmv A R) (fun d k => x2 (ix2 d k)) (fun d k => x3 (ix2 d k)) k * x4 (ix2 k l) :=
  sum_chunks _ (chunkv A R l) fun q hq => chunk_hidden A x2 x3 x4 h13 h2 R l hr hw q hq

variable (x0 : Vec Ideal S73728x1024 .f32) (x1 : Vec Ideal S40x9x1024 .f32) (x2 x3 : Vec Ideal S1024x2816 .f32) (x4 : Vec Ideal S2816x1024 .f32)
  (x5 x6 : Vec Ideal S1024 .f32)

/-- The arrays the launch finds, from the arguments. -/
def arrOf : Arr where
  xa := x0
  md := x1
  w13 := packed13 x2 x3
  w2 := packed2 x4
  g := broadcastInDim S1x1024 ![1] bcast_S1024_S1x1024_1 x5
  b := broadcastInDim S1x1024 ![1] bcast_S1024_S1x1024_1 x6

theorem row_read (x : Vec Ideal S1024 .f32) (l : Fin 1024) : broadcastInDim S1x1024 ![1] bcast_S1024_S1x1024_1 x (ix2 0 l) = x (ix1 l) := by
  pointwise

/-- A row of the launch's result. -/
theorem outv_layer (h0 : ∀ i, Real' (x0 i)) (h1 : ∀ i, Real' (x1 i)) (h2 : ∀ i, Real' (x2 i)) (R : Fin 73728) (l : Fin 1024) (k : Fin 40)
    (hk : k = if R.val % 2304 < 256 then 32 else ⟨R.val / 2304, by omega⟩) :
    outv (arrOf x0 x1 x2 x3 x4 x5 x6) R l
      = layer (fun d => x0 (ix2 R d)) (fun d => x1 (ix3 k 1 d)) (fun d => x1 (ix3 k 0 d)) (fun d => x1 (ix3 k 2 d))
          (fun d k => x2 (ix2 d k)) (fun d k => x3 (ix2 d k)) (fun k y => x4 (ix2 k y)) (fun y => x5 (ix1 y)) (fun y => x6 (ix1 y)) l := by
  subst hk
  have hr : ∀ d, Real' (hmv (arrOf x0 x1 x2 x3 x4 x5 x6) R d) := fun d => by
    refine ((h0 _).mul (Real'.add ⟨1, ofBits_one⟩ (h1 _))).add (h1 _)
  have ha := funext fun y => accv_hidden (arrOf x0 x1 x2 x3 x4 x5 x6) x2 x3 x4 rfl rfl R y hr h2
  have hg := funext fun y => row_read x5 y
  have hb := funext fun y => row_read x6 y
  unfold outv
  rw [ha, show (fun x => (arrOf x0 x1 x2 x3 x4 x5 x6).g (ix2 0 x)) = fun y => x5 (ix1 y) from hg,
    show (fun x => (arrOf x0 x1 x2 x3 x4 x5 x6).b (ix2 0 x)) = fun y => x6 (ix1 y) from hb]
  rfl

/-- The reference's result is the launch's. -/
theorem ref_result (h0 : ∀ i, Real' (x0 i)) (h1 : ∀ i, Real' (x1 i)) (h2 : ∀ i, Real' (x2 i)) :
    Cert.Reference3Ideal.Read.val_main_v100 (F := Ideal) x0 x1 x2 x3 x4 x5 x6 = result (arrOf x0 x1 x2 x3 x4 x5 x6) := by
  funext i
  obtain ⟨R, l, rfl⟩ : ∃ (R : Fin 73728) (l : Fin 1024), i = ix2 R l := ⟨i 0, i 1, eq_ix2 i⟩
  show _ = outv _ R l
  rw [ref_join x0 x1 x2 x3 x4 x5 x6 _ _ rfl rfl]
  by_cases h : R.val % 2304 < 256
  · rw [dif_pos h, ref_ctx, outv_layer x0 x1 x2 x3 x4 x5 x6 h0 h1 h2 R l 32 (if_pos h).symm]
    have e : (⟨R.val / 2304 * 2304 + R.val % 2304, by omega⟩ : Fin 73728) = R := Fin.ext (by show R.val / 2304 * 2304 + R.val % 2304 = R.val; omega)
    simp only [e]
    rfl
  · rw [dif_neg h, ref_lat, outv_layer x0 x1 x2 x3 x4 x5 x6 h0 h1 h2 R l ⟨R.val / 2304, by omega⟩ (if_neg h).symm]
    have e : (⟨R.val / 2304 * 2304 + (256 + (R.val % 2304 - 256)), by omega⟩ : Fin 73728) = R :=
      Fin.ext (by show R.val / 2304 * 2304 + (256 + (R.val % 2304 - 256)) = R.val; omega)
    simp only [e]

/-- The arrays the launch finds. -/
theorem arrs_eq (m : (ℓ : Loc nD τ sig) → Buf (Elt Ideal) ℓ) (c : Dev nD) :
    arrs m c = arrOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  unfold arrs arrOf
  rw [V6, V9, V10, V11]

end Cert.First

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_ffn
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.AttRef
public import proofs.«01_k».proof.Proof.AttFinite
public import proofs.«01_k».proof.Proof.FfnFrame
public import proofs.«01_k».proof.Proof.FfnTwin
public import proofs.«01_k».proof.Proof.FfnAlg
public import proofs.«01_k».proof.Proof.FfnFinite
public import proofs.«01_k».proof.Proof.FirstFrame
public import proofs.«01_k».proof.Proof.FirstTwin
public import proofs.«01_k».proof.Proof.FirstAlg
public import Idealize.ShloMosaic.Lib.Quiescent
public import Idealize.ShloMosaic.Adequacy
public import Idealize.ShloMosaic.Init

@[expose] public section

noncomputable section

namespace Cert.Proof

open Idealize.ShloMosaic Idealize.SL.Sem Cert.Att

/-- The frames of the two kernel programs are the generated ones. -/
theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_finite : Cert.quiescent_KernelIdeal_pre_finite_scores := fun m ρ _ => Cert.KernelIdeal.Gen.frame m ρ

/-- The reference's frame: its run read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_finite : Cert.quiescent_ReferenceIdeal_pre_finite_scores := fun m ρ _ => frame_reference m ρ trivial

/-- The kernel's result is the reference's, for finite queries and keys. -/
theorem algebraic_attention : Cert.algebraic_KernelIdeal_ReferenceIdeal_pre_finite_scores := by
  intro m ρ m' ρ' hpre hagree
  refine ⟨fun c => attention (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks m ρ)
    exact ⟨(h c).1.trans (final m c), (h c).2⟩
  · refine (θ_run Cert.ReferenceIdeal.defs _ _).mono (fun r h c => ?_) (Cert.ReferenceIdeal.Value.run (F := Ideal) m' ρ')
    obtain ⟨hq, hk⟩ := finite_of_pre _ _ _ (hpre c)
    refine ⟨(h c).1.trans ?_, (h c).2⟩
    rw [Cert.ReferenceIdeal.Read.val_main_v44_eq, (hagree c).1, (hagree c).2.1, (hagree c).2.2]
    exact ref_attention _ _ _ hq hk

/-! ## The second feed-forward -/

/-- The bit-exact program has the idealized one's text: one run, at the other float values. -/
theorem frame_ffn_kernel : Cert.quiescent_Kernel2 := by
  intro m ρ _
  have h := Cert.Ffn.frame_ffn (F := Bits) m ρ
  rw [Cert.Ffn.defs_twin, Cert.Ffn.main_twin]
  exact h
theorem frame_ffn_kernelIdeal : Cert.quiescent_Kernel2Ideal := fun m ρ _ => Cert.Ffn.frame_ffn (F := Ideal) m ρ
theorem frame_ffn_kernelIdeal_finite : Cert.quiescent_Kernel2Ideal_pre_finite_ffn := fun m ρ _ => Cert.Ffn.frame_ffn (F := Ideal) m ρ

theorem frame_ffn_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_ffn_reference_finite : Cert.quiescent_Reference2Ideal_pre_finite_ffn := fun m ρ _ => frame_ffn_reference m ρ trivial

/-- The second feed-forward's result is the reference's, for finite tokens, modulation and first matrix. -/
theorem algebraic_ffn : Cert.algebraic_Kernel2Ideal_Reference2Ideal_pre_finite_ffn := by
  intro m ρ m' ρ' hpre hagree
  refine ⟨fun c => Cert.Ffn.result (Cert.Ffn.arrs m c), ?_, ?_⟩
  · refine (θ_run Cert.Kernel2Ideal.defs _ _).mono (fun r h c => ?_) (Cert.Ffn.run_main (F := Ideal) m ρ)
    exact ⟨Cert.Ffn.final m h.1 c, Cert.Ffn.args_kept m h.1 c⟩
  · refine (θ_run Cert.Reference2Ideal.defs _ _).mono (fun r h c => ?_) (Cert.Reference2Ideal.Value.run (F := Ideal) m' ρ')
    obtain ⟨h0, h1, h2⟩ := Cert.Ffn.finite_of_pre _ _ _ _ _ _ _ (hpre c)
    refine ⟨(h c).1.trans ?_, (h c).2⟩
    rw [Cert.Reference2Ideal.Read.val_main_v100_eq, (hagree c).1, (hagree c).2.1, (hagree c).2.2.1, (hagree c).2.2.2.1, (hagree c).2.2.2.2.1,
      (hagree c).2.2.2.2.2.1, (hagree c).2.2.2.2.2.2]
    exact (Cert.Ffn.ref_result _ _ _ _ _ _ _ h0 h1 h2).trans (congrArg Cert.Ffn.result (Cert.Ffn.arrs_eq m c).symm)

/-! ## The first feed-forward -/

/-- The bit-exact program has the idealized one's text: one run, at the other float values. -/
theorem frame_first_kernel : Cert.quiescent_Kernel3 := by
  intro m ρ _
  have h := Cert.First.frame_first (F := Bits) m ρ
  rw [Cert.First.defs_twin, Cert.First.main_twin]
  exact h
theorem frame_first_kernelIdeal : Cert.quiescent_Kernel3Ideal := fun m ρ _ => Cert.First.frame_first (F := Ideal) m ρ
theorem frame_first_kernelIdeal_finite : Cert.quiescent_Kernel3Ideal_pre_finite_ffn := fun m ρ _ => Cert.First.frame_first (F := Ideal) m ρ

theorem frame_first_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_first_reference_finite : Cert.quiescent_Reference3Ideal_pre_finite_ffn := fun m ρ _ => frame_first_reference m ρ trivial

/-- The first feed-forward's result is the reference's, for finite tokens, modulation and first matrix. -/
theorem algebraic_first : Cert.algebraic_Kernel3Ideal_Reference3Ideal_pre_finite_ffn := by
  intro m ρ m' ρ' hpre hagree
  refine ⟨fun c => Cert.First.result (Cert.First.arrs m c), ?_, ?_⟩
  · refine (θ_run Cert.Kernel3Ideal.defs _ _).mono (fun r h c => ?_) (Cert.First.run_main (F := Ideal) m ρ)
    exact ⟨Cert.First.final m h.1 c, Cert.First.args_kept m h.1 c⟩
  · refine (θ_run Cert.Reference3Ideal.defs _ _).mono (fun r h c => ?_) (Cert.Reference3Ideal.Value.run (F := Ideal) m' ρ')
    obtain ⟨h0, h1, h2⟩ := Cert.Ffn.finite_of_pre _ _ _ _ _ _ _ (hpre c)
    refine ⟨(h c).1.trans ?_, (h c).2⟩
    rw [Cert.Reference3Ideal.Read.val_main_v100_eq, (hagree c).1, (hagree c).2.1, (hagree c).2.2.1, (hagree c).2.2.2.1, (hagree c).2.2.2.2.1,
      (hagree c).2.2.2.2.2.1, (hagree c).2.2.2.2.2.2]
    exact (Cert.First.ref_result _ _ _ _ _ _ _ h0 h1 h2).trans (congrArg Cert.First.result (Cert.First.arrs_eq m c).symm)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Pre_finite_scores.Gen.facts, Cert.Pre_finite_ffn.Gen.facts, frame_kernel, frame_kernelIdeal, frame_kernelIdeal_finite, frame_reference,
  frame_reference_finite, frame_ffn_kernel, frame_ffn_kernelIdeal, frame_ffn_kernelIdeal_finite, frame_ffn_reference, frame_ffn_reference_finite,
  frame_first_kernel, frame_first_kernelIdeal, frame_first_kernelIdeal_finite, frame_first_reference, frame_first_reference_finite,
  trivial, algebraic_attention, trivial, algebraic_ffn, trivial, algebraic_first⟩

end Cert.Proof

end
